-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v56_0)) (v1 : (c : Dev Cert.Kernel4Ideal.nD) → Buf (Elt Ideal) ((c.tc : Thread Cert.Kernel4Ideal.nD Cert.Kernel4Ideal.τ).loc Cert.Kernel4Ideal.main_v56_1)) (v2 : (c : Dev Cert.Kernel4Ideal.nD) → Buf (Elt Ideal) ((c.tc : Thread Cert.Kernel4Ideal.nD Cert.Kernel4Ideal.τ).loc Cert.Kernel4Ideal.main_v56_2)) (v3 : (c : Dev Cert.Kernel4Ideal.nD) → Buf (Elt Ideal) ((c.tc : Thread Cert.Kernel4Ideal.nD Cert.Kernel4Ideal.τ).loc Cert.Kernel4Ideal.main_v56_3)) (v4 : (c : Dev Cert.Kernel4Ideal.nD) → Buf (Elt Ideal) ((c.tc : Thread Cert.Kernel4Ideal.nD Cert.Kernel4Ideal.τ).loc Cert.Kernel4Ideal.main_v56_4)) (v5 : (c : Dev Cert.Kernel4Ideal.nD) → Buf (Elt Ideal) ((c.tc : Thread Cert.Kernel4Ideal.nD Cert.Kernel4Ideal.τ).loc Cert.Kernel4Ideal.main_v56_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v56_0) = v0 c
          ∧ r.2.mem ((c.tc : Thread Cert.Kernel4Ideal.nD Cert.Kernel4Ideal.τ).loc Cert.Kernel4Ideal.main_v56_1) = v1 c
          ∧ r.2.mem ((c.tc : Thread Cert.Kernel4Ideal.nD Cert.Kernel4Ideal.τ).loc Cert.Kernel4Ideal.main_v56_2) = v2 c
          ∧ r.2.mem ((c.tc : Thread Cert.Kernel4Ideal.nD Cert.Kernel4Ideal.τ).loc Cert.Kernel4Ideal.main_v56_3) = v3 c
          ∧ r.2.mem ((c.tc : Thread Cert.Kernel4Ideal.nD Cert.Kernel4Ideal.τ).loc Cert.Kernel4Ideal.main_v56_4) = v4 c
          ∧ r.2.mem ((c.tc : Thread Cert.Kernel4Ideal.nD Cert.Kernel4Ideal.τ).loc Cert.Kernel4Ideal.main_v56_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_v124) = v1 c
          ∧ r.2.mem ((c.tc : Thread Cert.Reference4Ideal.nD Cert.Reference4Ideal.τ).loc Cert.Reference4Ideal.main_v130) = v2 c
          ∧ r.2.mem ((c.tc : Thread Cert.Reference4Ideal.nD Cert.Reference4Ideal.τ).loc Cert.Reference4Ideal.main_v136) = v3 c
          ∧ r.2.mem ((c.tc : Thread Cert.Reference4Ideal.nD Cert.Reference4Ideal.τ).loc Cert.Reference4Ideal.main_v118) = v4 c
          ∧ r.2.mem ((c.tc : Thread Cert.Reference4Ideal.nD Cert.Reference4Ideal.τ).loc Cert.Reference4Ideal.main_v34) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x2304 : Shape := ⟨3, ![8, 2048, 2304]⟩
abbrev S2x8x768x2048 : Shape := ⟨4, ![2, 8, 768, 2048]⟩
abbrev S8x2048x6 : Shape := ⟨3, ![8, 2048, 6]⟩
abbrev S8x2048x768 : Shape := ⟨3, ![8, 2048, 768]⟩
abbrev S_ : Shape := ⟨0, ![]⟩

class Facts : Prop where
  slices_S8x2048x2304_S8x2048x768_0_0_0 : S8x2048x2304.Slices ![0, 0, 0] S8x2048x768
  bitsLt_bf16_f32 : FTy.bits .bf16 < FTy.bits .f32
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8x2048x6 : S_.BroadcastsInDim S8x2048x6 (![] : Fin 0 → Fin S8x2048x6.rank)
  reducesTo_S8x2048x6_S_d0_1_2 : S8x2048x6.ReducesTo [0, 1, 2] S_

variable [Facts]

def fn {F : FTy → Type} [FloatOps F] (main_arg0 : FVec F S8x2048x2304 .bf16) (main_arg1 : FVec F S2x8x768x2048 .f32) (main_arg2 : FVec F S8x2048x6 .f32) : IVec S_ 1 :=
  let main_v0 : FVec F S8x2048x768 .bf16 := (extractStridedSlice S8x2048x768 ![0, 0, 0] · slices_S8x2048x2304_S8x2048x768_0_0_0) main_arg0
  let main_v1 : FVec F S8x2048x768 .f32 := (extf .f32 · bitsLt_bf16_f32) main_v0
  let main_v2 : FVec F S8x2048x768 .f32 := Host.absf main_v1
  let main_cst : FVec F S_ .f32 := constant S_ .f32 0x7F800000#32
  let main_v3 : FVec F S8x2048x768 .f32 := broadcastInDim S8x2048x768 ![] bcast_S_S8x2048x768 main_cst
  let main_v4 : IVec S8x2048x768 1 := cmpf .olt main_v2 main_v3
  let main_c : IVec S_ 1 := constantI S_ 1 1#1
  let main_v5 : IVec S_ 1 := (fun x v => Host.reduce IntOp.andi x v reducesTo_S8x2048x768_S_d0_1_2 h_S_) main_v4 main_c
  let main_v6 : FVec F S8x2048x6 .f32 := Host.absf main_arg2
  let main_cst_0 : FVec F S_ .f32 := constant S_ .f32 0x7F800000#32
  let main_v7 : FVec F S8x2048x6 .f32 := broadcastInDim S8x2048x6 ![] bcast_S_S8x2048x6 main_cst_0
  let main_v8 : IVec S8x2048x6 1 := cmpf .olt main_v6 main_v7
  let main_c_1 : IVec S_ 1 := constantI S_ 1 1#1
  let main_v9 : IVec S_ 1 := (fun x v => Host.reduce IntOp.andi x v reducesTo_S8x2048x6_S_d0_1_2 h_S_) main_v8 main_c_1
  let main_v10 : IVec S_ 1 := andi main_v5 main_v9
  main_v10
-- ==== Kernel.lean ====
abbrev S8x2048x2304 : Shape := ⟨3, ![8, 2048, 2304]⟩
abbrev S2x8x768x2048 : Shape := ⟨4, ![2, 8, 768, 2048]⟩
abbrev S8x2048x6 : Shape := ⟨3, ![8, 2048, 6]⟩
abbrev S8x2048x6x1 : Shape := ⟨4, ![8, 2048, 6, 1]⟩
abbrev S8x2048x6x3 : Shape := ⟨4, ![8, 2048, 6, 3]⟩
abbrev S8x2048x18 : Shape := ⟨3, ![8, 2048, 18]⟩
abbrev S_ : Shape := ⟨0, ![]⟩
abbrev S8x2048x1 : Shape := ⟨3, ![8, 2048, 1]⟩
abbrev S8x2048x109 : Shape := ⟨3, ![8, 2048, 109]⟩
abbrev S8x2048x128 : Shape := ⟨3, ![8, 2048, 128]⟩
abbrev S512x6x128 : Shape := ⟨3, ![512, 6, 128]⟩
abbrev S512x768 : Shape := ⟨2, ![512, 768]⟩
abbrev S8x2048x384 : Shape := ⟨3, ![8, 2048, 384]⟩
abbrev S1x256x384 : Shape := ⟨3, ![1, 256, 384]⟩
abbrev S1x2048x384 : Shape := ⟨3, ![1, 2048, 384]⟩
abbrev S1x1x384x2048 : Shape := ⟨4, ![1, 1, 384, 2048]⟩
abbrev S1x256x128 : Shape := ⟨3, ![1, 256, 128]⟩
abbrev S1x2048x128 : Shape := ⟨3, ![1, 2048, 128]⟩
abbrev S256x768 : Shape := ⟨2, ![256, 768]⟩
abbrev S2048x768 : Shape := ⟨2, ![2048, 768]⟩
abbrev S768x2048 : Shape := ⟨2, ![768, 2048]⟩
abbrev S6x1x256 : Shape := ⟨3, ![6, 1, 256]⟩
abbrev S6x128x256 : Shape := ⟨3, ![6, 128, 256]⟩
abbrev S256x256 : Shape := ⟨2, ![256, 256]⟩
abbrev S1x512x384 : Shape := ⟨3, ![1, 512, 384]⟩
abbrev S512x384 : Shape := ⟨2, ![512, 384]⟩
abbrev S1x512x128 : Shape := ⟨3, ![1, 512, 128]⟩
abbrev S512x128 : Shape := ⟨2, ![512, 128]⟩
abbrev S512x512 : Shape := ⟨2, ![512, 512]⟩
abbrev S1x1x64x2048 : Shape := ⟨4, ![1, 1, 64, 2048]⟩
abbrev S64x2048 : Shape := ⟨2, ![64, 2048]⟩
abbrev S256x384 : Shape := ⟨2, ![256, 384]⟩
abbrev S256x128 : Shape := ⟨2, ![256, 128]⟩
abbrev S256x512 : Shape := ⟨2, ![256, 512]⟩
abbrev S1x256 : Shape := ⟨2, ![1, 256]⟩
abbrev S1x1x256 : Shape := ⟨3, ![1, 1, 256]⟩
abbrev S128x256 : Shape := ⟨2, ![128, 256]⟩
abbrev S1x128x256 : Shape := ⟨3, ![1, 128, 256]⟩
abbrev S256 : Shape := ⟨1, ![256]⟩
abbrev S64x256 : Shape := ⟨2, ![64, 256]⟩

abbrev nBuf : Space → Nat
  | .hbm => 100
  | .vmem => 19
  | .smem => 0
  | _ => 0

abbrev bufTy : (tb : Table) → Fin (tcTables nBuf tb) → BufTy
  | .hbm, ⟨0, _⟩ => ⟨S8x2048x2304, .bf16⟩
  | .hbm, ⟨1, _⟩ => ⟨S2x8x768x2048, .f32⟩
  | .hbm, ⟨2, _⟩ => ⟨S8x2048x6, .f32⟩
  | .hbm, ⟨3, _⟩ => ⟨S8x2048x6, .bf16⟩
  | .hbm, ⟨4, _⟩ => ⟨S8x2048x6, .f32⟩
  | .hbm, ⟨5, _⟩ => ⟨S8x2048x6, .f32⟩
  | .hbm, ⟨6, _⟩ => ⟨S8x2048x6, .bf16⟩
  | .hbm, ⟨7, _⟩ => ⟨S8x2048x6, .f32⟩
  | .hbm, ⟨8, _⟩ => ⟨S8x2048x6, .f32⟩
  | .hbm, ⟨9, _⟩ => ⟨S8x2048x6, .f32⟩
  | .hbm, ⟨10, _⟩ => ⟨S8x2048x6x1, .f32⟩
  | .hbm, ⟨11, _⟩ => ⟨S8x2048x6x1, .f32⟩
  | .hbm, ⟨12, _⟩ => ⟨S8x2048x6x1, .f32⟩
  | .hbm, ⟨13, _⟩ => ⟨S8x2048x6x3, .f32⟩
  | .hbm, ⟨14, _⟩ => ⟨S8x2048x18, .f32⟩
  | .hbm, ⟨15, _⟩ => ⟨S_, .f32⟩
  | .hbm, ⟨16, _⟩ => ⟨S8x2048x1, .f32⟩
  | .hbm, ⟨17, _⟩ => ⟨S_, .f32⟩
  | .hbm, ⟨18, _⟩ => ⟨S8x2048x109, .f32⟩
  | .hbm, ⟨19, _⟩ => ⟨S8x2048x128, .f32⟩
  | .hbm, ⟨20, _⟩ => ⟨S8x2048x128, .bf16⟩
  | .hbm, ⟨21, _⟩ => ⟨S512x6x128, .i32⟩
  | .hbm, ⟨22, _⟩ => ⟨S512x6x128, .i32⟩
  | .hbm, ⟨23, _⟩ => ⟨S512x6x128, .i32⟩
  | .hbm, ⟨24, _⟩ => ⟨S_, .i32⟩
  | .hbm, ⟨25, _⟩ => ⟨S512x6x128, .i32⟩
  | .hbm, ⟨26, _⟩ => ⟨S512x6x128, .i1⟩
  | .hbm, ⟨27, _⟩ => ⟨S_, .i32⟩
  | .hbm, ⟨28, _⟩ => ⟨S512x6x128, .i32⟩
  | .hbm, ⟨29, _⟩ => ⟨S512x6x128, .i32⟩
  | .hbm, ⟨30, _⟩ => ⟨S512x6x128, .i32⟩
  | .hbm, ⟨31, _⟩ => ⟨S512x6x128, .i1⟩
  | .hbm, ⟨32, _⟩ => ⟨S512x6x128, .i1⟩
  | .hbm, ⟨33, _⟩ => ⟨S_, .i32⟩
  | .hbm, ⟨34, _⟩ => ⟨S512x6x128, .i32⟩
  | .hbm, ⟨35, _⟩ => ⟨S512x6x128, .i1⟩
  | .hbm, ⟨36, _⟩ => ⟨S_, .i32⟩
  | .hbm, ⟨37, _⟩ => ⟨S512x6x128, .i32⟩
  | .hbm, ⟨38, _⟩ => ⟨S512x6x128, .i1⟩
  | .hbm, ⟨39, _⟩ => ⟨S512x6x128, .i1⟩
  | .hbm, ⟨40, _⟩ => ⟨S_, .i32⟩
  | .hbm, ⟨41, _⟩ => ⟨S512x6x128, .i32⟩
  | .hbm, ⟨42, _⟩ => ⟨S512x6x128, .i1⟩
  | .hbm, ⟨43, _⟩ => ⟨S_, .i32⟩
  | .hbm, ⟨44, _⟩ => ⟨S512x6x128, .i32⟩
  | .hbm, ⟨45, _⟩ => ⟨S512x6x128, .i1⟩
  | .hbm, ⟨46, _⟩ => ⟨S512x6x128, .i1⟩
  | .hbm, ⟨47, _⟩ => ⟨S_, .i32⟩
  | .hbm, ⟨48, _⟩ => ⟨S512x6x128, .i32⟩
  | .hbm, ⟨49, _⟩ => ⟨S512x6x128, .i1⟩
  | .hbm, ⟨50, _⟩ => ⟨S_, .i32⟩
  | .hbm, ⟨51, _⟩ => ⟨S512x6x128, .i32⟩
  | .hbm, ⟨52, _⟩ => ⟨S512x6x128, .i32⟩
  | .hbm, ⟨53, _⟩ => ⟨S_, .i32⟩
  | .hbm, ⟨54, _⟩ => ⟨S512x6x128, .i32⟩
  | .hbm, ⟨55, _⟩ => ⟨S512x6x128, .i32⟩
  | .hbm, ⟨56, _⟩ => ⟨S_, .i32⟩
  | .hbm, ⟨57, _⟩ => ⟨S512x6x128, .i32⟩
  | .hbm, ⟨58, _⟩ => ⟨S512x6x128, .i32⟩
  | .hbm, ⟨59, _⟩ => ⟨S512x6x128, .i32⟩
  | .hbm, ⟨60, _⟩ => ⟨S512x6x128, .i1⟩
  | .hbm, ⟨61, _⟩ => ⟨S512x6x128, .i1⟩
  | .hbm, ⟨62, _⟩ => ⟨S512x6x128, .i1⟩
  | .hbm, ⟨63, _⟩ => ⟨S512x6x128, .i1⟩
  | .hbm, ⟨64, _⟩ => ⟨S_, .f32⟩
  | .hbm, ⟨65, _⟩ => ⟨S_, .f32⟩
  | .hbm, ⟨66, _⟩ => ⟨S512x6x128, .f32⟩
  | .hbm, ⟨67, _⟩ => ⟨S512x6x128, .f32⟩
  | .hbm, ⟨68, _⟩ => ⟨S512x6x128, .f32⟩
  | .hbm, ⟨69, _⟩ => ⟨S_, .f32⟩
  | .hbm, ⟨70, _⟩ => ⟨S512x6x128, .f32⟩
  | .hbm, ⟨71, _⟩ => ⟨S512x6x128, .f32⟩
  | .hbm, ⟨72, _⟩ => ⟨S512x6x128, .i1⟩
  | .hbm, ⟨73, _⟩ => ⟨S512x6x128, .i1⟩
  | .hbm, ⟨74, _⟩ => ⟨S_, .i32⟩
  | .hbm, ⟨75, _⟩ => ⟨S512x6x128, .i32⟩
  | .hbm, ⟨76, _⟩ => ⟨S512x6x128, .i32⟩
  | .hbm, ⟨77, _⟩ => ⟨S_, .i32⟩
  | .hbm, ⟨78, _⟩ => ⟨S512x6x128, .i32⟩
  | .hbm, ⟨79, _⟩ => ⟨S512x6x128, .i32⟩
  | .hbm, ⟨80, _⟩ => ⟨S_, .i32⟩
  | .hbm, ⟨81, _⟩ => ⟨S512x6x128, .i32⟩
  | .hbm, ⟨82, _⟩ => ⟨S512x6x128, .i32⟩
  | .hbm, ⟨83, _⟩ => ⟨S_, .i32⟩
  | .hbm, ⟨84, _⟩ => ⟨S512x6x128, .i32⟩
  | .hbm, ⟨85, _⟩ => ⟨S512x6x128, .i32⟩
  | .hbm, ⟨86, _⟩ => ⟨S512x6x128, .i32⟩
  | .hbm, ⟨87, _⟩ => ⟨S512x6x128, .i1⟩
  | .hbm, ⟨88, _⟩ => ⟨S512x6x128, .i1⟩
  | .hbm, ⟨89, _⟩ => ⟨S512x6x128, .i1⟩
  | .hbm, ⟨90, _⟩ => ⟨S_, .f32⟩
  | .hbm, ⟨91, _⟩ => ⟨S_, .f32⟩
  | .hbm, ⟨92, _⟩ => ⟨S512x6x128, .f32⟩
  | .hbm, ⟨93, _⟩ => ⟨S512x6x128, .f32⟩
  | .hbm, ⟨94, _⟩ => ⟨S512x6x128, .f32⟩
  | .hbm, ⟨95, _⟩ => ⟨S512x768, .f32⟩
  | .hbm, ⟨96, _⟩ => ⟨S512x768, .bf16⟩
  | .hbm, ⟨97, _⟩ => ⟨S512x768, .f32⟩
  | .hbm, ⟨98, _⟩ => ⟨S512x768, .bf16⟩
  | .hbm, ⟨99, _⟩ => ⟨S8x2048x384, .bf16⟩
  | .local _ .vmem, ⟨0, _⟩ => ⟨S1x256x384, .bf16⟩
  | .local _ .vmem, ⟨1, _⟩ => ⟨S1x256x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S1x1x384x2048, .f32⟩
  | .local _ .vmem, ⟨5, _⟩ => ⟨S1x1x384x2048, .f32⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S512x768, .bf16⟩
  | .local _ .vmem, ⟨11, _⟩ => ⟨S512x768, .bf16⟩
  | .local _ .vmem, ⟨12, _⟩ => ⟨S1x256x384, .bf16⟩
  | .local _ .vmem, ⟨13, _⟩ => ⟨S1x256x384, .bf16⟩
  | .local _ .vmem, ⟨14, _⟩ => ⟨S256x768, .bf16⟩
  | .local _ .vmem, ⟨15, _⟩ => ⟨S2048x768, .bf16⟩
  | .local _ .vmem, ⟨16, _⟩ => ⟨S768x2048, .bf16⟩
  | .local _ .vmem, ⟨17, _⟩ => ⟨S6x1x256, .f32⟩
  | .local _ .vmem, ⟨18, _⟩ => ⟨S6x128x256, .f32⟩
  | _, _ => ⟨S8x2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_c_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_cst_11 : Ref sig .tc := ⟨.hbm, 65, rfl⟩
abbrev main_call0_v0 : Ref sig .tc := ⟨.hbm, 66, rfl⟩
abbrev main_call0_v1 : Ref sig .tc := ⟨.hbm, 67, rfl⟩
abbrev main_v49 : Ref sig .tc := ⟨.hbm, 68, rfl⟩
abbrev main_cst_12 : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_13 : Ref sig .tc := ⟨.hbm, 74, rfl⟩
abbrev main_v53 : Ref sig .tc := ⟨.hbm, 75, rfl⟩
abbrev main_v54 : Ref sig .tc := ⟨.hbm, 76, rfl⟩
abbrev main_c_14 : Ref sig .tc := ⟨.hbm, 77, rfl⟩
abbrev main_v55 : Ref sig .tc := ⟨.hbm, 78, rfl⟩
abbrev main_v56 : Ref sig .tc := ⟨.hbm, 79, rfl⟩
abbrev main_c_15 : Ref sig .tc := ⟨.hbm, 80, rfl⟩
abbrev main_v57 : Ref sig .tc := ⟨.hbm, 81, rfl⟩
abbrev main_v58 : Ref sig .tc := ⟨.hbm, 82, rfl⟩
abbrev main_c_16 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_cst_18 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v66 : BitVec 32 := Scalar.muli arg1 c256_i32
  v66
@[reducible] def k0_t1_loop (i : grid0.Coords) : Scf.Loop 32 :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_55 : BitVec 32 := 1#32
  ⟨c0_i32_54, v72, c1_i32_55⟩
def k0_mult2 (i : grid0.Coords) (k0_t1 : Fin (k0_t1_loop i).trips) : BitVec 32 :=
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  v313
def k0_off1 (i : grid0.Coords) (k0_t1 : Fin (k0_t1_loop i).trips) : Fin 2 → Nat :=
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v315 : Index := Scalar.indexCast v314
  let c0_200 : Index := 0#32
  ![v315.toNat, 0]
def k0_off2 (i : grid0.Coords) (k0_t1 : Fin (k0_t1_loop i).trips) : Fin 2 → Nat :=
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v319 : Index := Scalar.indexCast v314
  let c128_204 : Index := 128#32
  ![v319.toNat, 128]
def k0_off3 (i : grid0.Coords) (k0_t1 : Fin (k0_t1_loop i).trips) : Fin 2 → Nat :=
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v323 : Index := Scalar.indexCast v314
  let c256_208 : Index := 256#32
  ![v323.toNat, 256]
def k0_off4 (i : grid0.Coords) (k0_t1 : Fin (k0_t1_loop i).trips) : Fin 2 → Nat :=
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v327 : Index := Scalar.indexCast v314
  let c384_212 : Index := 384#32
  ![v327.toNat, 384]
def k0_off5 (i : grid0.Coords) (k0_t1 : Fin (k0_t1_loop i).trips) : Fin 2 → Nat :=
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v331 : Index := Scalar.indexCast v314
  let c512_216 : Index := 512#32
  ![v331.toNat, 512]
def k0_off6 (i : grid0.Coords) (k0_t1 : Fin (k0_t1_loop i).trips) : Fin 2 → Nat :=
  let c0_220 : Index := 0#32
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v335 : Index := Scalar.indexCast v314
  ![0, v335.toNat]
def k0_off7 (i : grid0.Coords) (k0_t1 : Fin (k0_t1_loop i).trips) : Fin 2 → Nat :=
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v360 : Index := Scalar.indexCast v314
  let c640_235 : Index := 640#32
  ![v360.toNat, 640]
def k0_off8 (i : grid0.Coords) (k0_t1 : Fin (k0_t1_loop i).trips) : Fin 2 → Nat :=
  let c128_239 : Index := 128#32
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v364 : Index := Scalar.indexCast v314
  ![128, v364.toNat]
def k0_off9 (i : grid0.Coords) (k0_t1 : Fin (k0_t1_loop i).trips) : Fin 2 → Nat :=
  let c256_254 : Index := 256#32
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v389 : Index := Scalar.indexCast v314
  ![256, v389.toNat]
def k0_off10 (i : grid0.Coords) (k0_t1 : Fin (k0_t1_loop i).trips) : Fin 2 → Nat :=
  let c384_269 : Index := 384#32
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v414 : Index := Scalar.indexCast v314
  ![384, v414.toNat]
def k0_off11 (i : grid0.Coords) (k0_t1 : Fin (k0_t1_loop i).trips) : Fin 2 → Nat :=
  let c512_284 : Index := 512#32
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v439 : Index := Scalar.indexCast v314
  ![512, v439.toNat]
def k0_off12 (i : grid0.Coords) (k0_t1 : Fin (k0_t1_loop i).trips) : Fin 2 → Nat :=
  let c640_299 : Index := 640#32
  let c0_i32_54 : BitVec 32 := 0#32
  let c1_i32_55 : BitVec 32 := 1#32
  let arg15 : BitVec 32 := Scf.iv c0_i32_54 c1_i32_55 k0_t1
  let c256_i32_199 : BitVec 32 := 256#32
  let v313 : BitVec 32 := Scalar.muli arg15 c256_i32_199
  let v314 : BitVec 32 := v313
  let v464 : Index := Scalar.indexCast v314
  ![640, v464.toNat]
@[reducible] def k0_t2_loop (i : grid0.Coords) : Scf.Loop 32 :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let v69 : BitVec 32 := Scalar.addi c0_i32_54 v68
  let c1_i32_56 : BitVec 32 := 1#32
  ⟨v72, v69, c1_i32_56⟩
def k0_mult3 (i : grid0.Coords) (k0_t2 : Fin (k0_t2_loop i).trips) : BitVec 32 :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  v313
def k0_off13 (i : grid0.Coords) (k0_t2 : Fin (k0_t2_loop i).trips) : Fin 2 → Nat :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v315 : Index := Scalar.indexCast v314
  let c0_200 : Index := 0#32
  ![v315.toNat, 0]
def k0_off14 (i : grid0.Coords) (k0_t2 : Fin (k0_t2_loop i).trips) : Fin 2 → Nat :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v319 : Index := Scalar.indexCast v314
  let c128_204 : Index := 128#32
  ![v319.toNat, 128]
def k0_off15 (i : grid0.Coords) (k0_t2 : Fin (k0_t2_loop i).trips) : Fin 2 → Nat :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v323 : Index := Scalar.indexCast v314
  let c256_208 : Index := 256#32
  ![v323.toNat, 256]
def k0_off16 (i : grid0.Coords) (k0_t2 : Fin (k0_t2_loop i).trips) : Fin 2 → Nat :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v327 : Index := Scalar.indexCast v314
  let c384_212 : Index := 384#32
  ![v327.toNat, 384]
def k0_off17 (i : grid0.Coords) (k0_t2 : Fin (k0_t2_loop i).trips) : Fin 2 → Nat :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v331 : Index := Scalar.indexCast v314
  let c512_216 : Index := 512#32
  ![v331.toNat, 512]
def k0_off18 (i : grid0.Coords) (k0_t2 : Fin (k0_t2_loop i).trips) : Fin 2 → Nat :=
  let c0_220 : Index := 0#32
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v335 : Index := Scalar.indexCast v314
  ![0, v335.toNat]
def k0_off19 (i : grid0.Coords) (k0_t2 : Fin (k0_t2_loop i).trips) : Fin 2 → Nat :=
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v360 : Index := Scalar.indexCast v314
  let c640_235 : Index := 640#32
  ![v360.toNat, 640]
def k0_off20 (i : grid0.Coords) (k0_t2 : Fin (k0_t2_loop i).trips) : Fin 2 → Nat :=
  let c128_239 : Index := 128#32
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v364 : Index := Scalar.indexCast v314
  ![128, v364.toNat]
def k0_off21 (i : grid0.Coords) (k0_t2 : Fin (k0_t2_loop i).trips) : Fin 2 → Nat :=
  let c256_254 : Index := 256#32
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v389 : Index := Scalar.indexCast v314
  ![256, v389.toNat]
def k0_off22 (i : grid0.Coords) (k0_t2 : Fin (k0_t2_loop i).trips) : Fin 2 → Nat :=
  let c384_269 : Index := 384#32
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v414 : Index := Scalar.indexCast v314
  ![384, v414.toNat]
def k0_off23 (i : grid0.Coords) (k0_t2 : Fin (k0_t2_loop i).trips) : Fin 2 → Nat :=
  let c512_284 : Index := 512#32
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v439 : Index := Scalar.indexCast v314
  ![512, v439.toNat]
def k0_off24 (i : grid0.Coords) (k0_t2 : Fin (k0_t2_loop i).trips) : Fin 2 → Nat :=
  let c640_299 : Index := 640#32
  let c0_i32_54 : BitVec 32 := 0#32
  let arg1 : BitVec 32 := BitVec.ofNat 32 (i 1).val
  let v68 : BitVec 32 := Scalar.subi arg1 c0_i32_54
  let c1_i32 : BitVec 32 := 1#32
  let v70 : BitVec 32 := Scalar.divsi v68 c1_i32
  let v71 : BitVec 32 := Scalar.muli v70 c1_i32
  let v72 : BitVec 32 := Scalar.addi c0_i32_54 v71
  let c1_i32_56 : BitVec 32 := 1#32
  let arg15 : BitVec 32 := Scf.iv v72 c1_i32_56 k0_t2
  let c256_i32_199 : BitVec 32 := 256#32
  let v313 : BitVec 32 := Scalar.muli arg15 c256_i32_199
  let v314 : BitVec 32 := v313
  let v464 : Index := Scalar.indexCast v314
  ![640, v464.toNat]
def k0_off25 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v73 : Index := Scalar.indexCast v67
  let c0_57 : Index := 0#32
  ![v73.toNat, 0]
def k0_off26 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v79 : Index := Scalar.indexCast v67
  let c128 : Index := 128#32
  ![v79.toNat, 128]
def k0_off27 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v85 : Index := Scalar.indexCast v67
  let c256 : Index := 256#32
  ![v85.toNat, 256]
def k0_off28 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v91 : Index := Scalar.indexCast v67
  let c384 : Index := 384#32
  ![v91.toNat, 384]
def k0_off29 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v97 : Index := Scalar.indexCast v67
  let c512 : Index := 512#32
  ![v97.toNat, 512]
def k0_off30 (i : grid0.Coords) : Fin 2 → Nat :=
  let c0_78 : Index := 0#32
  let arg1 : BitVec 32 := BitVec.ofNat 32 (i 1).val
  let c256_i32 : BitVec 32 := 256#32
  let v66 : BitVec 32 := Scalar.muli arg1 c256_i32
  let v67 : BitVec 32 := v66
  let v103 : Index := Scalar.indexCast v67
  ![0, v103.toNat]
def k0_off31 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v128 : Index := Scalar.indexCast v67
  let c640 : Index := 640#32
  ![v128.toNat, 640]
def k0_off32 (i : grid0.Coords) : Fin 2 → Nat :=
  let c128_97 : Index := 128#32
  let arg1 : BitVec 32 := BitVec.ofNat 32 (i 1).val
  let c256_i32 : BitVec 32 := 256#32
  let v66 : BitVec 32 := Scalar.muli arg1 c256_i32
  let v67 : BitVec 32 := v66
  let v134 : Index := Scalar.indexCast v67
  ![128, v134.toNat]
def k0_off33 (i : grid0.Coords) : Fin 2 → Nat :=
  let c256_112 : Index := 256#32
  let arg1 : BitVec 32 := BitVec.ofNat 32 (i 1).val
  let c256_i32 : BitVec 32 := 256#32
  let v66 : BitVec 32 := Scalar.muli arg1 c256_i32
  let v67 : BitVec 32 := v66
  let v159 : Index := Scalar.indexCast v67
  ![256, v159.toNat]
def k0_off34 (i : grid0.Coords) : Fin 2 → Nat :=
  let c384_127 : Index := 384#32
  let arg1 : BitVec 32 := BitVec.ofNat 32 (i 1).val
  let c256_i32 : BitVec 32 := 256#32
  let v66 : BitVec 32 := Scalar.muli arg1 c256_i32
  let v67 : BitVec 32 := v66
  let v184 : Index := Scalar.indexCast v67
  ![384, v184.toNat]
def k0_off35 (i : grid0.Coords) : Fin 2 → Nat :=
  let c512_142 : Index := 512#32
  let arg1 : BitVec 32 := BitVec.ofNat 32 (i 1).val
  let c256_i32 : BitVec 32 := 256#32
  let v66 : BitVec 32 := Scalar.muli arg1 c256_i32
  let v67 : BitVec 32 := v66
  let v209 : Index := Scalar.indexCast v67
  ![512, v209.toNat]
def k0_off36 (i : grid0.Coords) : Fin 2 → Nat :=
  let c640_157 : Index := 640#32
  let arg1 : BitVec 32 := BitVec.ofNat 32 (i 1).val
  let c256_i32 : BitVec 32 := 256#32
  let v66 : BitVec 32 := Scalar.muli arg1 c256_i32
  let v67 : BitVec 32 := v66
  let v234 : Index := Scalar.indexCast v67
  ![640, v234.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x2304 : Shape := ⟨3, ![8, 2048, 2304]⟩
abbrev S2x8x768x2048 : Shape := ⟨4, ![2, 8, 768, 2048]⟩
abbrev S8x2048x6 : Shape := ⟨3, ![8, 2048, 6]⟩
abbrev S8x2048x384 : Shape := ⟨3, ![8, 2048, 384]⟩
abbrev S8x2048x6x64 : Shape := ⟨4, ![8, 2048, 6, 64]⟩
abbrev S1x8x384x2048 : Shape := ⟨4, ![1, 8, 384, 2048]⟩
abbrev S8x384x2048 : Shape := ⟨3, ![8, 384, 2048]⟩
abbrev S8x6x64x2048 : Shape := ⟨4, ![8, 6, 64, 2048]⟩
abbrev S8x6x2048 : Shape := ⟨3, ![8, 6, 2048]⟩
abbrev S8x6x2048x2048 : Shape := ⟨4, ![8, 6, 2048, 2048]⟩
abbrev S8x6x2048x1 : Shape := ⟨4, ![8, 6, 2048, 1]⟩
abbrev S8x6x1x2048 : Shape := ⟨4, ![8, 6, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2304, .bf16⟩
  | .hbm, ⟨1, _⟩ => ⟨S2x8x768x2048, .f32⟩
  | .hbm, ⟨2, _⟩ => ⟨S8x2048x6, .f32⟩
  | .hbm, ⟨3, _⟩ => ⟨S8x2048x384, .bf16⟩
  | .hbm, ⟨4, _⟩ => ⟨S8x2048x384, .f32⟩
  | .hbm, ⟨5, _⟩ => ⟨S8x2048x6x64, .f32⟩
  | .hbm, ⟨6, _⟩ => ⟨S8x2048x384, .bf16⟩
  | .hbm, ⟨7, _⟩ => ⟨S8x2048x384, .f32⟩
  | .hbm, ⟨8, _⟩ => ⟨S8x2048x6x64, .f32⟩
  | .hbm, ⟨9, _⟩ => ⟨S1x8x384x2048, .f32⟩
  | .hbm, ⟨10, _⟩ => ⟨S8x384x2048, .f32⟩
  | .hbm, ⟨11, _⟩ => ⟨S8x6x64x2048, .f32⟩
  | .hbm, ⟨12, _⟩ => ⟨S8x6x2048, .f32⟩
  | .hbm, ⟨13, _⟩ => ⟨S8x6x2048x2048, .f32⟩
  | .hbm, ⟨14, _⟩ => ⟨S8x6x2048x1, .f32⟩
  | .hbm, ⟨15, _⟩ => ⟨S8x6x2048x2048, .f32⟩
  | .hbm, ⟨16, _⟩ => ⟨S8x6x2048x2048, .f32⟩
  | .hbm, ⟨17, _⟩ => ⟨S8x6x1x2048, .f32⟩
  | .hbm, ⟨18, _⟩ => ⟨S8x6x2048x2048, .f32⟩
  | .hbm, ⟨19, _⟩ => ⟨S8x6x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x6x2048x2048, .i1⟩
  | .hbm, ⟨29, _⟩ => ⟨S8x6x2048x2048, .f32⟩
  | .hbm, ⟨30, _⟩ => ⟨S8x6x2048x2048, .f32⟩
  | .hbm, ⟨31, _⟩ => ⟨S_, .f32⟩
  | .hbm, ⟨32, _⟩ => ⟨S8x6x2048, .f32⟩
  | .hbm, ⟨33, _⟩ => ⟨S_, .f32⟩
  | .hbm, ⟨34, _⟩ => ⟨S8x6x2048, .f32⟩
  | .hbm, ⟨35, _⟩ => ⟨S8x6x2048, .f32⟩
  | .hbm, ⟨36, _⟩ => ⟨S8x6x2048x1, .f32⟩
  | .hbm, ⟨37, _⟩ => ⟨S8x6x2048x2048, .f32⟩
  | .hbm, ⟨38, _⟩ => ⟨S8x6x2048x2048, .f32⟩
  | .hbm, ⟨39, _⟩ => ⟨S8x6x2048x2048, .f32⟩
  | .hbm, ⟨40, _⟩ => ⟨S_, .f32⟩
  | .hbm, ⟨41, _⟩ => ⟨S8x6x2048, .f32⟩
  | .hbm, ⟨42, _⟩ => ⟨S8x6x2048x1, .f32⟩
  | .hbm, ⟨43, _⟩ => ⟨S8x6x2048x2048, .f32⟩
  | .hbm, ⟨44, _⟩ => ⟨S8x6x2048x2048, .f32⟩
  | .hbm, ⟨45, _⟩ => ⟨S8x6x64x2048, .f32⟩
  | .hbm, ⟨46, _⟩ => ⟨S8x2048x6x64, .f32⟩
  | .hbm, ⟨47, _⟩ => ⟨S8x2048x384, .f32⟩
  | .hbm, ⟨48, _⟩ => ⟨S8x2048x384, .bf16⟩
  | _, _ => ⟨S8x2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel2.lean ====
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 18
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024x5632, .f32⟩
  | .hbm, ⟨9, _⟩ => ⟨S1024x5632, .f32⟩
  | .hbm, ⟨10, _⟩ => ⟨S1024x5632, .bf16⟩
  | .hbm, ⟨11, _⟩ => ⟨S1x2816x1024, .f32⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x5632, .f32⟩
  | .hbm, ⟨24, _⟩ => ⟨S1024x5632, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S1x2816x1024, .f32⟩
  | .hbm, ⟨39, _⟩ => ⟨S2816x1024, .f32⟩
  | .hbm, ⟨40, _⟩ => ⟨S16384x1024, .f32⟩
  | .hbm, ⟨41, _⟩ => ⟨S1x1024, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel3.lean ====
abbrev S16384x1024 : Shape := ⟨2, ![16384, 1024]⟩
abbrev S16384x384 : Shape := ⟨2, ![16384, 384]⟩
abbrev S16384x512 : Shape := ⟨2, ![16384, 512]⟩
abbrev S2x1024 : Shape := ⟨2, ![2, 1024]⟩
abbrev S2x1024x6534 : Shape := ⟨3, ![2, 1024, 6534]⟩
abbrev S2x3x384x1024 : Shape := ⟨4, ![2, 3, 384, 1024]⟩
abbrev S2x1024x1024 : Shape := ⟨3, ![2, 1024, 1024]⟩
abbrev S1x1024x6534 : Shape := ⟨3, ![1, 1024, 6534]⟩
abbrev S1024x6534 : Shape := ⟨2, ![1024, 6534]⟩
abbrev S1x1x384x1024 : Shape := ⟨4, ![1, 1, 384, 1024]⟩
abbrev S384x1024 : Shape := ⟨2, ![384, 1024]⟩
abbrev S4x96x1024 : Shape := ⟨3, ![4, 96, 1024]⟩
abbrev S_ : Shape := ⟨0, ![]⟩
abbrev S4x128x1024 : Shape := ⟨3, ![4, 128, 1024]⟩
abbrev S1x1024 : Shape := ⟨2, ![1, 1024]⟩
abbrev S1024 : Shape := ⟨1, ![1024]⟩
abbrev S1024x3072 : Shape := ⟨2, ![1024, 3072]⟩
abbrev S512x1024 : Shape := ⟨2, ![512, 1024]⟩
abbrev S1x1024x1024 : Shape := ⟨3, ![1, 1024, 1024]⟩
abbrev S1024x1024 : Shape := ⟨2, ![1024, 1024]⟩
abbrev S512x384 : Shape := ⟨2, ![512, 384]⟩
abbrev S512x512 : Shape := ⟨2, ![512, 512]⟩
abbrev S512 : Shape := ⟨1, ![512]⟩
abbrev S512x1 : Shape := ⟨2, ![512, 1]⟩

abbrev nBuf : Space → Nat
  | .hbm => 37
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x512, .bf16⟩
  | .hbm, ⟨4, _⟩ => ⟨S2x1024, .f32⟩
  | .hbm, ⟨5, _⟩ => ⟨S2x1024, .f32⟩
  | .hbm, ⟨6, _⟩ => ⟨S2x1024x6534, .f32⟩
  | .hbm, ⟨7, _⟩ => ⟨S2x3x384x1024, .f32⟩
  | .hbm, ⟨8, _⟩ => ⟨S2x1024x1024, .f32⟩
  | .hbm, ⟨9, _⟩ => ⟨S1x1024x6534, .f32⟩
  | .hbm, ⟨10, _⟩ => ⟨S1024x6534, .f32⟩
  | .hbm, ⟨11, _⟩ => ⟨S1x1x384x1024, .f32⟩
  | .hbm, ⟨12, _⟩ => ⟨S384x1024, .f32⟩
  | .hbm, ⟨13, _⟩ => ⟨S4x96x1024, .f32⟩
  | .hbm, ⟨14, _⟩ => ⟨S_, .i32⟩
  | .hbm, ⟨15, _⟩ => ⟨S_, .f32⟩
  | .hbm, ⟨16, _⟩ => ⟨S4x128x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x3072, .f32⟩
  | .hbm, ⟨21, _⟩ => ⟨S1024x3072, .bf16⟩
  | .hbm, ⟨22, _⟩ => ⟨S1x1x384x1024, .f32⟩
  | .hbm, ⟨23, _⟩ => ⟨S384x1024, .f32⟩
  | .hbm, ⟨24, _⟩ => ⟨S384x1024, .bf16⟩
  | .hbm, ⟨25, _⟩ => ⟨S1x1x384x1024, .f32⟩
  | .hbm, ⟨26, _⟩ => ⟨S384x1024, .f32⟩
  | .hbm, ⟨27, _⟩ => ⟨S384x1024, .bf16⟩
  | .hbm, ⟨28, _⟩ => ⟨S512x1024, .f32⟩
  | .hbm, ⟨29, _⟩ => ⟨S512x1024, .bf16⟩
  | .hbm, ⟨30, _⟩ => ⟨S1x1024x1024, .f32⟩
  | .hbm, ⟨31, _⟩ => ⟨S1024x1024, .f32⟩
  | .hbm, ⟨32, _⟩ => ⟨S1024x1024, .bf16⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S384x1024, .bf16⟩
  | .local _ .vmem, ⟨11, _⟩ => ⟨S384x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S16384x384 : Shape := ⟨2, ![16384, 384]⟩
abbrev S16384x512 : Shape := ⟨2, ![16384, 512]⟩
abbrev S2x1024 : Shape := ⟨2, ![2, 1024]⟩
abbrev S2x1024x6534 : Shape := ⟨3, ![2, 1024, 6534]⟩
abbrev S2x3x384x1024 : Shape := ⟨4, ![2, 3, 384, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x6534 : Shape := ⟨3, ![1, 1024, 6534]⟩
abbrev S1024x6534 : Shape := ⟨2, ![1024, 6534]⟩
abbrev S16384x6534 : Shape := ⟨2, ![16384, 6534]⟩
abbrev S16384x3072 : Shape := ⟨2, ![16384, 3072]⟩
abbrev S16384x4x128 : Shape := ⟨3, ![16384, 4, 128]⟩
abbrev S16384x4x96 : Shape := ⟨3, ![16384, 4, 96]⟩
abbrev S16384x1x384 : Shape := ⟨3, ![16384, 1, 384]⟩
abbrev S16384x3x384 : Shape := ⟨3, ![16384, 3, 384]⟩
abbrev S1x3x384x1024 : Shape := ⟨4, ![1, 3, 384, 1024]⟩
abbrev S3x384x1024 : Shape := ⟨3, ![3, 384, 1024]⟩
abbrev S3x1024x16384 : Shape := ⟨3, ![3, 1024, 16384]⟩
abbrev S16384x3x1024 : Shape := ⟨3, ![16384, 3, 1024]⟩
abbrev S1x1024x1024 : Shape := ⟨3, ![1, 1024, 1024]⟩
abbrev S1024x1024 : Shape := ⟨2, ![1024, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x512, .bf16⟩
  | .hbm, ⟨4, _⟩ => ⟨S2x1024, .f32⟩
  | .hbm, ⟨5, _⟩ => ⟨S2x1024, .f32⟩
  | .hbm, ⟨6, _⟩ => ⟨S2x1024x6534, .f32⟩
  | .hbm, ⟨7, _⟩ => ⟨S2x3x384x1024, .f32⟩
  | .hbm, ⟨8, _⟩ => ⟨S2x1024x1024, .f32⟩
  | .hbm, ⟨9, _⟩ => ⟨S1x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1x1024x6534, .f32⟩
  | .hbm, ⟨28, _⟩ => ⟨S1024x6534, .f32⟩
  | .hbm, ⟨29, _⟩ => ⟨S16384x6534, .f32⟩
  | .hbm, ⟨30, _⟩ => ⟨S16384x3072, .f32⟩
  | .hbm, ⟨31, _⟩ => ⟨S16384x512, .f32⟩
  | .hbm, ⟨32, _⟩ => ⟨S16384x4x128, .f32⟩
  | .hbm, ⟨33, _⟩ => ⟨S16384x4x96, .f32⟩
  | .hbm, ⟨34, _⟩ => ⟨S16384x384, .f32⟩
  | .hbm, ⟨35, _⟩ => ⟨S16384x384, .f32⟩
  | .hbm, ⟨36, _⟩ => ⟨S16384x384, .f32⟩
  | .hbm, ⟨37, _⟩ => ⟨S16384x1x384, .f32⟩
  | .hbm, ⟨38, _⟩ => ⟨S16384x1x384, .f32⟩
  | .hbm, ⟨39, _⟩ => ⟨S16384x1x384, .f32⟩
  | .hbm, ⟨40, _⟩ => ⟨S16384x3x384, .f32⟩
  | .hbm, ⟨41, _⟩ => ⟨S1x3x384x1024, .f32⟩
  | .hbm, ⟨42, _⟩ => ⟨S3x384x1024, .f32⟩
  | .hbm, ⟨43, _⟩ => ⟨S3x1024x16384, .f32⟩
  | .hbm, ⟨44, _⟩ => ⟨S16384x3x1024, .f32⟩
  | .hbm, ⟨45, _⟩ => ⟨S16384x3x1024, .f32⟩
  | .hbm, ⟨46, _⟩ => ⟨S16384x3x1024, .f32⟩
  | .hbm, ⟨47, _⟩ => ⟨S16384x3x1024, .f32⟩
  | .hbm, ⟨48, _⟩ => ⟨S_, .f32⟩
  | .hbm, ⟨49, _⟩ => ⟨S16384x3x1024, .f32⟩
  | .hbm, ⟨50, _⟩ => ⟨S16384x3x1024, .f32⟩
  | .hbm, ⟨51, _⟩ => ⟨S_, .f32⟩
  | .hbm, ⟨52, _⟩ => ⟨S16384x3x1024, .f32⟩
  | .hbm, ⟨53, _⟩ => ⟨S16384x3x1024, .f32⟩
  | .hbm, ⟨54, _⟩ => ⟨S16384x3x1024, .f32⟩
  | .hbm, ⟨55, _⟩ => ⟨S_, .f32⟩
  | .hbm, ⟨56, _⟩ => ⟨S16384x1024, .f32⟩
  | .hbm, ⟨57, _⟩ => ⟨S1x1024x1024, .f32⟩
  | .hbm, ⟨58, _⟩ => ⟨S1024x1024, .f32⟩
  | .hbm, ⟨59, _⟩ => ⟨S16384x1024, .f32⟩
  | .hbm, ⟨60, _⟩ => ⟨S1x1024, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel4.lean ====
abbrev S16384x1024 : Shape := ⟨2, ![16384, 1024]⟩
abbrev S2x8x768x2048 : Shape := ⟨4, ![2, 8, 768, 2048]⟩
abbrev S2x1024 : Shape := ⟨2, ![2, 1024]⟩
abbrev S2x1024x6534 : Shape := ⟨3, ![2, 1024, 6534]⟩
abbrev S2x6 : Shape := ⟨2, ![2, 6]⟩
abbrev S1x1024x6534 : Shape := ⟨3, ![1, 1024, 6534]⟩
abbrev S1024x6534 : Shape := ⟨2, ![1024, 6534]⟩
abbrev S1024x384 : Shape := ⟨2, ![1024, 384]⟩
abbrev S_ : Shape := ⟨0, ![]⟩
abbrev S1024x768 : Shape := ⟨2, ![1024, 768]⟩
abbrev S1024x1920 : Shape := ⟨2, ![1024, 1920]⟩
abbrev S1024x6 : Shape := ⟨2, ![1024, 6]⟩
abbrev S1024x128 : Shape := ⟨2, ![1024, 128]⟩
abbrev S1024x3584 : Shape := ⟨2, ![1024, 3584]⟩
abbrev S1x6 : Shape := ⟨2, ![1, 6]⟩
abbrev S6 : Shape := ⟨1, ![6]⟩
abbrev S128 : Shape := ⟨1, ![128]⟩
abbrev S1x128 : Shape := ⟨2, ![1, 128]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩
abbrev S2048x6 : Shape := ⟨2, ![2048, 6]⟩
abbrev S2048x36 : Shape := ⟨2, ![2048, 36]⟩
abbrev S2048x48 : Shape := ⟨2, ![2048, 48]⟩
abbrev S1x2048x1x48 : Shape := ⟨4, ![1, 2048, 1, 48]⟩
abbrev S1x2048x8x48 : Shape := ⟨4, ![1, 2048, 8, 48]⟩
abbrev S2048x384 : Shape := ⟨2, ![2048, 384]⟩
abbrev S16384x2304 : Shape := ⟨2, ![16384, 2304]⟩
abbrev S16384x1152 : Shape := ⟨2, ![16384, 1152]⟩
abbrev S16384x128 : Shape := ⟨2, ![16384, 128]⟩
abbrev S512x1024 : Shape := ⟨2, ![512, 1024]⟩
abbrev S512x384 : Shape := ⟨2, ![512, 384]⟩
abbrev S512x2304 : Shape := ⟨2, ![512, 2304]⟩
abbrev S1x1x768x512 : Shape := ⟨4, ![1, 1, 768, 512]⟩
abbrev S512x1152 : Shape := ⟨2, ![512, 1152]⟩
abbrev S512x128 : Shape := ⟨2, ![512, 128]⟩
abbrev S512 : Shape := ⟨1, ![512]⟩
abbrev S512x1 : Shape := ⟨2, ![512, 1]⟩
abbrev S512x768 : Shape := ⟨2, ![512, 768]⟩
abbrev S384x512 : Shape := ⟨2, ![384, 512]⟩
abbrev S1x1x384x512 : Shape := ⟨4, ![1, 1, 384, 512]⟩
abbrev S1024x512 : Shape := ⟨2, ![1024, 512]⟩
abbrev S512x512 : Shape := ⟨2, ![512, 512]⟩

abbrev nBuf : Space → Nat
  | .hbm => 82
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x8x768x2048, .f32⟩
  | .hbm, ⟨2, _⟩ => ⟨S2x8x768x2048, .f32⟩
  | .hbm, ⟨3, _⟩ => ⟨S2x8x768x2048, .f32⟩
  | .hbm, ⟨4, _⟩ => ⟨S2x1024, .f32⟩
  | .hbm, ⟨5, _⟩ => ⟨S2x1024x6534, .f32⟩
  | .hbm, ⟨6, _⟩ => ⟨S2x6, .f32⟩
  | .hbm, ⟨7, _⟩ => ⟨S1x1024x6534, .f32⟩
  | .hbm, ⟨8, _⟩ => ⟨S1024x6534, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x768, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x1920, .f32⟩
  | .hbm, ⟨19, _⟩ => ⟨S1024x6, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x3584, .f32⟩
  | .hbm, ⟨24, _⟩ => ⟨S1024x3584, .bf16⟩
  | .hbm, ⟨25, _⟩ => ⟨S1x6, .f32⟩
  | .hbm, ⟨26, _⟩ => ⟨S6, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S2048, .i32⟩
  | .hbm, ⟨35, _⟩ => ⟨S6, .f32⟩
  | .hbm, ⟨36, _⟩ => ⟨S_, .f32⟩
  | .hbm, ⟨37, _⟩ => ⟨S6, .f32⟩
  | .hbm, ⟨38, _⟩ => ⟨S6, .f32⟩
  | .hbm, ⟨39, _⟩ => ⟨S_, .f32⟩
  | .hbm, ⟨40, _⟩ => ⟨S6, .f32⟩
  | .hbm, ⟨41, _⟩ => ⟨S6, .f32⟩
  | .hbm, ⟨42, _⟩ => ⟨S6, .f32⟩
  | .hbm, ⟨43, _⟩ => ⟨S_, .f32⟩
  | .hbm, ⟨44, _⟩ => ⟨S6, .f32⟩
  | .hbm, ⟨45, _⟩ => ⟨S6, .f32⟩
  | .hbm, ⟨46, _⟩ => ⟨S_, .f32⟩
  | .hbm, ⟨47, _⟩ => ⟨S6, .f32⟩
  | .hbm, ⟨48, _⟩ => ⟨S6, .f32⟩
  | .hbm, ⟨49, _⟩ => ⟨S2048, .f32⟩
  | .hbm, ⟨50, _⟩ => ⟨S2048x1, .f32⟩
  | .hbm, ⟨51, _⟩ => ⟨S1x6, .f32⟩
  | .hbm, ⟨52, _⟩ => ⟨S2048x6, .f32⟩
  | .hbm, ⟨53, _⟩ => ⟨S2048x6, .f32⟩
  | .hbm, ⟨54, _⟩ => ⟨S2048x6, .f32⟩
  | .hbm, ⟨55, _⟩ => ⟨S2048x6, .f32⟩
  | .hbm, ⟨56, _⟩ => ⟨S2048x6, .f32⟩
  | .hbm, ⟨57, _⟩ => ⟨S_, .f32⟩
  | .hbm, ⟨58, _⟩ => ⟨S2048x36, .f32⟩
  | .hbm, ⟨59, _⟩ => ⟨S_, .f32⟩
  | .hbm, ⟨60, _⟩ => ⟨S2048x36, .f32⟩
  | .hbm, ⟨61, _⟩ => ⟨S_, .f32⟩
  | .hbm, ⟨62, _⟩ => ⟨S2048x6, .f32⟩
  | .hbm, ⟨63, _⟩ => ⟨S2048x48, .f32⟩
  | .hbm, ⟨64, _⟩ => ⟨S1x2048x1x48, .f32⟩
  | .hbm, ⟨65, _⟩ => ⟨S1x2048x8x48, .f32⟩
  | .hbm, ⟨66, _⟩ => ⟨S2048x384, .f32⟩
  | .hbm, ⟨67, _⟩ => ⟨S2048x6, .f32⟩
  | .hbm, ⟨68, _⟩ => ⟨S2048x48, .f32⟩
  | .hbm, ⟨69, _⟩ => ⟨S1x2048x1x48, .f32⟩
  | .hbm, ⟨70, _⟩ => ⟨S1x2048x8x48, .f32⟩
  | .hbm, ⟨71, _⟩ => ⟨S2048x384, .f32⟩
  | .hbm, ⟨72, _⟩ => ⟨S2048x48, .f32⟩
  | .hbm, ⟨73, _⟩ => ⟨S1x2048x1x48, .f32⟩
  | .hbm, ⟨74, _⟩ => ⟨S1x2048x8x48, .f32⟩
  | .hbm, ⟨75, _⟩ => ⟨S2048x384, .f32⟩
  | .hbm, ⟨76, _⟩ => ⟨S16384x2304, .bf16⟩
  | .hbm, ⟨77, _⟩ => ⟨S2x8x768x2048, .f32⟩
  | .hbm, ⟨78, _⟩ => ⟨S2x8x768x2048, .f32⟩
  | .hbm, ⟨79, _⟩ => ⟨S2x8x768x2048, .f32⟩
  | .hbm, ⟨80, _⟩ => ⟨S16384x1152, .bf16⟩
  | .hbm, ⟨81, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1x128, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x2304, .bf16⟩
  | .local _ .vmem, ⟨12, _⟩ => ⟨S512x2304, .bf16⟩
  | .local _ .vmem, ⟨13, _⟩ => ⟨S1x1x768x512, .f32⟩
  | .local _ .vmem, ⟨14, _⟩ => ⟨S1x1x768x512, .f32⟩
  | .local _ .vmem, ⟨15, _⟩ => ⟨S1x1x768x512, .f32⟩
  | .local _ .vmem, ⟨16, _⟩ => ⟨S1x1x768x512, .f32⟩
  | .local _ .vmem, ⟨17, _⟩ => ⟨S1x1x768x512, .f32⟩
  | .local _ .vmem, ⟨18, _⟩ => ⟨S1x1x768x512, .f32⟩
  | .local _ .vmem, ⟨19, _⟩ => ⟨S512x1152, .bf16⟩
  | .local _ .vmem, ⟨20, _⟩ => ⟨S512x1152, .bf16⟩
  | .local _ .vmem, ⟨21, _⟩ => ⟨S512x128, .f32⟩
  | .local _ .vmem, ⟨22, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56_0 : Ref sig .tc := ⟨.hbm, 76, rfl⟩
abbrev main_v56_1 : Ref sig .tc := ⟨.hbm, 77, rfl⟩
abbrev main_v56_2 : Ref sig .tc := ⟨.hbm, 78, rfl⟩
abbrev main_v56_3 : Ref sig .tc := ⟨.hbm, 79, rfl⟩
abbrev main_v56_4 : Ref sig .tc := ⟨.hbm, 80, rfl⟩
abbrev main_v56_5 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x768x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x768x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1152 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S2x8x768x2048 : Shape := ⟨4, ![2, 8, 768, 2048]⟩
abbrev S2x1024 : Shape := ⟨2, ![2, 1024]⟩
abbrev S2x1024x6534 : Shape := ⟨3, ![2, 1024, 6534]⟩
abbrev S2x6 : Shape := ⟨2, ![2, 6]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x6534 : Shape := ⟨3, ![1, 1024, 6534]⟩
abbrev S1024x6534 : Shape := ⟨2, ![1024, 6534]⟩
abbrev S16384x6534 : Shape := ⟨2, ![16384, 6534]⟩
abbrev S16384x384 : Shape := ⟨2, ![16384, 384]⟩
abbrev S16384x6 : Shape := ⟨2, ![16384, 6]⟩
abbrev S1x6 : Shape := ⟨2, ![1, 6]⟩
abbrev S6 : Shape := ⟨1, ![6]⟩
abbrev S16384x128 : Shape := ⟨2, ![16384, 128]⟩
abbrev S8x2048x4x2x48 : Shape := ⟨5, ![8, 2048, 4, 2, 48]⟩
abbrev S2048 : Shape := ⟨1, ![2048]⟩
abbrev S2048x1 : Shape := ⟨2, ![2048, 1]⟩
abbrev S2048x6 : Shape := ⟨2, ![2048, 6]⟩
abbrev S1x2048x1x1x6 : Shape := ⟨5, ![1, 2048, 1, 1, 6]⟩
abbrev S8x2048x4x2x6 : Shape := ⟨5, ![8, 2048, 4, 2, 6]⟩
abbrev S8x2048x4x2x36 : Shape := ⟨5, ![8, 2048, 4, 2, 36]⟩
abbrev S16384x2304 : Shape := ⟨2, ![16384, 2304]⟩
abbrev S16384x1152 : Shape := ⟨2, ![16384, 1152]⟩
abbrev S16384x768 : Shape := ⟨2, ![16384, 768]⟩
abbrev S8x2048x768 : Shape := ⟨3, ![8, 2048, 768]⟩
abbrev S1x8x768x2048 : Shape := ⟨4, ![1, 8, 768, 2048]⟩
abbrev S8x768x2048 : Shape := ⟨3, ![8, 768, 2048]⟩

abbrev nBuf : Space → Nat
  | .hbm => 175
  | .vmem => 0
  | .smem => 0
  | _ => 0

abbrev hbmTy0_0 (i : Nat) : BufTy := match i % 128 with
  | 0 => ⟨S16384x1024, .f32⟩
  | 1 => ⟨S2x8x768x2048, .f32⟩
  | 2 => ⟨S2x8x768x2048, .f32⟩
  | 3 => ⟨S2x8x768x2048, .f32⟩
  | 4 => ⟨S2x1024, .f32⟩
  | 5 => ⟨S2x1024x6534, .f32⟩
  | 6 => ⟨S2x6, .f32⟩
  | 7 => ⟨S1x1024, .f32⟩
  | 8 => ⟨S1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S1x1024x6534, .f32⟩
  | 26 => ⟨S1024x6534, .f32⟩
  | 27 => ⟨S16384x6534, .f32⟩
  | 28 => ⟨S16384x384, .f32⟩
  | 29 => ⟨S16384x384, .f32⟩
  | 30 => ⟨S16384x384, .f32⟩
  | 31 => ⟨S16384x384, .f32⟩
  | 32 => ⟨S16384x384, .f32⟩
  | 33 => ⟨S16384x384, .f32⟩
  | 34 => ⟨S16384x384, .f32⟩
  | 35 => ⟨S16384x384, .f32⟩
  | 36 => ⟨S16384x384, .f32⟩
  | 37 => ⟨S16384x6, .f32⟩
  | 38 => ⟨S1x6, .f32⟩
  | 39 => ⟨S6, .f32⟩
  | 40 => ⟨S1x6, .f32⟩
  | 41 => ⟨S16384x6, .f32⟩
  | 42 => ⟨S16384x6, .f32⟩
  | 43 => ⟨S_, .i32⟩
  | 44 => ⟨S_, .f32⟩
  | 45 => ⟨S16384x128, .f32⟩
  | 46 => ⟨S16384x128, .f32⟩
  | 47 => ⟨S_, .f32⟩
  | 48 => ⟨S16384x128, .f32⟩
  | 49 => ⟨S16384x128, .f32⟩
  | 50 => ⟨S16384x128, .f32⟩
  | 51 => ⟨S16384x128, .f32⟩
  | 52 => ⟨S16384x128, .i1⟩
  | 53 => ⟨S16384x128, .f32⟩
  | 54 => ⟨S16384x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S8x2048x4x2x48, .f32⟩
  | 63 => ⟨S2048, .i32⟩
  | 64 => ⟨S6, .f32⟩
  | 65 => ⟨S_, .f32⟩
  | 66 => ⟨S6, .f32⟩
  | 67 => ⟨S6, .f32⟩
  | 68 => ⟨S_, .f32⟩
  | 69 => ⟨S6, .f32⟩
  | 70 => ⟨S6, .f32⟩
  | 71 => ⟨S6, .f32⟩
  | 72 => ⟨S_, .f32⟩
  | 73 => ⟨S6, .f32⟩
  | 74 => ⟨S6, .f32⟩
  | 75 => ⟨S_, .f32⟩
  | 76 => ⟨S6, .f32⟩
  | 77 => ⟨S6, .f32⟩
  | 78 => ⟨S2048, .f32⟩
  | 79 => ⟨S2048x1, .f32⟩
  | 80 => ⟨S1x6, .f32⟩
  | 81 => ⟨S2048x6, .f32⟩
  | 82 => ⟨S2048x6, .f32⟩
  | 83 => ⟨S2048x6, .f32⟩
  | 84 => ⟨S2048x6, .f32⟩
  | 85 => ⟨S1x2048x1x1x6, .f32⟩
  | 86 => ⟨S2048x6, .f32⟩
  | 87 => ⟨S1x2048x1x1x6, .f32⟩
  | 88 => ⟨S8x2048x4x2x6, .f32⟩
  | 89 => ⟨S8x2048x4x2x6, .f32⟩
  | 90 => ⟨S8x2048x4x2x6, .f32⟩
  | 91 => ⟨S8x2048x4x2x6, .f32⟩
  | 92 => ⟨S8x2048x4x2x6, .f32⟩
  | 93 => ⟨S8x2048x4x2x6, .f32⟩
  | 94 => ⟨S8x2048x4x2x6, .f32⟩
  | 95 => ⟨S8x2048x4x2x6, .f32⟩
  | 96 => ⟨S8x2048x4x2x6, .f32⟩
  | 97 => ⟨S8x2048x4x2x6, .f32⟩
  | 98 => ⟨S8x2048x4x2x6, .f32⟩
  | 99 => ⟨S8x2048x4x2x6, .f32⟩
  | 100 => ⟨S8x2048x4x2x36, .f32⟩
  | 101 => ⟨S8x2048x4x2x48, .f32⟩
  | 102 => ⟨S16384x384, .f32⟩
  | 103 => ⟨S8x2048x4x2x48, .f32⟩
  | 104 => ⟨S2048, .i32⟩
  | 105 => ⟨S6, .f32⟩
  | 106 => ⟨S_, .f32⟩
  | 107 => ⟨S6, .f32⟩
  | 108 => ⟨S6, .f32⟩
  | 109 => ⟨S_, .f32⟩
  | 110 => ⟨S6, .f32⟩
  | 111 => ⟨S6, .f32⟩
  | 112 => ⟨S6, .f32⟩
  | 113 => ⟨S_, .f32⟩
  | 114 => ⟨S6, .f32⟩
  | 115 => ⟨S6, .f32⟩
  | 116 => ⟨S_, .f32⟩
  | 117 => ⟨S6, .f32⟩
  | 118 => ⟨S6, .f32⟩
  | 119 => ⟨S2048, .f32⟩
  | 120 => ⟨S2048x1, .f32⟩
  | 121 => ⟨S1x6, .f32⟩
  | 122 => ⟨S2048x6, .f32⟩
  | 123 => ⟨S2048x6, .f32⟩
  | 124 => ⟨S2048x6, .f32⟩
  | 125 => ⟨S2048x6, .f32⟩
  | 126 => ⟨S1x2048x1x1x6, .f32⟩
  | 127 => ⟨S2048x6, .f32⟩
  | _ => ⟨S16384x1024, .f32⟩

abbrev hbmTy0_1 (i : Nat) : BufTy := match i % 128 with
  | 0 => ⟨S1x2048x1x1x6, .f32⟩
  | 1 => ⟨S8x2048x4x2x6, .f32⟩
  | 2 => ⟨S8x2048x4x2x6, .f32⟩
  | 3 => ⟨S8x2048x4x2x6, .f32⟩
  | 4 => ⟨S8x2048x4x2x6, .f32⟩
  | 5 => ⟨S8x2048x4x2x6, .f32⟩
  | 6 => ⟨S8x2048x4x2x6, .f32⟩
  | 7 => ⟨S8x2048x4x2x6, .f32⟩
  | 8 => ⟨S8x2048x4x2x6, .f32⟩
  | 9 => ⟨S8x2048x4x2x6, .f32⟩
  | 10 => ⟨S8x2048x4x2x6, .f32⟩
  | 11 => ⟨S8x2048x4x2x6, .f32⟩
  | 12 => ⟨S8x2048x4x2x6, .f32⟩
  | 13 => ⟨S8x2048x4x2x36, .f32⟩
  | 14 => ⟨S8x2048x4x2x48, .f32⟩
  | 15 => ⟨S16384x384, .f32⟩
  | 16 => ⟨S_, .f32⟩
  | 17 => ⟨S16384x384, .f32⟩
  | 18 => ⟨S16384x384, .f32⟩
  | 19 => ⟨S_, .f32⟩
  | 20 => ⟨S16384x384, .f32⟩
  | 21 => ⟨S16384x384, .f32⟩
  | 22 => ⟨S16384x2304, .f32⟩
  | 23 => ⟨S16384x2304, .bf16⟩
  | 24 => ⟨S_, .f32⟩
  | 25 => ⟨S16384x384, .f32⟩
  | 26 => ⟨S16384x384, .f32⟩
  | 27 => ⟨S16384x1152, .f32⟩
  | 28 => ⟨S16384x1152, .bf16⟩
  | 29 => ⟨S16384x768, .f32⟩
  | 30 => ⟨S8x2048x768, .f32⟩
  | 31 => ⟨S1x8x768x2048, .f32⟩
  | 32 => ⟨S8x768x2048, .f32⟩
  | 33 => ⟨S1x8x768x2048, .f32⟩
  | 34 => ⟨S2x8x768x2048, .f32⟩
  | 35 => ⟨S16384x768, .f32⟩
  | 36 => ⟨S8x2048x768, .f32⟩
  | 37 => ⟨S1x8x768x2048, .f32⟩
  | 38 => ⟨S8x768x2048, .f32⟩
  | 39 => ⟨S1x8x768x2048, .f32⟩
  | 40 => ⟨S2x8x768x2048, .f32⟩
  | 41 => ⟨S16384x768, .f32⟩
  | 42 => ⟨S8x2048x768, .f32⟩
  | 43 => ⟨S1x8x768x2048, .f32⟩
  | 44 => ⟨S8x768x2048, .f32⟩
  | 45 => ⟨S1x8x768x2048, .f32⟩
  | 46 => ⟨S2x8x768x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_call1_v0 : Ref sig .tc := ⟨.hbm, 46, rfl⟩
abbrev main_call1_call0_cst : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_v2 : Ref sig .tc := ⟨.hbm, 50, rfl⟩
abbrev main_call1_call0_v3 : Ref sig .tc := ⟨.hbm, 51, rfl⟩
abbrev main_call1_call0_v4 : Ref sig .tc := ⟨.hbm, 52, rfl⟩
abbrev main_call1_call0_v5 : Ref sig .tc := ⟨.hbm, 53, rfl⟩
abbrev main_call1_call0_v6 : Ref sig .tc := ⟨.hbm, 54, rfl⟩
abbrev main_call1_call0_v7 : Ref sig .tc := ⟨.hbm, 55, rfl⟩
abbrev main_call1_call0_v8 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_v1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_6 : Ref sig .tc := ⟨.hbm, 106, rfl⟩
abbrev main_v75 : Ref sig .tc := ⟨.hbm, 107, rfl⟩
abbrev main_v76 : Ref sig .tc := ⟨.hbm, 108, rfl⟩
abbrev main_cst_7 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_cst_9 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_10 : Ref sig .tc := ⟨.hbm, 144, rfl⟩
abbrev main_v109 : Ref sig .tc := ⟨.hbm, 145, rfl⟩
abbrev main_v110 : Ref sig .tc := ⟨.hbm, 146, rfl⟩
abbrev main_cst_11 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_12 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩

abbrev nD : Nat := 1
abbrev τ : Topo := Topo.v7x

variable {F : FTy → Type} [FloatOps F]
-- ==== Proof.Frames.lean ====
/- The frame claims and the ledger claim: each is the generated frame (or run) of its program. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy

@[expose] public section

noncomputable section

namespace Cert.Proof

open Idealize.ShloMosaic Idealize.SL.Sem

/-- The kernel as it is written runs, and leaves its arguments unchanged. -/
theorem frame_p : Cert.quiescent_Kernel (hKernel := Cert.Kernel.Gen.facts) := fun m ρ _ => Cert.Kernel.Gen.frame m ρ

/-- So does the kernel over the extended reals. -/
theorem frame_pi : Cert.quiescent_KernelIdeal (hKernelIdeal := Cert.KernelIdeal.Gen.facts) := fun m ρ _ => Cert.KernelIdeal.Gen.frame m ρ

/-- So does the reference over the extended reals. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant, the mask, denotes −∞. -/
theorem preserves : Cert.preserves_Kernel_KernelIdeal :=
  IdealRules.named_const.statement Cert.KernelIdeal.κ "mask" .f32 0xF149F2CA#32 ⊥ rfl

end Cert.Proof

end
-- ==== Proof.Frames2.lean ====
/- The frame claims of the feed-forward and merge calls. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import Idealize.ShloMosaic.Adequacy

@[expose] public section

noncomputable section

namespace Cert.Proof

open Idealize.ShloMosaic Idealize.SL.Sem

/-- The feed-forward call as it is written runs, and leaves its arguments unchanged. -/
theorem frame_p2 : Cert.quiescent_Kernel2 (hKernel2 := Cert.Kernel2.Gen.facts) := fun m ρ _ => Cert.Kernel2.Gen.frame m ρ

/-- So does the feed-forward call over the extended reals. -/
theorem frame_pi2 : Cert.quiescent_Kernel2Ideal (hKernel2Ideal := Cert.Kernel2Ideal.Gen.facts) := fun m ρ _ => Cert.Kernel2Ideal.Gen.frame m ρ

/-- So does its reference. -/
theorem frame_ri2 : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The merge call as it is written runs, and leaves its arguments unchanged. -/
theorem frame_p3 : Cert.quiescent_Kernel3 (hKernel3 := Cert.Kernel3.Gen.facts) := fun m ρ _ => Cert.Kernel3.Gen.frame m ρ

/-- So does the merge call over the extended reals. -/
theorem frame_pi3 : Cert.quiescent_Kernel3Ideal (hKernel3Ideal := Cert.Kernel3Ideal.Gen.facts) := fun m ρ _ => Cert.Kernel3Ideal.Gen.frame m ρ

/-- So does its reference. -/
theorem frame_ri3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

end Cert.Proof

end
-- ==== Proof.Frames4.lean ====
/- The frame claims of the input projection. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Adequacy

@[expose] public section

noncomputable section

namespace Cert.Proof

open Idealize.ShloMosaic Idealize.SL.Sem

/-- The input projection call as it is written runs, and leaves its arguments unchanged. -/
theorem frame_p4 : Cert.quiescent_Kernel4 (hKernel4 := Cert.Kernel4.Gen.facts) := fun m ρ _ => Cert.Kernel4.Gen.frame m ρ

/-- So does the input projection call over the extended reals. -/
theorem frame_pi4 : Cert.quiescent_Kernel4Ideal (hKernel4Ideal := Cert.Kernel4Ideal.Gen.facts) := fun m ρ _ => Cert.Kernel4Ideal.Gen.frame m ρ

/-- So does its reference. -/
theorem frame_ri4 : Cert.quiescent_Reference4Ideal (hReference4Ideal := Cert.Reference4Ideal.Gen.facts) := fun m ρ _ =>
  (θ_run Cert.Reference4Ideal.defs _ _).mono (fun r h => ⟨fun c => (h c).2.2.2.2.2.2,
      Idealize.ShloMosaic.sem_eq_zero_of_no_sems (by decide) r.2⟩)
    (Cert.Reference4Ideal.Value.run (F := Ideal) m ρ)

end Cert.Proof

end
-- ==== Proof.Rows.lean ====
/- A row's normalisation and the sigmoid gate, over the extended reals, and how the vector operations of a block of rows compute them. -/
module

public import Idealize.ShloMosaic.Lib.Pointwise

@[expose] public section

set_option maxRecDepth 16384

noncomputable section

namespace Cert.Rows

open Idealize.ShloMosaic

/-- A row, divided by the root of its mean square (with `1e-6` under the root), times the gain. -/
def norm (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- A row times a matrix. -/
def times {n d : ℕ} (x : Fin n → EReal) (w : Fin n → Fin d → EReal) (j : Fin d) : EReal :=
  ∑ k : Fin n, x k * w k j

/-- A gated activation: `a` by its sigmoid, by `b`. -/
def swish (a b : EReal) : EReal := a * Ideal.logistic a * b

/-- The normalisation as a block of rows computes it. -/
theorem norm_apply (x : FVec Ideal ⟨2, ![512, 1024]⟩ .f32) (g : FVec Ideal ⟨2, ![1, 1024]⟩ .f32)
    (hr : (⟨2, ![512, 1024]⟩ : Shape).Reduces [1] ⟨1, ![512]⟩) (hc : (⟨1, ![512]⟩ : Shape).ShapeCasts ⟨2, ![512, 1]⟩)
    (hg : (⟨2, ![1, 1024]⟩ : Shape).ShapeCasts ⟨2, ![1, 1024]⟩)
    (hb : (⟨2, ![512, 1]⟩ : Shape).Broadcasts ⟨2, ![512, 1024]⟩) (hb' : (⟨2, ![1, 1024]⟩ : Shape).Broadcasts ⟨2, ![512, 1024]⟩)
    (p : Fin 512) (q : Fin 1024) :
    Eq (α := EReal) (mulf (mulf x (broadcastTo ⟨2, ![512, 1024]⟩ (rsqrt (addf (divf (shapeCast ⟨2, ![512, 1]⟩
        (multiReduction .add [1] ⟨1, ![512]⟩ (mulf x x) 0x00000000#32 hr (.inl rfl) rfl) hc)
        (broadcast ⟨2, ![512, 1]⟩ (Scalar.ofBits (F := Ideal) .f32 0x44800000#32))) (broadcast ⟨2, ![512, 1]⟩ (Scalar.ofBits (F := Ideal) .f32 0x358637BD#32)))) hb))
        (broadcastTo ⟨2, ![512, 1024]⟩ (shapeCast ⟨2, ![1, 1024]⟩ g hg) hb') (ix2 p q))
      (norm (fun k => x (ix2 p k)) (fun k => g (ix2 0 k)) q) := by
  unfold norm
  pointwise []

/-- The normalisation of all rows as the host writes it, with the second layer's gain. -/
def hostNorm (x : FVec Ideal ⟨2, ![16384, 1024]⟩ .f32) (g : FVec Ideal ⟨2, ![2, 1024]⟩ .f32)
    (hs : (⟨2, ![2, 1024]⟩ : Shape).Slices ![1, 0] ⟨2, ![1, 1024]⟩) (hc : (⟨2, ![1, 1024]⟩ : Shape).ShapeCasts ⟨1, ![1024]⟩)
    (hr : (⟨2, ![16384, 1024]⟩ : Shape).ReducesTo [1] ⟨1, ![16384]⟩) (hp : 0 < (⟨0, ![]⟩ : Shape).numel)
    (h0 : (⟨1, ![16384]⟩ : Shape).BroadcastsInDim ⟨2, ![16384, 1]⟩ (![0] : Fin 1 → Fin 2))
    (h1 : (⟨0, ![]⟩ : Shape).BroadcastsInDim ⟨2, ![16384, 1]⟩ (![] : Fin 0 → Fin 2))
    (h2 : (⟨2, ![16384, 1]⟩ : Shape).BroadcastsInDim ⟨2, ![16384, 1024]⟩ (![0, 1] : Fin 2 → Fin 2))
    (h3 : (⟨1, ![1024]⟩ : Shape).BroadcastsInDim ⟨2, ![1, 1024]⟩ (![1] : Fin 1 → Fin 2))
    (h4 : (⟨2, ![1, 1024]⟩ : Shape).BroadcastsInDim ⟨2, ![16384, 1024]⟩ (![0, 1] : Fin 2 → Fin 2)) : FVec Ideal ⟨2, ![16384, 1024]⟩ .f32 :=
  mulf (mulf x (broadcastInDim ⟨2, ![16384, 1024]⟩ ![0, 1] h2 (Host.rsqrt (addf (Host.divf (broadcastInDim ⟨2, ![16384, 1]⟩ ![0] h0
      (Host.reduceAdd (mulf x x) (constant ⟨0, ![]⟩ .f32 0x00000000#32) hr hp)) (broadcastInDim ⟨2, ![16384, 1]⟩ ![] h1 (constant ⟨0, ![]⟩ .f32 0x44800000#32)))
      (broadcastInDim ⟨2, ![16384, 1]⟩ ![] h1 (constant ⟨0, ![]⟩ .f32 0x358637BD#32))))))
    (broadcastInDim ⟨2, ![16384, 1024]⟩ ![0, 1] h4 (broadcastInDim ⟨2, ![1, 1024]⟩ ![1] h3 (shapeCast ⟨1, ![1024]⟩ (extractStridedSlice ⟨2, ![1, 1024]⟩ ![1, 0] g hs) hc)))

theorem hostNorm_apply (x : FVec Ideal ⟨2, ![16384, 1024]⟩ .f32) (g : FVec Ideal ⟨2, ![2, 1024]⟩ .f32) (hs hc hr hp h0 h1 h2 h3 h4) (r : Fin 16384) (q : Fin 1024) :
    Eq (α := EReal) (hostNorm x g hs hc hr hp h0 h1 h2 h3 h4 (ix2 r q)) (norm (fun k => x (ix2 r k)) (fun k => g (ix2 1 k)) q) := by
  unfold norm
  pointwise [hostNorm]

end Cert.Rows

end
-- ==== Proof.FfnPoint.lean ====
/- What a block of rows of the feed-forward holds after a point: eleven chunks of activations, their projection, its normalisation. -/
module

public import proofs.«01_k».proof.Proof.Rows
public import proofs.«01_k».proof.Proof.Gen.Kernel2Ideal.Value
public import Idealize.ShloMosaic.Lib.VecWindow
public import Idealize.ShloMosaic.Lib.Pipeline.ValueKit.Basic

@[expose] public section

set_option maxRecDepth 16384

noncomputable section

namespace Cert.Kernel2Ideal.Ffn

open Idealize.ShloMosaic Idealize.ShloMosaic.TcCoe Cert.Kernel2Ideal Cert.Kernel2Ideal.Gen Cert.Rows

/-- The normalised rows. -/
theorem rows_apply (v0 : Vec Ideal S512x1024 .f32) (v1 : Vec Ideal S1x1024 .f32) (p : Fin 512) (q : Fin 1024) :
    Eq (α := EReal) (k0_pay1 v0 v1 (ix2 p q)) (norm (fun k => v0 (ix2 p k)) (fun k => v1 (ix2 0 k)) q) :=
  norm_apply v0 v1 reduces_S512x1024_S512 shapeCasts_S512_S512x1 shapeCasts_S1x1024_S1x1024 broadcasts_S512x1_S512x1024 broadcasts_S1x1024_S512x1024 p q

/-- One chunk of 256 activations. -/
theorem chunk_apply (h : FVec Ideal S512x1024 .bf16) (a b : Vec Ideal S1024x256 .bf16) (p : Fin 512) (q : Fin 256) :
    Eq (α := EReal) (k0_pay6 h a b (ix2 p q))
      (swish (times (fun k => h (ix2 p k)) (fun k j => a (ix2 k j)) q) (times (fun k => h (ix2 p k)) (fun k j => b (ix2 k j)) q)) := by
  unfold swish times
  pointwise [k0_pay6]

/-- The activations times the second matrix. -/
def projected (v159 : FVec Ideal S512x2816 .bf16) (v160 : FVec Ideal S2816x1024 .bf16) : FVec Ideal S512x1024 .f32 :=
  matmul (φ₁ := .bf16) (φ₂ := .bf16) dot_S512x2816_S2816x1024_S512x1024_1_0_0_1_n_n none v159 (shapeCast S2816x1024 v160 shapeCasts_S2816x1024_S2816x1024) (constant S512x1024 .f32 0x00000000#32)

theorem projected_apply (v159 : FVec Ideal S512x2816 .bf16) (v160 : FVec Ideal S2816x1024 .bf16) (p : Fin 512) (q : Fin 1024) :
    Eq (α := EReal) (projected v159 v160 (ix2 p q)) (times (fun k => v159 (ix2 p k)) (fun k j => v160 (ix2 k j)) q) := by
  unfold projected times
  pointwise []

/-- The block's result. -/
theorem last_apply (v0 : Vec Ideal S512x1024 .f32) (v159 : Vec Ideal S512x2816 .bf16) (v160 : Vec Ideal S2816x1024 .bf16) (v163 : Vec Ideal S1x1024 .f32) (p : Fin 512) (q : Fin 1024) :
    Eq (α := EReal) (k0_pay17 v0 v159 v160 v163 (ix2 p q))
      (v0 (ix2 p q) + norm (times (fun k => v159 (ix2 p k)) fun k j => v160 (ix2 k j)) (fun k => v163 (ix2 0 k)) q) := by
  refine Eq.trans (congrArg (fun a : EReal => (v0 (ix2 p q) : EReal) + a)
    (norm_apply (projected v159 v160) v163 reduces_S512x1024_S512 shapeCasts_S512_S512x1 shapeCasts_S1x1024_S1x1024 broadcasts_S512x1_S512x1024 broadcasts_S1x1024_S512x1024 p q)) ?_
  exact congrArg (fun f => (v0 (ix2 p q) : EReal) + norm f (fun k => v163 (ix2 0 k)) q) (funext fun k => projected_apply _ _ p k)

theorem ix2_of_val {n0 n1 : ℕ} (i : (⟨2, ![n0, n1]⟩ : Shape).Idx) {a : Fin n0} {b : Fin n1} (ha : (i 0).val = a.val) (hb : (i 1).val = b.val) : i = ix2 a b := by
  funext x
  revert x
  exact Fin.forall_fin_two.mpr ⟨Fin.ext ha, Fin.ext hb⟩

/-- A load of 256 columns from column `o`. -/
theorem columns_load {κ : Kind} {sp : Space} (vw : View sig κ sp S1024x5632 .bf16) (o : ℕ) (ib : ∀ a, (![0, o] : Fin 2 → ℕ) a + S1024x256.size a ≤ S1024x5632.size a)
    (X : vw.ty.Contents (Elt Ideal)) (k : Fin 1024) (j : Fin 256) (f : Fin 5632) (hf : f.val = o + j.val) :
    View.readAt (Elt Ideal) vw (Rect.unit (s := S1024x5632) ![0, o] S1024x256.size ib).toLoadRect X (ix2 k j) = vw.read (Elt Ideal) X (ix2 k f) :=
  congrArg (vw.read (Elt Ideal) X) (ix2_of_val _ ((show _ = 0 + 1 * k.val from rfl).trans (show _ = k.val from by omega)) ((show _ = o + 1 * j.val from rfl).trans (show _ = f.val from by omega)))

/-- The activation of column `f` in row `p`. -/
def act (x0 : Vec Ideal S512x1024 .f32) (x1 : Vec Ideal S1x1024 .f32) (x2 : Vec Ideal S1024x5632 .bf16) (p : Fin 512) (f : Fin 2816) : EReal :=
  swish (times (norm (fun k => x0 (ix2 p k)) fun k => x1 (ix2 0 k)) (fun k (f : Fin 2816) => x2 (ix2 k ⟨f.val, by omega⟩)) f)
    (times (norm (fun k => x0 (ix2 p k)) fun k => x1 (ix2 0 k)) (fun k (f : Fin 2816) => x2 (ix2 k ⟨2816 + f.val, by omega⟩)) f)

/-- The eleven stores of 256 columns cover the buffer. -/
theorem act_cover (p0 p1 p2 p3 p4 p5 p6 p7 p8 p9 p10 : Vec Ideal S512x256 .bf16) (y : S512x2816.Idx) :
    ∃ pc ∈ ([⟨Rect.unit (s := S512x2816) ![0, 2560] S512x256.size inb_S512x2816_S512x256_0_2560, p10⟩, ⟨Rect.unit (s := S512x2816) ![0, 2304] S512x256.size inb_S512x2816_S512x256_0_2304, p9⟩,
      ⟨Rect.unit (s := S512x2816) ![0, 2048] S512x256.size inb_S512x2816_S512x256_0_2048, p8⟩, ⟨Rect.unit (s := S512x2816) ![0, 1792] S512x256.size inb_S512x2816_S512x256_0_1792, p7⟩,
      ⟨Rect.unit (s := S512x2816) ![0, 1536] S512x256.size inb_S512x2816_S512x256_0_1536, p6⟩, ⟨Rect.unit (s := S512x2816) ![0, 1280] S512x256.size inb_S512x2816_S512x256_0_1280, p5⟩,
      ⟨Rect.unit (s := S512x2816) ![0, 1024] S512x256.size inb_S512x2816_S512x256_0_1024, p4⟩, ⟨Rect.unit (s := S512x2816) ![0, 768] S512x256.size inb_S512x2816_S512x256_0_768, p3⟩,
      ⟨Rect.unit (s := S512x2816) ![0, 512] S512x256.size inb_S512x2816_S512x256_0_512, p2⟩, ⟨Rect.unit (s := S512x2816) ![0, 256] S512x256.size inb_S512x2816_S512x256_0_256, p1⟩,
      ⟨Rect.unit (s := S512x2816) ![0, 0] S512x256.size inb_S512x2816_S512x256_0_0, p0⟩] : List (View.Piece (Elt Ideal) S512x2816 .bf16)), y ∈ pc.1.set :=
  View.cover_of_tiled
    ([⟨Rect.unit (s := S512x2816) ![0, 2560] S512x256.size inb_S512x2816_S512x256_0_2560, p10⟩, ⟨Rect.unit (s := S512x2816) ![0, 2304] S512x256.size inb_S512x2816_S512x256_0_2304, p9⟩,
      ⟨Rect.unit (s := S512x2816) ![0, 2048] S512x256.size inb_S512x2816_S512x256_0_2048, p8⟩, ⟨Rect.unit (s := S512x2816) ![0, 1792] S512x256.size inb_S512x2816_S512x256_0_1792, p7⟩,
      ⟨Rect.unit (s := S512x2816) ![0, 1536] S512x256.size inb_S512x2816_S512x256_0_1536, p6⟩, ⟨Rect.unit (s := S512x2816) ![0, 1280] S512x256.size inb_S512x2816_S512x256_0_1280, p5⟩,
      ⟨Rect.unit (s := S512x2816) ![0, 1024] S512x256.size inb_S512x2816_S512x256_0_1024, p4⟩, ⟨Rect.unit (s := S512x2816) ![0, 768] S512x256.size inb_S512x2816_S512x256_0_768, p3⟩,
      ⟨Rect.unit (s := S512x2816) ![0, 512] S512x256.size inb_S512x2816_S512x256_0_512, p2⟩, ⟨Rect.unit (s := S512x2816) ![0, 256] S512x256.size inb_S512x2816_S512x256_0_256, p1⟩,
      ⟨Rect.unit (s := S512x2816) ![0, 0] S512x256.size inb_S512x2816_S512x256_0_0, p0⟩] : List (View.Piece (Elt Ideal) S512x2816 .bf16)) S512x256.size (by rfl) y

section Run

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S2816x1024 .bf16) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x2816 .bf16) (harg7 : arg7.IsWhole)
  (x0 : Vec Ideal S512x1024 .f32) (x1 : Vec Ideal S1x1024 .f32) (x2 : Vec Ideal S1024x5632 .bf16) (x3 : Vec Ideal S2816x1024 .bf16) (x4 : Vec Ideal S1x1024 .f32)

/-- One of the eleven stores of the activations. -/
theorem act_piece (o : ℕ) (o' : ℕ) (ho : o' = 2816 + o) (ib1 : ∀ a, (![0, 0] : Fin 2 → ℕ) a + S512x1024.size a ≤ S512x1024.size a) (ib2 : ∀ a, (![0, 0] : Fin 2 → ℕ) a + S1x1024.size a ≤ S1x1024.size a)
    (ib3 : ∀ a, (![0, o] : Fin 2 → ℕ) a + S1024x256.size a ≤ S1024x5632.size a) (ib3' : ∀ a, (![0, o'] : Fin 2 → ℕ) a + S1024x256.size a ≤ S1024x5632.size a)
    (ib : ∀ a, (![0, o] : Fin 2 → ℕ) a + S512x256.size a ≤ S512x2816.size a) (x : S512x256.Idx) :
    k0_pay6 (F := Ideal) (k0_pay1 (View.readAt (Elt Ideal) arg1.view (Rect.unit (s := S512x1024) ![0, 0] S512x1024.size ib1).toLoadRect (harg1.unread x0))
          (View.readAt (Elt Ideal) arg2.view (Rect.unit (s := S1x1024) ![0, 0] S1x1024.size ib2).toLoadRect (harg2.unread x1)))
        (View.readAt (Elt Ideal) arg3.view (Rect.unit (s := S1024x5632) ![0, o] S1024x256.size ib3).toLoadRect (harg3.unread x2))
        (View.readAt (Elt Ideal) arg3.view (Rect.unit (s := S1024x5632) ![0, o'] S1024x256.size ib3').toLoadRect (harg3.unread x2)) x
      = act x0 x1 x2 ((Rect.unit (s := S512x2816) ![0, o] S512x256.size ib).emb x 0) ((Rect.unit (s := S512x2816) ![0, o] S512x256.size ib).emb x 1) := by
  obtain ⟨p, q, rfl⟩ : ∃ (p : Fin 512) (q : Fin 256), x = ix2 p q := ⟨x 0, x 1, ix2_of_val x rfl rfl⟩
  have hb : o + 256 ≤ 2816 := (show o + 256 ≤ 2816 from ib (1 : Fin 2))
  have hq := q.isLt
  have e0 : ((Rect.unit (s := S512x2816) ![0, o] S512x256.size ib).emb (ix2 p q) 0 : Fin 512) = p := Fin.ext ((show _ = 0 + 1 * p.val from rfl).trans (show _ = p.val from by omega))
  have e1 : ((Rect.unit (s := S512x2816) ![0, o] S512x256.size ib).emb (ix2 p q) 1 : Fin 2816) = (⟨o + q.val, (by omega : o + q.val < 2816)⟩ : Fin 2816) :=
    Fin.ext ((show _ = o + 1 * q.val from rfl).trans (show _ = o + q.val from by omega))
  refine Eq.trans ?_ (congrArg₂ (act x0 x1 x2) e0 e1).symm
  rw [View.readAt_full, View.readAt_full, harg1.read_unread, harg2.read_unread]
  refine (chunk_apply _ _ _ p q).trans ?_
  have hg : ∀ k, View.readAt (Elt Ideal) arg3.view (Rect.unit (s := S1024x5632) ![0, o] S1024x256.size ib3).toLoadRect (harg3.unread x2) (ix2 k q) = x2 (ix2 k ⟨o + q.val, by omega⟩) :=
    fun k => (columns_load arg3.view o ib3 _ k q ⟨o + q.val, by omega⟩ rfl).trans (by rw [harg3.read_unread])
  have hu : ∀ k, View.readAt (Elt Ideal) arg3.view (Rect.unit (s := S1024x5632) ![0, o'] S1024x256.size ib3').toLoadRect (harg3.unread x2) (ix2 k q) = x2 (ix2 k ⟨2816 + (o + q.val), by omega⟩) :=
    fun k => (columns_load arg3.view o' ib3' _ k q ⟨2816 + (o + q.val), by omega⟩ (show 2816 + (o + q.val) = o' + q.val by omega)).trans (by rw [harg3.read_unread])
  unfold act times
  simp only [hg, hu, rows_apply]

/-- The activations, as the last product loads them. -/
theorem act_load (p : Fin 512) (f : Fin 2816) :
    kernelRun0_A.sl.v159 (F := Ideal) c arg1 harg1 arg2 harg2 arg3 harg3 arg7 x0 x1 x2 (ix2 p f) = act x0 x1 x2 p f := by
  unfold kernelRun0_A.sl.v159
  rw [View.readCov, View.readAt_full]
  unfold kernelRun0_A.sl.HS0_11
  refine View.read_writes_apply_of_pieces arg7.view arg7.view.junk (fun y : S512x2816.Idx => act x0 x1 x2 (y 0) (y 1)) _ ?_ (ix2 p f) (act_cover _ _ _ _ _ _ _ _ _ _ _ _)
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, ?_⟩⟩⟩⟩⟩⟩
  · exact fun x => act_piece arg1 harg1 arg2 harg2 arg3 harg3 x0 x1 x2 2560 5376 rfl (by decide) (by decide) (by decide) (by decide) (by decide) x
  · exact fun x => act_piece arg1 harg1 arg2 harg2 arg3 harg3 x0 x1 x2 2304 5120 rfl (by decide) (by decide) (by decide) (by decide) (by decide) x
  · exact fun x => act_piece arg1 harg1 arg2 harg2 arg3 harg3 x0 x1 x2 2048 4864 rfl (by decide) (by decide) (by decide) (by decide) (by decide) x
  · exact fun x => act_piece arg1 harg1 arg2 harg2 arg3 harg3 x0 x1 x2 1792 4608 rfl (by decide) (by decide) (by decide) (by decide) (by decide) x
  · exact fun x => act_piece arg1 harg1 arg2 harg2 arg3 harg3 x0 x1 x2 1536 4352 rfl (by decide) (by decide) (by decide) (by decide) (by decide) x
  · exact fun x => act_piece arg1 harg1 arg2 harg2 arg3 harg3 x0 x1 x2 1280 4096 rfl (by decide) (by decide) (by decide) (by decide) (by decide) x
  refine List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩
  · exact fun x => act_piece arg1 harg1 arg2 harg2 arg3 harg3 x0 x1 x2 1024 3840 rfl (by decide) (by decide) (by decide) (by decide) (by decide) x
  · exact fun x => act_piece arg1 harg1 arg2 harg2 arg3 harg3 x0 x1 x2 768 3584 rfl (by decide) (by decide) (by decide) (by decide) (by decide) x
  · exact fun x => act_piece arg1 harg1 arg2 harg2 arg3 harg3 x0 x1 x2 512 3328 rfl (by decide) (by decide) (by decide) (by decide) (by decide) x
  · exact fun x => act_piece arg1 harg1 arg2 harg2 arg3 harg3 x0 x1 x2 256 3072 rfl (by decide) (by decide) (by decide) (by decide) (by decide) x
  · exact fun x => act_piece arg1 harg1 arg2 harg2 arg3 harg3 x0 x1 x2 0 2816 rfl (by decide) (by decide) (by decide) (by decide) (by decide) x

/-- What the output's buffer holds after a point. -/
theorem out_apply (p : Fin 512) (q : Fin 1024) :
    Eq (α := EReal) (out0_A_5 (F := Ideal) c i arg1 harg1 arg2 harg2 arg3 harg3 arg4 harg4 arg5 harg5 arg6 harg6 arg7 harg7 x0 x1 x2 x3 x4 (ix2 p q))
      (x0 (ix2 p q) + norm (times (act x0 x1 x2 p) fun k j => x3 (ix2 k j)) (fun k => x4 (ix2 0 k)) q) := by
  unfold out0_A_5 kernelRun0_A
  dsimp only
  unfold kernelRun0_A.sl.r_6 kernelRun0_A.sl.r
  rw [View.read_writes_eq_canon _ _ _ fun y => View.cover_of_tiledL _ S512x1024.size (by rfl) y, View.canon_cons_unit_lit _ _ _ (by decide)]
  · rw [View.readAt_full, View.readAt_full, View.readAt_full, harg1.read_unread, harg4.read_unread, harg5.read_unread]
    refine (last_apply _ _ _ _ p q).trans ?_
    exact congrArg (fun f => (x0 (ix2 p q) : EReal) + norm (times f fun k j => x3 (ix2 k j)) (fun k => x4 (ix2 0 k)) q) (funext fun f => act_load c arg1 harg1 arg2 harg2 arg3 harg3 arg7 x0 x1 x2 p f)

end Run

end Cert.Kernel2Ideal.Ffn

end
-- ==== Proof.FfnHost.lean ====
/- The feed-forward's operands: what the host prepares. -/
module

public import proofs.«01_k».proof.Proof.FfnPoint
public import Idealize.ShloMosaic.Lib.StableHlo.ReadAt

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen Cert.Rows

variable (m : (ℓ : Loc nD τ sig) → Buf (Elt Ideal) ℓ) (c : Dev nD)

/-- The residual stream. -/
abbrev xArr : Vec Ideal S16384x1024 .f32 := m ((c : Thread nD τ).loc main_arg0)
/-- The gains before and after. -/
abbrev preArr : Vec Ideal S2x1024 .f32 := m ((c : Thread nD τ).loc main_arg1)
abbrev postArr : Vec Ideal S2x1024 .f32 := m ((c : Thread nD τ).loc main_arg2)
/-- The weights of the two layers. -/
abbrev upArr : Vec Ideal S2x1024x5632 .f32 := m ((c : Thread nD τ).loc main_arg3)
abbrev downArr : Vec Ideal S2x2816x1024 .f32 := m ((c : Thread nD τ).loc main_arg4)

theorem pre_apply (j : Fin 1024) : Eq (α := EReal) ((V m c main_v2 : Vec Ideal S1x1024 .f32) (ix2 0 j)) (preArr m c (ix2 1 j)) := by
  unfold V
  after_reads_at

theorem up_apply (k : Fin 1024) (j : Fin 5632) : Eq (α := EReal) ((V m c main_v5 : Vec Ideal S1024x5632 .bf16) (ix2 k j)) (upArr m c (ix3 1 k j)) := by
  unfold V
  after_reads_at

theorem down_apply (k : Fin 2816) (j : Fin 1024) : Eq (α := EReal) ((V m c main_v8 : Vec Ideal S2816x1024 .bf16) (ix2 k j)) (downArr m c (ix3 1 k j)) := by
  unfold V
  after_reads_at

theorem post_apply (j : Fin 1024) : Eq (α := EReal) ((V m c main_v11 : Vec Ideal S1x1024 .f32) (ix2 0 j)) (postArr m c (ix2 1 j)) := by
  unfold V
  after_reads_at

end Cert.Kernel2Ideal.Ffn

end
-- ==== Proof.FfnBlocks.lean ====
/- The feed-forward's operands: what each window of a point holds, and the array that the points leave. -/
module

public import proofs.«01_k».proof.Proof.FfnHost

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen Cert.Rows

/-- Where each window's block of a point begins, in blocks: point `t` is rows `512 t` to `512 t + 511`. -/
theorem block_places : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, _)

theorem block_size : ∀ t : Fin cfg0.N, win0_5.xsize (grid0.coords t) 0 = 512 ∧ win0_5.xsize (grid0.coords t) 1 = 1024 ∧ win0_5.flush t = true :=
  (by decide +kernel : ∀ t : Fin grid0.N, _)

variable (m : (ℓ : Loc nD τ sig) → Buf (Elt Ideal) ℓ) (c : Dev nD) (t : Fin cfg0.N)

/-- Row `p` of point `t`'s blocks. -/
def rowOf (p : Fin 512) : Fin 16384 := ⟨512 * t.val + p.val, by have := lt_of_lt_of_eq t.isLt N_0; omega⟩

theorem block_x (p : Fin 512) (k : Fin 1024) : (iblk m c 0 t : Vec Ideal S512x1024 .f32) (ix2 p k) = xArr m c (ix2 (rowOf t p) k) := by
  obtain ⟨⟨e0, e1⟩, -⟩ := block_places t
  refine (congrFun (V_main_arg0 m c) _).trans (congrArg (xArr m c) (ix2_of_val _ ?_ ?_))
  · exact (show _ = win0_0.index t 0 * 512 + 1 * p.val from rfl).trans (show _ = 512 * t.val + p.val from by omega)
  · exact (show _ = win0_0.index t 1 * 1024 + 1 * k.val from rfl).trans (show _ = k.val from by omega)

theorem block_pre (k : Fin 1024) : Eq (α := EReal) ((iblk m c 1 t : Vec Ideal S1x1024 .f32) (ix2 0 k)) (preArr m c (ix2 1 k)) := by
  obtain ⟨-, ⟨e0, e1⟩, -⟩ := block_places t
  refine Eq.trans (congrArg (V m c main_v2) (ix2_of_val _ ?_ ?_ : _ = ix2 0 k)) (pre_apply m c k)
  · exact (show _ = win0_1.index t 0 * 1 + 1 * 0 from rfl).trans (show _ = 0 from by omega)
  · exact (show _ = win0_1.index t 1 * 1024 + 1 * k.val from rfl).trans (show _ = k.val from by omega)

theorem block_up (k : Fin 1024) (j : Fin 5632) : Eq (α := EReal) ((iblk m c 2 t : Vec Ideal S1024x5632 .bf16) (ix2 k j)) (upArr m c (ix3 1 k j)) := by
  obtain ⟨-, -, ⟨e0, e1⟩, -⟩ := block_places t
  refine Eq.trans (congrArg (V m c main_v5) (ix2_of_val _ ?_ ?_ : _ = ix2 k j)) (up_apply m c k j)
  · exact (show _ = win0_2.index t 0 * 1024 + 1 * k.val from rfl).trans (show _ = k.val from by omega)
  · exact (show _ = win0_2.index t 1 * 5632 + 1 * j.val from rfl).trans (show _ = j.val from by omega)

theorem block_down (k : Fin 2816) (j : Fin 1024) : Eq (α := EReal) ((iblk m c 3 t : Vec Ideal S2816x1024 .bf16) (ix2 k j)) (downArr m c (ix3 1 k j)) := by
  obtain ⟨-, -, -, ⟨e0, e1⟩, -⟩ := block_places t
  refine Eq.trans (congrArg (V m c main_v8) (ix2_of_val _ ?_ ?_ : _ = ix2 k j)) (down_apply m c k j)
  · exact (show _ = win0_3.index t 0 * 2816 + 1 * k.val from rfl).trans (show _ = k.val from by omega)
  · exact (show _ = win0_3.index t 1 * 1024 + 1 * j.val from rfl).trans (show _ = j.val from by omega)

theorem block_post (k : Fin 1024) : Eq (α := EReal) ((iblk m c 4 t : Vec Ideal S1x1024 .f32) (ix2 0 k)) (postArr m c (ix2 1 k)) := by
  obtain ⟨-, -, -, -, ⟨e0, e1⟩, -⟩ := block_places t
  refine Eq.trans (congrArg (V m c main_v11) (ix2_of_val _ ?_ ?_ : _ = ix2 0 k)) (post_apply m c k)
  · exact (show _ = win0_4.index t 0 * 1 + 1 * 0 from rfl).trans (show _ = 0 from by omega)
  · exact (show _ = win0_4.index t 1 * 1024 + 1 * k.val from rfl).trans (show _ = k.val from by omega)

/-- An array's row `rowOf t p`, as the block of point `t` reads it, if the block is the leading part of `X`. -/
theorem read_cut (A : Vec Ideal S16384x1024 .f32) (X : Vec Ideal S512x1024 .f32)
    (h : ((cfg0.win 5).blk t).view.read (Elt Ideal) A = (cfg0.win 5).cut (grid0.coords t) X) (p : Fin 512) (q : Fin 1024) :
    A (ix2 (rowOf t p) q) = X (ix2 p q) := by
  obtain ⟨h0, h1, -⟩ := block_size t
  obtain ⟨-, -, -, -, -, ⟨e0, e1⟩⟩ := block_places t
  have hy : ∀ a : Fin 2, ((![p.val, q.val] : Fin 2 → ℕ) a) < win0_5.xsize (grid0.coords t) a :=
    Fin.forall_fin_two.mpr ⟨lt_of_lt_of_eq p.isLt h0.symm, lt_of_lt_of_eq q.isLt h1.symm⟩
  have key := congrFun h (fun a => ⟨_, hy a⟩)
  refine Eq.trans (congrArg A (ix2_of_val _ ?_ ?_ : _ = ix2 (rowOf t p) q)).symm (Eq.trans key ?_)
  · exact (show _ = win0_5.index t 0 * 512 + 1 * p.val from rfl).trans (show _ = 512 * t.val + p.val from by omega)
  · exact (show _ = win0_5.index t 1 * 1024 + 1 * q.val from rfl).trans (show _ = q.val from by omega)
  · exact congrArg X (ix2_of_val _ rfl rfl)

/-- The array the kernel leaves, at row `p` of point `t`: the block's result. -/
theorem array_apply (p : Fin 512) (q : Fin 1024) :
    Eq (α := EReal) (((dats m 0 c).arrAt 5 cfg0.N : Vec Ideal S16384x1024 .f32) (ix2 (rowOf t p) q))
      (HAdd.hAdd (α := EReal) (β := EReal) (γ := EReal) ((iblk m c 0 t : Vec Ideal S512x1024 .f32) (ix2 p q)) <| norm (times (act (iblk m c 0 t) (iblk m c 1 t) (iblk m c 2 t) p) fun k j => (iblk m c 3 t : Vec Ideal S2816x1024 .bf16) (ix2 k j))
        (fun k => (iblk m c 4 t : Vec Ideal S1x1024 .f32) (ix2 0 k)) q) :=
  (read_cut t _ _ ((Value.blocks5 m c t (block_size t).2.2).trans (Value.flushed5_A m c t)) p q).trans (out_apply _ _ _ _ _ _ _ _ _ _ _ _ _ _ _ _ _ _ _ _ _ p q)

end Cert.Kernel2Ideal.Ffn

end
-- ==== Proof.FfnRef.lean ====
/- What the feed-forward's reference computes: its result at an index. -/
module

public import proofs.«01_k».proof.Proof.Rows
public import proofs.«01_k».proof.Proof.Gen.Reference2Ideal.Run

@[expose] public section

set_option maxRecDepth 16384

noncomputable section

namespace Cert.Reference2Ideal.Ffn

open Cert.Reference2Ideal Cert.Reference2Ideal.Gen Idealize.ShloMosaic Idealize.ShloMosaic.TcCoe Cert.Rows

/-- The normalised rows, with the gain `g`. -/
abbrev normed (x : FVec Ideal S16384x1024 .f32) (g : FVec Ideal S2x1024 .f32) : FVec Ideal S16384x1024 .f32 :=
  hostNorm x g slices_S2x1024_S1x1024_1_0 shapeCasts_S1x1024_S1024 reducesTo_S16384x1024_S16384_d1 h_S_ bcast_S16384_S16384x1_0 bcast_S_S16384x1
    bcast_S16384x1_S16384x1024_0_1 bcast_S1024_S1x1024_1 bcast_S1x1024_S16384x1024_0_1

/-- The gates' and the values' columns, side by side. -/
def widened (h : FVec Ideal S16384x1024 .f32) (w : FVec Ideal S2x1024x5632 .f32) : FVec Ideal S16384x5632 .f32 :=
  Host.dotGeneral dot_S16384x1024_S1024x5632_S16384x5632_1_0_0_1_n_n none h (shapeCast _ (extractStridedSlice S1x1024x5632 ![1, 0, 0] w slices_S2x1024x5632_S1x1024x5632_1_0_0) shapeCasts_S1x1024x5632_S1024x5632)

/-- The gated activations. -/
def activated (u : FVec Ideal S16384x5632 .f32) : FVec Ideal S16384x2816 .f32 :=
  mulf (mulf (extractStridedSlice S16384x2816 ![0, 0] u slices_S16384x5632_S16384x2816_0_0) (Host.divf (broadcastInDim S16384x2816 ![] bcast_S_S16384x2816 (constant S_ .f32 0x3F800000#32))
    (addf (broadcastInDim S16384x2816 ![] bcast_S_S16384x2816 (constant S_ .f32 0x3F800000#32)) (Host.exp (Host.negf (extractStridedSlice S16384x2816 ![0, 0] u slices_S16384x5632_S16384x2816_0_0))))))
    (extractStridedSlice S16384x2816 ![0, 2816] u slices_S16384x5632_S16384x2816_0_2816)

/-- The projection back. -/
def projected (y : FVec Ideal S16384x2816 .f32) (w : FVec Ideal S2x2816x1024 .f32) : FVec Ideal S16384x1024 .f32 :=
  Host.dotGeneral dot_S16384x2816_S2816x1024_S16384x1024_1_0_0_1_n_n none y (shapeCast _ (extractStridedSlice S1x2816x1024 ![1, 0, 0] w slices_S2x2816x1024_S1x2816x1024_1_0_0) shapeCasts_S1x2816x1024_S2816x1024)

theorem widened_apply (h : FVec Ideal S16384x1024 .f32) (w : FVec Ideal S2x1024x5632 .f32) (r : Fin 16384) (j : Fin 5632) :
    Eq (α := EReal) (widened h w (ix2 r j)) (times (fun k => h (ix2 r k)) (fun k j => w (ix3 1 k j)) j) := by
  unfold times
  pointwise [widened]

theorem activated_apply (u : FVec Ideal S16384x5632 .f32) (r : Fin 16384) (j : Fin 2816) :
    Eq (α := EReal) (activated u (ix2 r j)) (swish (u (ix2 r ⟨j.val, by omega⟩)) (u (ix2 r ⟨2816 + j.val, by omega⟩))) := by
  pointwise [activated]
  rfl

theorem projected_apply (y : FVec Ideal S16384x2816 .f32) (w : FVec Ideal S2x2816x1024 .f32) (r : Fin 16384) (j : Fin 1024) :
    Eq (α := EReal) (projected y w (ix2 r j)) (times (fun k => y (ix2 r k)) (fun k j => w (ix3 1 k j)) j) := by
  unfold times
  pointwise [projected]

/-- The result at an index, of any arguments. -/
theorem res_apply (x : FVec Ideal S16384x1024 .f32) (pre post : FVec Ideal S2x1024 .f32) (wu : FVec Ideal S2x1024x5632 .f32) (wd : FVec Ideal S2x2816x1024 .f32) (r : Fin 16384) (q : Fin 1024) :
    Eq (α := EReal) (addf x (normed (projected (activated (widened (normed x pre) wu)) wd) post) (ix2 r q))
      (x (ix2 r q) + norm (times (fun f : Fin 2816 => swish (times (norm (fun k => x (ix2 r k)) fun k => pre (ix2 1 k)) (fun k j => wu (ix3 1 k j)) ⟨f.val, by omega⟩)
        (times (norm (fun k => x (ix2 r k)) fun k => pre (ix2 1 k)) (fun k j => wu (ix3 1 k j)) ⟨2816 + f.val, by omega⟩)) fun k j => wd (ix3 1 k j)) (fun k => post (ix2 1 k)) q) := by
  have hw : ∀ j : Fin 5632, widened (normed x pre) wu (ix2 r j) = times (norm (fun k => x (ix2 r k)) fun k => pre (ix2 1 k)) (fun k j => wu (ix3 1 k j)) j := fun j =>
    (widened_apply _ _ r j).trans (congrArg (fun f => times f (fun k j => wu (ix3 1 k j)) j) (funext fun k => hostNorm_apply _ _ _ _ _ _ _ _ _ _ _ r k))
  refine congrArg (fun y : EReal => (x (ix2 r q) : EReal) + y) ((hostNorm_apply _ _ _ _ _ _ _ _ _ _ _ r q).trans ?_)
  refine congrArg (fun f => norm f (fun k => post (ix2 1 k)) q) (funext fun j => (projected_apply _ _ r j).trans ?_)
  exact congrArg (fun f => times f (fun k j => wd (ix3 1 k j)) j) (funext fun f => (activated_apply _ r f).trans (congrArg₂ swish (hw _) (hw _)))

theorem res_eq (m : (ℓ : Loc nD τ sig) → Buf (Elt Ideal) ℓ) (c : Dev nD) :
    Value.res_main_v40 m c = addf (F := Ideal) (φ := .f32) (m ((c.tc : Thread nD τ).loc main_arg0)) (normed (projected (activated (widened (normed (m ((c.tc : Thread nD τ).loc main_arg0)) (m ((c.tc : Thread nD τ).loc main_arg1))) (m ((c.tc : Thread nD τ).loc main_arg3))))
      (m ((c.tc : Thread nD τ).loc main_arg4))) (m ((c.tc : Thread nD τ).loc main_arg2))) := rfl

end Cert.Reference2Ideal.Ffn

end
-- ==== Proof.FfnClaim.lean ====
/- The feed-forward's kernel and its reference end with equal results. -/
module

public import proofs.«01_k».proof.Defs
public import proofs.«01_k».proof.Proof.FfnBlocks
public import proofs.«01_k».proof.Proof.FfnRef

@[expose] public section

set_option maxRecDepth 16384

noncomputable section

namespace Cert.Proof

open Idealize.ShloMosaic Idealize.ShloMosaic.TcCoe Idealize.SL.Sem Cert.Rows

namespace Ffn

open Cert.Kernel2Ideal.Ffn Cert.Reference2Ideal.Ffn

variable (m : (ℓ : Loc Cert.Kernel2Ideal.nD Cert.Kernel2Ideal.τ Cert.Kernel2Ideal.sig) → Buf (Elt Ideal) ℓ) (c : Dev Cert.Kernel2Ideal.nD)

/-- The activations of row `r`. -/
def actOf (r : Fin 16384) (f : Fin 2816) : EReal :=
  swish (times (norm (fun k => xArr m c (ix2 r k)) fun k => preArr m c (ix2 1 k)) (fun k j => upArr m c (ix3 1 k j)) ⟨f.val, by omega⟩)
    (times (norm (fun k => xArr m c (ix2 r k)) fun k => preArr m c (ix2 1 k)) (fun k j => upArr m c (ix3 1 k j)) ⟨2816 + f.val, by omega⟩)

/-- The activations of a point's row. -/
theorem act_eq (t : Fin Cert.Kernel2Ideal.cfg0.N) (p : Fin 512) (f : Fin 2816) :
    act (Cert.Kernel2Ideal.Gen.iblk m c 0 t) (Cert.Kernel2Ideal.Gen.iblk m c 1 t) (Cert.Kernel2Ideal.Gen.iblk m c 2 t) p f = actOf m c (rowOf t p) f := by
  unfold act actOf
  refine congrArg₂ swish ?_ ?_ <;>
  · refine congrArg₂ (fun (h : Fin 1024 → EReal) (w : Fin 1024 → EReal) => ∑ k, h k * w k)
      (congrArg₂ norm (funext fun k => block_x m c t p k) (funext fun k => block_pre m c t k)) (funext fun k => ?_)
    exact block_up m c t k _

/-- The array the kernel leaves, at a row of a point. -/
theorem point_apply (t : Fin Cert.Kernel2Ideal.cfg0.N) (p : Fin 512) (q : Fin 1024) :
    Eq (α := EReal) (((Cert.Kernel2Ideal.Gen.dats m 0 c).arrAt 5 Cert.Kernel2Ideal.cfg0.N : Vec Ideal Cert.Kernel2Ideal.S16384x1024 .f32) (ix2 (rowOf t p) q))
      (xArr m c (ix2 (rowOf t p) q) + norm (times (actOf m c (rowOf t p)) fun k j => downArr m c (ix3 1 k j)) (fun k => postArr m c (ix2 1 k)) q) := by
  refine (array_apply m c t p q).trans (congrArg₂ (fun a b : EReal => a + b) (block_x m c t p q) ?_)
  refine congrArg₂ (fun f g => norm f g q) (congrArg₂ times (funext fun f => act_eq m c t p f) ?_) (funext fun k => block_post m c t k)
  exact funext fun k => funext fun j => block_down m c t k j

/-- The array the kernel leaves, at any row. -/
theorem rows_value (r : Fin 16384) (q : Fin 1024) :
    Eq (α := EReal) (((Cert.Kernel2Ideal.Gen.dats m 0 c).arrAt 5 Cert.Kernel2Ideal.cfg0.N : Vec Ideal Cert.Kernel2Ideal.S16384x1024 .f32) (ix2 r q))
      (xArr m c (ix2 r q) + norm (times (actOf m c r) fun k j => downArr m c (ix3 1 k j)) (fun k => postArr m c (ix2 1 k)) q) := by
  have hr := r.isLt
  have e : rowOf ⟨r.val / 512, lt_of_lt_of_eq (show r.val / 512 < 32 by omega) Cert.Kernel2Ideal.Gen.N_0.symm⟩ ⟨r.val % 512, by omega⟩ = r :=
    Fin.ext (show 512 * (r.val / 512) + r.val % 512 = r.val by omega)
  have key := point_apply m c ⟨r.val / 512, lt_of_lt_of_eq (show r.val / 512 < 32 by omega) Cert.Kernel2Ideal.Gen.N_0.symm⟩ ⟨r.val % 512, by omega⟩ q
  rw [e] at key
  exact key

/-- The feed-forward's value: what the reference computes is what the kernel leaves. -/
theorem value (i : Cert.Kernel2Ideal.S16384x1024.Idx) :
    Eq (α := EReal) (addf (F := Ideal) (φ := .f32) (xArr m c) (normed (projected (activated (widened (normed (xArr m c) (preArr m c)) (upArr m c))) (downArr m c)) (postArr m c)) i)
      (((Cert.Kernel2Ideal.Gen.dats m 0 c).arrAt 5 Cert.Kernel2Ideal.cfg0.N : Vec Ideal Cert.Kernel2Ideal.S16384x1024 .f32) i) := by
  rw [show i = ix2 (i 0) (i 1) from ix2_of_val i rfl rfl]
  exact (res_apply _ _ _ _ _ (i 0) (i 1)).trans (rows_value m c (i 0) (i 1)).symm

end Ffn

/-- The feed-forward's kernel and its reference end with equal results. -/
theorem algebraic2 : Cert.algebraic_Kernel2Ideal_Reference2Ideal (hKernel2Ideal := Cert.Kernel2Ideal.Gen.facts)
    (hReference2Ideal := Cert.Reference2Ideal.Gen.facts) := by
  intro m ρ m' ρ' hpre hagree
  refine ⟨fun c => (Cert.Kernel2Ideal.Gen.dats m 0 c).arrAt 5 Cert.Kernel2Ideal.cfg0.N, (θ_run Cert.Kernel2Ideal.defs _ _).mono (fun _ h c => h c) (Cert.Kernel2Ideal.Value.run_blocks m ρ), ?_⟩
  refine (θ_run Cert.Reference2Ideal.defs _ _).mono (fun _ h c => ⟨(h c).1.trans ?_, (h c).2⟩) (Cert.Reference2Ideal.Value.run (F := Ideal) m' ρ')
  obtain ⟨e0, e1, e2, e3, e4⟩ := hagree c
  rw [Cert.Reference2Ideal.Ffn.res_eq, e0, e1, e2, e3, e4]
  exact funext fun i => Ffn.value m c i

end Cert.Proof

end
-- ==== Proof.MergePoint.lean ====
/- What a block of rows of the merge holds after a point: the payload at an index. -/
module

public import proofs.«01_k».proof.Proof.Rows
public import proofs.«01_k».proof.Proof.Gen.Kernel3Ideal.Value
public import Idealize.ShloMosaic.Lib.VecWindow
public import Idealize.ShloMosaic.Lib.Pipeline.ValueKit.Basic

@[expose] public section

set_option maxRecDepth 16384

noncomputable section

namespace Cert.Kernel3Ideal.Merge

open Idealize.ShloMosaic Idealize.ShloMosaic.TcCoe Cert.Kernel3Ideal Cert.Kernel3Ideal.Gen Cert.Rows

/-- The normalised rows. -/
theorem rows_apply (v0 : Vec Ideal S512x1024 .f32) (v1 : Vec Ideal S1x1024 .f32) (p : Fin 512) (q : Fin 1024) :
    Eq (α := EReal) (k0_pay2 v0 v1 (ix2 p q)) (norm (fun k => v0 (ix2 p k)) (fun k => v1 (ix2 0 k)) q) :=
  norm_apply v0 v1 reduces_S512x1024_S512 shapeCasts_S512_S512x1 shapeCasts_S1x1024_S1x1024 broadcasts_S512x1_S512x1024 broadcasts_S1x1024_S512x1024 p q

/-- The first two branches, each by the sigmoid of its gate. -/
theorem two_apply (v0 : Vec Ideal S512x1024 .f32) (v1 : Vec Ideal S1x1024 .f32) (v16 : Vec Ideal S1024x1024 .bf16) (v20 : Vec Ideal S512x384 .bf16)
    (v21 : Vec Ideal S384x1024 .bf16) (v25 : Vec Ideal S1024x1024 .bf16) (v29 : Vec Ideal S512x384 .bf16) (v30 : Vec Ideal S384x1024 .bf16) (p : Fin 512) (q : Fin 1024) :
    Eq (α := EReal) (k0_pay3 v0 v1 v16 v20 v21 v25 v29 v30 (ix2 p q))
      (Ideal.logistic (times (norm (fun k => v0 (ix2 p k)) fun k => v1 (ix2 0 k)) (fun k j => v16 (ix2 k j)) q)
          * times (fun k => v20 (ix2 p k)) (fun k j => v21 (ix2 k j)) q
        + Ideal.logistic (times (norm (fun k => v0 (ix2 p k)) fun k => v1 (ix2 0 k)) (fun k j => v25 (ix2 k j)) q)
          * times (fun k => v29 (ix2 p k)) (fun k j => v30 (ix2 k j)) q) := by
  unfold k0_pay3 times
  simp only [← rows_apply]
  generalize k0_pay2 v0 v1 = h
  pointwise []

/-- The three branches, summed. -/
def merged (v15 : FVec Ideal S512x1024 .bf16) (v34 : FVec Ideal S512x1024 .f32) (v35 : Vec Ideal S1024x1024 .bf16) (v39 : Vec Ideal S512x512 .bf16) (v40 : Vec Ideal S512x1024 .bf16) : FVec Ideal S512x1024 .bf16 :=
  truncf .bf16 (addf v34 (mulf (logistic (matmul (φ₁ := .bf16) (φ₂ := .bf16) dot_S512x1024_S1024x1024_S512x1024_1_0_0_1_n_n none v15 (shapeCast S1024x1024 v35 shapeCasts_S1024x1024_S1024x1024) (constant S512x1024 .f32 0x00000000#32)))
    (matmul (φ₁ := .bf16) (φ₂ := .bf16) dot_S512x512_S512x1024_S512x1024_1_0_0_1_n_n none v39 (shapeCast S512x1024 v40 shapeCasts_S512x1024_S512x1024) (constant S512x1024 .f32 0x00000000#32)))) bitsLt_bf16_f32

/-- Rows of the block times the output projection. -/
def projected (v45 : FVec Ideal S512x1024 .bf16) (v46 : Vec Ideal S1024x1024 .bf16) : FVec Ideal S512x1024 .f32 :=
  matmul (φ₁ := .bf16) (φ₂ := .bf16) dot_S512x1024_S1024x1024_S512x1024_1_0_0_1_n_n none v45 (shapeCast S1024x1024 v46 shapeCasts_S1024x1024_S1024x1024) (constant S512x1024 .f32 0x00000000#32)

theorem merged_apply (v15 : FVec Ideal S512x1024 .bf16) (v34 : FVec Ideal S512x1024 .f32) (v35 : Vec Ideal S1024x1024 .bf16) (v39 : Vec Ideal S512x512 .bf16) (v40 : Vec Ideal S512x1024 .bf16) (p : Fin 512) (q : Fin 1024) :
    Eq (α := EReal) (merged v15 v34 v35 v39 v40 (ix2 p q))
      (v34 (ix2 p q) + Ideal.logistic (times (fun k => v15 (ix2 p k)) (fun k j => v35 (ix2 k j)) q) * times (fun k => v39 (ix2 p k)) (fun k j => v40 (ix2 k j)) q) := by
  unfold merged times
  pointwise []

theorem projected_apply (v45 : FVec Ideal S512x1024 .bf16) (v46 : Vec Ideal S1024x1024 .bf16) (p : Fin 512) (q : Fin 1024) :
    Eq (α := EReal) (projected v45 v46 (ix2 p q)) (times (fun k => v45 (ix2 p k)) (fun k j => v46 (ix2 k j)) q) := by
  unfold projected times
  pointwise []

/-- The block's result. -/
theorem last_apply (v0 : Vec Ideal S512x1024 .f32) (v15 : FVec Ideal S512x1024 .bf16) (v34 : FVec Ideal S512x1024 .f32) (v35 : Vec Ideal S1024x1024 .bf16) (v39 : Vec Ideal S512x512 .bf16)
    (v40 : Vec Ideal S512x1024 .bf16) (v46 : Vec Ideal S1024x1024 .bf16) (v49 : Vec Ideal S1x1024 .f32) (p : Fin 512) (q : Fin 1024) :
    Eq (α := EReal) (k0_pay1 v0 v15 v34 v35 v39 v40 v46 v49 (ix2 p q))
      (v0 (ix2 p q) + norm (times (fun k => merged v15 v34 v35 v39 v40 (ix2 p k)) fun k j => v46 (ix2 k j)) (fun k => v49 (ix2 0 k)) q) := by
  refine Eq.trans (congrArg (fun a : EReal => (v0 (ix2 p q) : EReal) + a)
    (norm_apply (projected (merged v15 v34 v35 v39 v40) v46) v49 reduces_S512x1024_S512 shapeCasts_S512_S512x1 shapeCasts_S1x1024_S1x1024 broadcasts_S512x1_S512x1024 broadcasts_S1x1024_S512x1024 p q)) ?_
  exact congrArg (fun f => (v0 (ix2 p q) : EReal) + norm f (fun k => v49 (ix2 0 k)) q) (funext fun k => projected_apply _ _ p k)

theorem load_apply {n d n' d' o : ℕ} {ty : EltTy} (x : Vec Ideal ⟨2, ![n, d]⟩ ty) (inb : ∀ a, (![0, o] : Fin 2 → ℕ) a + (![n', d'] : Fin 2 → ℕ) a ≤ (![n, d] : Fin 2 → ℕ) a)
    (p : Fin n') (q : Fin d') (i : Fin n) (j : Fin d) (hi : i.val = p.val) (hj : j.val = o + q.val) :
    View.ld x (Rect.unit (s := (⟨2, ![n, d]⟩ : Shape)) ![0, o] ![n', d'] inb) (ix2 p q) = x (ix2 i j) := by
  refine congrArg x (?_ : (Rect.unit (s := (⟨2, ![n, d]⟩ : Shape)) ![0, o] ![n', d'] inb).emb (ix2 p q) = ix2 i j)
  funext a
  revert a
  exact Fin.forall_fin_two.mpr ⟨Fin.ext ((show _ = 0 + 1 * p.val from rfl).trans (show _ = i.val from by omega)), Fin.ext ((show _ = o + 1 * q.val from rfl).trans (show _ = j.val from by omega))⟩

section Block

variable (x0 : Vec Ideal S512x1024 .f32) (x1 : Vec Ideal S512x384 .bf16) (x2 : Vec Ideal S512x384 .bf16) (x3 : Vec Ideal S512x512 .bf16) (x4 : Vec Ideal S1x1024 .f32)
  (x5 : Vec Ideal S1024x3072 .bf16) (x6 : Vec Ideal S384x1024 .bf16) (x7 : Vec Ideal S384x1024 .bf16) (x8 : Vec Ideal S512x1024 .bf16) (x9 : Vec Ideal S1024x1024 .bf16) (x10 : Vec Ideal S1x1024 .f32)

/-- A gate of row `p`: the sigmoid of its normalised row times the columns from `o`. -/
def gate (o : ℕ) (ho : o + 1024 ≤ 3072) (p : Fin 512) (q : Fin 1024) : EReal :=
  Ideal.logistic (times (norm (fun k => x0 (ix2 p k)) fun k => x4 (ix2 0 k)) (fun k (j : Fin 1024) => x5 (ix2 k ⟨o + j.val, by omega⟩)) q)

/-- The gated sum of the three branches. -/
def mixture (p : Fin 512) (q : Fin 1024) : EReal :=
  gate x0 x4 x5 0 (by omega) p q * times (fun k => x1 (ix2 p k)) (fun k j => x6 (ix2 k j)) q
    + gate x0 x4 x5 1024 (by omega) p q * times (fun k => x2 (ix2 p k)) (fun k j => x7 (ix2 k j)) q
    + gate x0 x4 x5 2048 (by omega) p q * times (fun k => x3 (ix2 p k)) (fun k j => x8 (ix2 k j)) q

/-- What the output's buffer holds after a point. -/
theorem out_apply (p : Fin 512) (q : Fin 1024) :
    Eq (α := EReal) (out0_11 x0 x1 x2 x3 x4 x5 x6 x7 x8 x9 x10 (ix2 p q))
      (x0 (ix2 p q) + norm (times (mixture x0 x1 x2 x3 x4 x5 x6 x7 x8 p) fun k j => x9 (ix2 k j)) (fun k => x10 (ix2 0 k)) q) := by
  unfold out0_11
  rw [View.canon_cons_unit_lit _ _ _ (by decide), View.ld_unit_lit _ x0 (by decide), View.ld_unit_lit _ x4 (by decide), View.ld_unit_lit _ x1 (by decide), View.ld_unit_lit _ x2 (by decide),
    View.ld_unit_lit _ x3 (by decide), View.ld_unit_lit _ x6 (by decide), View.ld_unit_lit _ x7 (by decide), View.ld_unit_lit _ x8 (by decide), View.ld_unit_lit _ x9 (by decide), View.ld_unit_lit _ x10 (by decide)]
  refine (last_apply _ _ _ _ _ _ _ _ p q).trans ?_
  refine congrArg (fun f => (x0 (ix2 p q) : EReal) + norm (times f fun k j => x9 (ix2 k j)) (fun k => x10 (ix2 0 k)) q) (funext fun l => ?_)
  rw [merged_apply, two_apply]
  have hl : ∀ o (ho : o + 1024 ≤ 3072) (inb : ∀ a, (![0, o] : Fin 2 → ℕ) a + S1024x1024.size a ≤ S1024x3072.size a) (k j : Fin 1024),
      View.ld x5 (Rect.unit (s := S1024x3072) ![0, o] S1024x1024.size inb) (ix2 k j) = x5 (ix2 k ⟨o + j.val, by omega⟩) :=
    fun o ho inb k j => load_apply x5 inb k j _ _ rfl rfl
  simp only [mixture, gate, rows_apply, hl 0 (by omega), hl 1024 (by omega), hl 2048 (by omega)]

end Block

end Cert.Kernel3Ideal.Merge

end
-- ==== Proof.MergeHost.lean ====
/- The merge's operands: what the host prepares. -/
module

public import proofs.«01_k».proof.Proof.MergePoint
public import Idealize.ShloMosaic.Lib.StableHlo.ReadAt

@[expose] public section

set_option maxRecDepth 16384

noncomputable section

namespace Cert.Kernel3Ideal.Merge

open Idealize.ShloMosaic Idealize.ShloMosaic.TcCoe Idealize.ShloMosaic.Tactic Cert.Kernel3Ideal Cert.Kernel3Ideal.Gen Cert.Rows

theorem zero_word : Eq (α := EReal) (FloatOps.sitofp (F := Ideal) .f32 0#32) 0 := by
  refine Eq.trans (rfl : _ = (((0#32 : BitVec 32).toInt : ℝ) : EReal)) ?_
  simp

theorem branch_of_two {A B : Prop} [Decidable A] [Decidable B] {f : A ∧ B → EReal} {g : B → EReal} {y z : EReal} (hA : A) (hz : y = z) (hf : ∀ h, f h = g h.2) :
    (if h : A ∧ B then f h else y) = if h : B then g h else z := by
  by_cases h : B
  · rw [dif_pos h, dif_pos ⟨hA, h⟩, hf]
  · rw [dif_neg h, dif_neg fun h' => h h'.2, hz]

variable (m : (ℓ : Loc nD τ sig) → Buf (Elt Ideal) ℓ) (c : Dev nD)

/-- The residual stream. -/
abbrev xArr : Vec Ideal S16384x1024 .f32 := m ((c : Thread nD τ).loc main_arg0)
/-- The three mixers' outputs. -/
abbrev aArr : Vec Ideal S16384x384 .bf16 := m ((c : Thread nD τ).loc main_arg1)
abbrev bArr : Vec Ideal S16384x384 .bf16 := m ((c : Thread nD τ).loc main_arg2)
abbrev cArr : Vec Ideal S16384x512 .bf16 := m ((c : Thread nD τ).loc main_arg3)
/-- The gains before and after. -/
abbrev preArr : Vec Ideal S2x1024 .f32 := m ((c : Thread nD τ).loc main_arg4)
abbrev postArr : Vec Ideal S2x1024 .f32 := m ((c : Thread nD τ).loc main_arg5)
/-- The weights of the two layers. -/
abbrev inArr : Vec Ideal S2x1024x6534 .f32 := m ((c : Thread nD τ).loc main_arg6)
abbrev branchArr : Vec Ideal S2x3x384x1024 .f32 := m ((c : Thread nD τ).loc main_arg7)
abbrev outArr : Vec Ideal S2x1024x1024 .f32 := m ((c : Thread nD τ).loc main_arg8)

theorem pre_apply (j : Fin 1024) : Eq (α := EReal) ((V m c main_v8 : Vec Ideal S1x1024 .f32) (ix2 0 j)) (preArr m c (ix2 1 j)) := by
  unfold V
  after_reads_at

theorem post_apply (j : Fin 1024) : Eq (α := EReal) ((V m c main_v24 : Vec Ideal S1x1024 .f32) (ix2 0 j)) (postArr m c (ix2 1 j)) := by
  unfold V
  after_reads_at

theorem gate_apply (k : Fin 1024) (j : Fin 3072) : Eq (α := EReal) ((V m c main_v10 : Vec Ideal S1024x3072 .bf16) (ix2 k j)) (inArr m c (ix3 1 k ⟨3462 + j.val, by omega⟩)) := by
  unfold V
  after_reads_at

theorem first_apply (k : Fin 384) (j : Fin 1024) : Eq (α := EReal) ((V m c main_v13 : Vec Ideal S384x1024 .bf16) (ix2 k j)) (branchArr m c (ix4 1 0 k j)) := by
  unfold V
  after_reads_at

theorem second_apply (k : Fin 384) (j : Fin 1024) : Eq (α := EReal) ((V m c main_v16 : Vec Ideal S384x1024 .bf16) (ix2 k j)) (branchArr m c (ix4 1 1 k j)) := by
  unfold V
  after_reads_at

theorem outer_apply (k : Fin 1024) (j : Fin 1024) : Eq (α := EReal) ((V m c main_v21 : Vec Ideal S1024x1024 .bf16) (ix2 k j)) (outArr m c (ix3 1 k j)) := by
  unfold V
  after_reads_at

/-- The third branch's weights: each of four heads' 96 rows, then 32 rows of zeros. -/
theorem third_apply (k : Fin 512) (j : Fin 1024) : Eq (α := EReal) ((V m c main_v18 : Vec Ideal S512x1024 .bf16) (ix2 k j))
    (if h : k.val % 128 < 96 then branchArr m c (ix4 1 2 ⟨k.val / 128 * 96 + k.val % 128, by omega⟩ j) else 0) := by
  unfold V
  after_reads_at
  exact branch_of_two (by omega) zero_word fun _ => rfl

end Cert.Kernel3Ideal.Merge

end
-- ==== Proof.MergeBlocks.lean ====
/- The merge's operands: what each window of a point holds, and the array that the points leave. -/
module

public import proofs.«01_k».proof.Proof.MergeHost

@[expose] public section

set_option maxRecDepth 16384

noncomputable section

namespace Cert.Kernel3Ideal.Merge

open Idealize.ShloMosaic Idealize.ShloMosaic.TcCoe Idealize.ShloMosaic.Tactic Cert.Kernel3Ideal Cert.Kernel3Ideal.Gen Cert.Rows

/-- Where each window's block of a point begins, in blocks: point `t` is rows `512 t` to `512 t + 511`. -/
theorem block_places : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = t.val ∧ win0_11.index t 1 = 0) :=
  (by decide +kernel : ∀ t : Fin grid0.N, _)

theorem block_size : ∀ t : Fin cfg0.N, win0_11.xsize (grid0.coords t) 0 = 512 ∧ win0_11.xsize (grid0.coords t) 1 = 1024 ∧ win0_11.flush t = true :=
  (by decide +kernel : ∀ t : Fin grid0.N, _)

theorem ix2_of_val {n0 n1 : ℕ} (i : (⟨2, ![n0, n1]⟩ : Shape).Idx) {a : Fin n0} {b : Fin n1} (ha : (i 0).val = a.val) (hb : (i 1).val = b.val) : i = ix2 a b := by
  funext x
  revert x
  exact Fin.forall_fin_two.mpr ⟨Fin.ext ha, Fin.ext hb⟩

variable (m : (ℓ : Loc nD τ sig) → Buf (Elt Ideal) ℓ) (c : Dev nD) (t : Fin cfg0.N)

/-- Row `p` of point `t`'s blocks. -/
def rowOf (p : Fin 512) : Fin 16384 := ⟨512 * t.val + p.val, by have := lt_of_lt_of_eq t.isLt N_0; omega⟩

theorem block_x (p : Fin 512) (k : Fin 1024) : (iblk m c 0 t : Vec Ideal S512x1024 .f32) (ix2 p k) = xArr m c (ix2 (rowOf t p) k) := by
  obtain ⟨⟨e0, e1⟩, -⟩ := block_places t
  refine (congrFun (V_main_arg0 m c) _).trans (congrArg (xArr m c) (ix2_of_val _ ?_ ?_))
  · exact (show _ = win0_0.index t 0 * 512 + 1 * p.val from rfl).trans (show _ = 512 * t.val + p.val from by omega)
  · exact (show _ = win0_0.index t 1 * 1024 + 1 * k.val from rfl).trans (show _ = k.val from by omega)

theorem block_a (p : Fin 512) (k : Fin 384) : (iblk m c 1 t : Vec Ideal S512x384 .bf16) (ix2 p k) = aArr m c (ix2 (rowOf t p) k) := by
  obtain ⟨-, ⟨e0, e1⟩, -⟩ := block_places t
  refine (congrFun (V_main_arg1 m c) _).trans (congrArg (aArr m c) (ix2_of_val _ ?_ ?_))
  · exact (show _ = win0_1.index t 0 * 512 + 1 * p.val from rfl).trans (show _ = 512 * t.val + p.val from by omega)
  · exact (show _ = win0_1.index t 1 * 384 + 1 * k.val from rfl).trans (show _ = k.val from by omega)

theorem block_b (p : Fin 512) (k : Fin 384) : (iblk m c 2 t : Vec Ideal S512x384 .bf16) (ix2 p k) = bArr m c (ix2 (rowOf t p) k) := by
  obtain ⟨-, -, ⟨e0, e1⟩, -⟩ := block_places t
  refine (congrFun (V_main_arg2 m c) _).trans (congrArg (bArr m c) (ix2_of_val _ ?_ ?_))
  · exact (show _ = win0_2.index t 0 * 512 + 1 * p.val from rfl).trans (show _ = 512 * t.val + p.val from by omega)
  · exact (show _ = win0_2.index t 1 * 384 + 1 * k.val from rfl).trans (show _ = k.val from by omega)

theorem block_c (p : Fin 512) (k : Fin 512) : (iblk m c 3 t : Vec Ideal S512x512 .bf16) (ix2 p k) = cArr m c (ix2 (rowOf t p) k) := by
  obtain ⟨-, -, -, ⟨e0, e1⟩, -⟩ := block_places t
  refine (congrFun (V_main_arg3 m c) _).trans (congrArg (cArr m c) (ix2_of_val _ ?_ ?_))
  · exact (show _ = win0_3.index t 0 * 512 + 1 * p.val from rfl).trans (show _ = 512 * t.val + p.val from by omega)
  · exact (show _ = win0_3.index t 1 * 512 + 1 * k.val from rfl).trans (show _ = k.val from by omega)

theorem block_pre (k : Fin 1024) : Eq (α := EReal) ((iblk m c 4 t : Vec Ideal S1x1024 .f32) (ix2 0 k)) (preArr m c (ix2 1 k)) := by
  obtain ⟨-, -, -, -, ⟨e0, e1⟩, -⟩ := block_places t
  refine Eq.trans (congrArg (V m c main_v8) (ix2_of_val _ ?_ ?_ : _ = ix2 0 k)) (pre_apply m c k)
  · exact (show _ = win0_4.index t 0 * 1 + 1 * 0 from rfl).trans (show _ = 0 from by omega)
  · exact (show _ = win0_4.index t 1 * 1024 + 1 * k.val from rfl).trans (show _ = k.val from by omega)

theorem block_gate (k : Fin 1024) (j : Fin 3072) : Eq (α := EReal) ((iblk m c 5 t : Vec Ideal S1024x3072 .bf16) (ix2 k j)) (inArr m c (ix3 1 k ⟨3462 + j.val, by omega⟩)) := by
  obtain ⟨-, -, -, -, -, ⟨e0, e1⟩, -⟩ := block_places t
  refine Eq.trans (congrArg (V m c main_v10) (ix2_of_val _ ?_ ?_ : _ = ix2 k j)) (gate_apply m c k j)
  · exact (show _ = win0_5.index t 0 * 1024 + 1 * k.val from rfl).trans (show _ = k.val from by omega)
  · exact (show _ = win0_5.index t 1 * 3072 + 1 * j.val from rfl).trans (show _ = j.val from by omega)

theorem block_first (k : Fin 384) (j : Fin 1024) : Eq (α := EReal) ((iblk m c 6 t : Vec Ideal S384x1024 .bf16) (ix2 k j)) (branchArr m c (ix4 1 0 k j)) := by
  obtain ⟨-, -, -, -, -, -, ⟨e0, e1⟩, -⟩ := block_places t
  refine Eq.trans (congrArg (V m c main_v13) (ix2_of_val _ ?_ ?_ : _ = ix2 k j)) (first_apply m c k j)
  · exact (show _ = win0_6.index t 0 * 384 + 1 * k.val from rfl).trans (show _ = k.val from by omega)
  · exact (show _ = win0_6.index t 1 * 1024 + 1 * j.val from rfl).trans (show _ = j.val from by omega)

theorem block_second (k : Fin 384) (j : Fin 1024) : Eq (α := EReal) ((iblk m c 7 t : Vec Ideal S384x1024 .bf16) (ix2 k j)) (branchArr m c (ix4 1 1 k j)) := by
  obtain ⟨-, -, -, -, -, -, -, ⟨e0, e1⟩, -⟩ := block_places t
  refine Eq.trans (congrArg (V m c main_v16) (ix2_of_val _ ?_ ?_ : _ = ix2 k j)) (second_apply m c k j)
  · exact (show _ = win0_7.index t 0 * 384 + 1 * k.val from rfl).trans (show _ = k.val from by omega)
  · exact (show _ = win0_7.index t 1 * 1024 + 1 * j.val from rfl).trans (show _ = j.val from by omega)

theorem block_third (k : Fin 512) (j : Fin 1024) : Eq (α := EReal) ((iblk m c 8 t : Vec Ideal S512x1024 .bf16) (ix2 k j))
    (if h : k.val % 128 < 96 then branchArr m c (ix4 1 2 ⟨k.val / 128 * 96 + k.val % 128, by omega⟩ j) else 0) := by
  obtain ⟨-, -, -, -, -, -, -, -, ⟨e0, e1⟩, -⟩ := block_places t
  refine Eq.trans (congrArg (V m c main_v18) (ix2_of_val _ ?_ ?_ : _ = ix2 k j)) (third_apply m c k j)
  · exact (show _ = win0_8.index t 0 * 512 + 1 * k.val from rfl).trans (show _ = k.val from by omega)
  · exact (show _ = win0_8.index t 1 * 1024 + 1 * j.val from rfl).trans (show _ = j.val from by omega)

theorem block_outer (k : Fin 1024) (j : Fin 1024) : Eq (α := EReal) ((iblk m c 9 t : Vec Ideal S1024x1024 .bf16) (ix2 k j)) (outArr m c (ix3 1 k j)) := by
  obtain ⟨-, -, -, -, -, -, -, -, -, ⟨e0, e1⟩, -⟩ := block_places t
  refine Eq.trans (congrArg (V m c main_v21) (ix2_of_val _ ?_ ?_ : _ = ix2 k j)) (outer_apply m c k j)
  · exact (show _ = win0_9.index t 0 * 1024 + 1 * k.val from rfl).trans (show _ = k.val from by omega)
  · exact (show _ = win0_9.index t 1 * 1024 + 1 * j.val from rfl).trans (show _ = j.val from by omega)

theorem block_post (k : Fin 1024) : Eq (α := EReal) ((iblk m c 10 t : Vec Ideal S1x1024 .f32) (ix2 0 k)) (postArr m c (ix2 1 k)) := by
  obtain ⟨-, -, -, -, -, -, -, -, -, -, ⟨e0, e1⟩, -⟩ := block_places t
  refine Eq.trans (congrArg (V m c main_v24) (ix2_of_val _ ?_ ?_ : _ = ix2 0 k)) (post_apply m c k)
  · exact (show _ = win0_10.index t 0 * 1 + 1 * 0 from rfl).trans (show _ = 0 from by omega)
  · exact (show _ = win0_10.index t 1 * 1024 + 1 * k.val from rfl).trans (show _ = k.val from by omega)

/-- An array's row `rowOf t p`, as the block of point `t` reads it, if the block is the leading part of `X`. -/
theorem read_cut (A : Vec Ideal S16384x1024 .f32) (X : Vec Ideal S512x1024 .f32)
    (h : ((cfg0.win 11).blk t).view.read (Elt Ideal) A = (cfg0.win 11).cut (grid0.coords t) X) (p : Fin 512) (q : Fin 1024) :
    A (ix2 (rowOf t p) q) = X (ix2 p q) := by
  obtain ⟨h0, h1, -⟩ := block_size t
  obtain ⟨-, -, -, -, -, -, -, -, -, -, -, ⟨e0, e1⟩⟩ := block_places t
  have hy : ∀ a : Fin 2, ((![p.val, q.val] : Fin 2 → ℕ) a) < win0_11.xsize (grid0.coords t) a :=
    Fin.forall_fin_two.mpr ⟨lt_of_lt_of_eq p.isLt h0.symm, lt_of_lt_of_eq q.isLt h1.symm⟩
  have key := congrFun h (fun a => ⟨_, hy a⟩)
  refine Eq.trans (congrArg A (ix2_of_val _ ?_ ?_ : _ = ix2 (rowOf t p) q)).symm (Eq.trans key ?_)
  · exact (show _ = win0_11.index t 0 * 512 + 1 * p.val from rfl).trans (show _ = 512 * t.val + p.val from by omega)
  · exact (show _ = win0_11.index t 1 * 1024 + 1 * q.val from rfl).trans (show _ = q.val from by omega)
  · exact congrArg X (ix2_of_val _ rfl rfl)

/-- The array the kernel leaves, at row `p` of point `t`: what the output's buffer holds after it. -/
theorem array_apply (p : Fin 512) (q : Fin 1024) :
    Eq (α := EReal) (((dats m 0 c).arrAt 11 cfg0.N : Vec Ideal S16384x1024 .f32) (ix2 (rowOf t p) q))
      (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)) :=
  read_cut t _ _ ((Value.blocks11 m c t (block_size t).2.2).trans (Value.flushed11 m c t)) p q

end Cert.Kernel3Ideal.Merge

end
-- ==== Proof.MergeRef.lean ====
/- What the merge's reference computes: its result at an index. -/
module

public import proofs.«01_k».proof.Proof.Rows
public import proofs.«01_k».proof.Proof.Gen.Reference3Ideal.Run

@[expose] public section

set_option maxRecDepth 16384

noncomputable section

namespace Cert.Reference3Ideal.Merge

open Cert.Reference3Ideal Cert.Reference3Ideal.Gen Idealize.ShloMosaic Idealize.ShloMosaic.TcCoe Cert.Rows

/-- The normalised rows, with the gain `g`. -/
abbrev normed (x : FVec Ideal S16384x1024 .f32) (g : FVec Ideal S2x1024 .f32) : FVec Ideal S16384x1024 .f32 :=
  hostNorm x g slices_S2x1024_S1x1024_1_0 shapeCasts_S1x1024_S1024 reducesTo_S16384x1024_S16384_d1 h_S_ bcast_S16384_S16384x1_0 bcast_S_S16384x1
    bcast_S16384x1_S16384x1024_0_1 bcast_S1024_S1x1024_1 bcast_S1x1024_S16384x1024_0_1

/-- The gates' arguments, one row of 1024 for each branch. -/
def logits (h : FVec Ideal S16384x1024 .f32) (w : FVec Ideal S2x1024x6534 .f32) : FVec Ideal S16384x3x1024 .f32 :=
  shapeCast _ (extractStridedSlice S16384x3072 ![0, 3462] (Host.dotGeneral dot_S16384x1024_S1024x6534_S16384x6534_1_0_0_1_n_n none h (shapeCast _ (extractStridedSlice S1x1024x6534 ![1, 0, 0] w slices_S2x1024x6534_S1x1024x6534_1_0_0) shapeCasts_S1x1024x6534_S1024x6534)) slices_S16384x6534_S16384x3072_0_3462) shapeCasts_S16384x3072_S16384x3x1024

/-- The sigmoid. -/
def sigmoid (z : FVec Ideal S16384x3x1024 .f32) : FVec Ideal S16384x3x1024 .f32 :=
  Host.divf (broadcastInDim S16384x3x1024 ![] bcast_S_S16384x3x1024 (constant S_ .f32 0x3F800000#32)) (addf (broadcastInDim S16384x3x1024 ![] bcast_S_S16384x3x1024 (constant S_ .f32 0x3F800000#32)) (Host.exp (Host.negf z)))

/-- The three mixers' outputs, side by side. -/
def sides (a b : FVec Ideal S16384x384 .bf16) (c : FVec Ideal S16384x512 .bf16) : FVec Ideal S16384x3x384 .f32 :=
  (concatenate S16384x3x384 1 [⟨S16384x1x384, ((broadcastInDim S16384x1x384 ![0, 2] bcast_S16384x384_S16384x1x384_0_2 (extf .f32 a bitsLt_bf16_f32)) : (⟨S16384x1x384, .f32⟩ : BufTy).Contents (Elt Ideal))⟩, ⟨S16384x1x384, ((broadcastInDim S16384x1x384 ![0, 2] bcast_S16384x384_S16384x1x384_0_2 (extf .f32 b bitsLt_bf16_f32)) : (⟨S16384x1x384, .f32⟩ : BufTy).Contents (Elt Ideal))⟩, ⟨S16384x1x384, ((broadcastInDim S16384x1x384 ![0, 2] bcast_S16384x384_S16384x1x384_0_2 (shapeCast _ (extractStridedSlice S16384x4x96 ![0, 0, 0] (shapeCast _ (extf .f32 c bitsLt_bf16_f32) shapeCasts_S16384x512_S16384x4x128) slices_S16384x4x128_S16384x4x96_0_0_0) shapeCasts_S16384x4x96_S16384x384)) : (⟨S16384x1x384, .f32⟩ : BufTy).Contents (Elt Ideal))⟩] concatenates_S16384x1x384_S16384x1x384_S16384x1x384_S16384x3x384_d1 : (⟨S16384x3x384, .f32⟩ : BufTy).Contents (Elt Ideal))

/-- Each mixer's output by its branch's weights. -/
def branches (o : FVec Ideal S16384x3x384 .f32) (w : FVec Ideal S2x3x384x1024 .f32) : FVec Ideal S16384x3x1024 .f32 :=
  transpose S16384x3x1024 [2, 0, 1] (Host.dotGeneral dot_S3x384x1024_S16384x3x384_S3x1024x16384_1_2_2_0_0_1 none (shapeCast _ (extractStridedSlice S1x3x384x1024 ![1, 0, 0, 0] w slices_S2x3x384x1024_S1x3x384x1024_1_0_0_0) shapeCasts_S1x3x384x1024_S3x384x1024) o) transposes_S3x1024x16384_S16384x3x1024_2_0_1

/-- The gated branches, summed. -/
def gathered (s u : FVec Ideal S16384x3x1024 .f32) : FVec Ideal S16384x1024 .f32 :=
  Host.reduceAdd (mulf s u) (constant S_ .f32 0x00000000#32) reducesTo_S16384x3x1024_S16384x1024_d1 h_S_

/-- The output projection. -/
def projected (y : FVec Ideal S16384x1024 .f32) (w : FVec Ideal S2x1024x1024 .f32) : FVec Ideal S16384x1024 .f32 :=
  Host.dotGeneral dot_S16384x1024_S1024x1024_S16384x1024_1_0_0_1_n_n none y (shapeCast _ (extractStridedSlice S1x1024x1024 ![1, 0, 0] w slices_S2x1024x1024_S1x1024x1024_1_0_0) shapeCasts_S1x1024x1024_S1024x1024)

theorem logits_apply (h : FVec Ideal S16384x1024 .f32) (w : FVec Ideal S2x1024x6534 .f32) (r : Fin 16384) (n : Fin 3) (j : Fin 1024) :
    Eq (α := EReal) (logits h w (ix3 r n j)) (times (fun k => h (ix2 r k)) (fun k (j : Fin 1024) => w (ix3 1 k ⟨3462 + (n.val * 1024 + j.val), by omega⟩)) j) := by
  unfold times
  pointwise [logits]

theorem sigmoid_apply (z : FVec Ideal S16384x3x1024 .f32) (r : Fin 16384) (n : Fin 3) (j : Fin 1024) :
    Eq (α := EReal) (sigmoid z (ix3 r n j)) (Ideal.logistic (z (ix3 r n j))) := by
  pointwise [sigmoid]
  rfl

theorem branches_apply (o : FVec Ideal S16384x3x384 .f32) (w : FVec Ideal S2x3x384x1024 .f32) (r : Fin 16384) (n : Fin 3) (j : Fin 1024) :
    Eq (α := EReal) (branches o w (ix3 r n j)) (times (fun k => o (ix3 r n k)) (fun k j => w (ix4 1 n k j)) j) := by
  unfold times
  pointwise [branches]
  exact Finset.sum_congr rfl fun x _ => mul_comm _ _

theorem gathered_apply (s u : FVec Ideal S16384x3x1024 .f32) (r : Fin 16384) (j : Fin 1024) :
    Eq (α := EReal) (gathered s u (ix2 r j)) (∑ n : Fin 3, s (ix3 r n j) * u (ix3 r n j)) := by
  pointwise [gathered]

theorem projected_apply (y : FVec Ideal S16384x1024 .f32) (w : FVec Ideal S2x1024x1024 .f32) (r : Fin 16384) (j : Fin 1024) :
    Eq (α := EReal) (projected y w (ix2 r j)) (times (fun k => y (ix2 r k)) (fun k j => w (ix3 1 k j)) j) := by
  unfold times
  pointwise [projected]

theorem sides_apply (a b : FVec Ideal S16384x384 .bf16) (c : FVec Ideal S16384x512 .bf16) (r : Fin 16384) (k : Fin 384) :
    Eq (α := EReal) (sides a b c (ix3 r 0 k)) (a (ix2 r k)) ∧ Eq (α := EReal) (sides a b c (ix3 r 1 k)) (b (ix2 r k))
      ∧ Eq (α := EReal) (sides a b c (ix3 r 2 k)) (c (ix2 r ⟨k.val / 96 * 128 + k.val % 96, by omega⟩)) := by
  refine ⟨?_, ?_, ?_⟩
  · pointwise [sides]
  · pointwise [sides]
  · pointwise [sides]

/-- The result at an index, of any arguments. -/
theorem res_apply (x : FVec Ideal S16384x1024 .f32) (a b : FVec Ideal S16384x384 .bf16) (c : FVec Ideal S16384x512 .bf16) (pre post : FVec Ideal S2x1024 .f32)
    (wi : FVec Ideal S2x1024x6534 .f32) (wb : FVec Ideal S2x3x384x1024 .f32) (wo : FVec Ideal S2x1024x1024 .f32) (r : Fin 16384) (q : Fin 1024) :
    Eq (α := EReal) (addf x (normed (projected (gathered (sigmoid (logits (normed x pre) wi)) (branches (sides a b c) wb)) wo) post) (ix2 r q))
      (x (ix2 r q) + norm (times (fun l => ∑ n : Fin 3, Ideal.logistic (times (norm (fun k => x (ix2 r k)) fun k => pre (ix2 1 k)) (fun k (j : Fin 1024) => wi (ix3 1 k ⟨3462 + (n.val * 1024 + j.val), by omega⟩)) l)
        * times (fun k => sides a b c (ix3 r n k)) (fun k j => wb (ix4 1 n k j)) l) fun k j => wo (ix3 1 k j)) (fun k => post (ix2 1 k)) q) := by
  refine congrArg (fun y : EReal => (x (ix2 r q) : EReal) + y) ((hostNorm_apply _ _ _ _ _ _ _ _ _ _ _ r q).trans ?_)
  refine congrArg (fun f => norm f (fun k => post (ix2 1 k)) q) (funext fun j => (projected_apply _ _ r j).trans ?_)
  refine congrArg (fun f => times f (fun k j => wo (ix3 1 k j)) j) (funext fun l => (gathered_apply _ _ r l).trans ?_)
  refine Finset.sum_congr rfl fun n _ => congrArg₂ (fun a b : EReal => a * b) ((sigmoid_apply _ r n l).trans ?_) (branches_apply _ _ r n l)
  refine congrArg Ideal.logistic ((logits_apply _ _ r n l).trans ?_)
  exact congrArg (fun f => times f (fun k (j : Fin 1024) => wi (ix3 1 k ⟨3462 + (n.val * 1024 + j.val), by omega⟩)) l) (funext fun k => hostNorm_apply _ _ _ _ _ _ _ _ _ _ _ r k)

theorem res_eq (m : (ℓ : Loc nD τ sig) → Buf (Elt Ideal) ℓ) (c : Dev nD) :
    Value.res_main_v60 m c = addf (F := Ideal) (φ := .f32) (m ((c.tc : Thread nD τ).loc main_arg0)) (normed (projected (gathered (sigmoid (logits (normed (m ((c.tc : Thread nD τ).loc main_arg0)) (m ((c.tc : Thread nD τ).loc main_arg4))) (m ((c.tc : Thread nD τ).loc main_arg6))))
      (branches (sides (m ((c.tc : Thread nD τ).loc main_arg1)) (m ((c.tc : Thread nD τ).loc main_arg2)) (m ((c.tc : Thread nD τ).loc main_arg3))) (m ((c.tc : Thread nD τ).loc main_arg7)))) (m ((c.tc : Thread nD τ).loc main_arg8))) (m ((c.tc : Thread nD τ).loc main_arg5))) := rfl

end Cert.Reference3Ideal.Merge

end
-- ==== Proof.MergeEquation.lean ====
/- The merge's kernel leaves what its reference returns. -/
module

public import proofs.«01_k».proof.Proof.MergeBlocks
public import proofs.«01_k».proof.Proof.MergeRef

@[expose] public section

set_option maxRecDepth 16384

noncomputable section

namespace Cert.Proof

open Idealize.ShloMosaic Idealize.ShloMosaic.TcCoe Cert.Rows

/-- A sum over four heads of 96 rows, each followed by 32 rows of zeros, is the sum over the 384 rows. -/
theorem sum_padded (f : Fin 512 → EReal) (g : Fin 384 → EReal) :
    (∑ k : Fin 512, f k * (if h : k.val % 128 < 96 then g ⟨k.val / 128 * 96 + k.val % 128, by omega⟩ else 0))
      = ∑ k : Fin 384, f ⟨k.val / 96 * 128 + k.val % 96, by omega⟩ * g k := by
  symm
  refine Finset.sum_of_injOn (fun k : Fin 384 => (⟨k.val / 96 * 128 + k.val % 96, by omega⟩ : Fin 512)) ?_ (fun _ _ => Finset.mem_coe.mpr (Finset.mem_univ _)) ?_ ?_
  · intro a _ b _ e
    have e' : a.val / 96 * 128 + a.val % 96 = b.val / 96 * 128 + b.val % 96 := congrArg Fin.val e
    exact Fin.ext (by omega)
  · intro k _ hk
    by_cases h : k.val % 128 < 96
    · refine absurd ⟨⟨k.val / 128 * 96 + k.val % 128, by omega⟩, Finset.mem_coe.mpr (Finset.mem_univ _), Fin.ext ?_⟩ hk
      show (k.val / 128 * 96 + k.val % 128) / 96 * 128 + (k.val / 128 * 96 + k.val % 128) % 96 = k.val
      omega
    · rw [dif_neg h, mul_zero]
  · intro k _
    have h : (k.val / 96 * 128 + k.val % 96) % 128 < 96 := by omega
    rw [dif_pos h]
    refine congrArg (fun a : EReal => f ⟨k.val / 96 * 128 + k.val % 96, by omega⟩ * a) (congrArg g (Fin.ext ?_))
    show k.val = (k.val / 96 * 128 + k.val % 96) / 128 * 96 + (k.val / 96 * 128 + k.val % 96) % 128
    omega

section Kernel

open Cert.Kernel3Ideal Cert.Kernel3Ideal.Gen Cert.Kernel3Ideal.Merge

variable (m : (ℓ : Loc nD τ sig) → Buf (Elt Ideal) ℓ) (c : Dev nD)

/-- The gate of branch `n` in row `r`, from the arrays. -/
def gateOf (n : Fin 3) (r : Fin 16384) (l : Fin 1024) : EReal :=
  Ideal.logistic (times (norm (fun k => xArr m c (ix2 r k)) fun k => preArr m c (ix2 1 k)) (fun k (j : Fin 1024) => inArr m c (ix3 1 k ⟨3462 + (n.val * 1024 + j.val), by omega⟩)) l)

theorem gate_eq (n : Fin 3) (o : ℕ) (ho : o + 1024 ≤ 3072) (hn : o = n.val * 1024) (t : Fin cfg0.N) (p : Fin 512) (l : Fin 1024) :
    gate (iblk m c 0 t) (iblk m c 4 t) (iblk m c 5 t) o ho p l = gateOf m c n (rowOf t p) l := by
  subst hn
  unfold gate gateOf
  simp only [block_x, block_pre, block_gate]

/-- The gated sum of the branches in row `r`, from the arrays. -/
def mixtureOf (r : Fin 16384) (l : Fin 1024) : EReal :=
  gateOf m c 0 r l * times (fun k => aArr m c (ix2 r k)) (fun k j => branchArr m c (ix4 1 0 k j)) l
    + gateOf m c 1 r l * times (fun k => bArr m c (ix2 r k)) (fun k j => branchArr m c (ix4 1 1 k j)) l
    + gateOf m c 2 r l * times (fun k : Fin 384 => cArr m c (ix2 r ⟨k.val / 96 * 128 + k.val % 96, by omega⟩)) (fun k j => branchArr m c (ix4 1 2 k j)) l

theorem third_eq (t : Fin cfg0.N) (p : Fin 512) (l : Fin 1024) :
    times (fun k => (iblk m c 3 t : Vec Ideal S512x512 .bf16) (ix2 p k)) (fun k j => (iblk m c 8 t : Vec Ideal S512x1024 .bf16) (ix2 k j)) l
      = times (fun k : Fin 384 => cArr m c (ix2 (rowOf t p) ⟨k.val / 96 * 128 + k.val % 96, by omega⟩)) (fun k j => branchArr m c (ix4 1 2 k j)) l := by
  unfold times
  refine Eq.trans (Finset.sum_congr rfl fun k _ => congrArg₂ (fun a b : EReal => a * b) (block_c m c t p k) (block_third m c t k l)) ?_
  exact sum_padded (fun k => cArr m c (ix2 (rowOf t p) k)) (fun k => branchArr m c (ix4 1 2 k l))

theorem mixture_eq (t : Fin cfg0.N) (p : Fin 512) (l : Fin 1024) :
    mixture (iblk m c 0 t) (iblk m c 1 t) (iblk m c 2 t) (iblk m c 3 t) (iblk m c 4 t) (iblk m c 5 t) (iblk m c 6 t) (iblk m c 7 t) (iblk m c 8 t) p l
      = mixtureOf m c (rowOf t p) l := by
  unfold mixture mixtureOf
  rw [gate_eq m c 0 0 (by omega) rfl, gate_eq m c 1 1024 (by omega) rfl, gate_eq m c 2 2048 (by omega) rfl, third_eq]
  simp only [block_a, block_b, block_first, block_second]

/-- The array the kernel leaves, at a row of a point's block. -/
theorem point_apply (t : Fin cfg0.N) (p : Fin 512) (q : Fin 1024) :
    Eq (α := EReal) (((dats m 0 c).arrAt 11 cfg0.N : Vec Ideal S16384x1024 .f32) (ix2 (rowOf t p) q))
      (xArr m c (ix2 (rowOf t p) q) + norm (times (mixtureOf m c (rowOf t p)) fun k j => outArr m c (ix3 1 k j)) (fun k => postArr m c (ix2 1 k)) q) := by
  refine (array_apply m c t p q).trans ((out_apply _ _ _ _ _ _ _ _ _ _ _ p q).trans ?_)
  rw [show mixture (iblk m c 0 t) (iblk m c 1 t) (iblk m c 2 t) (iblk m c 3 t) (iblk m c 4 t) (iblk m c 5 t) (iblk m c 6 t) (iblk m c 7 t) (iblk m c 8 t) p
    = mixtureOf m c (rowOf t p) from funext fun l => mixture_eq m c t p l]
  simp only [block_x, block_outer, block_post]

/-- The array the kernel leaves. -/
theorem merge_apply (r : Fin 16384) (q : Fin 1024) :
    Eq (α := EReal) (((dats m 0 c).arrAt 11 cfg0.N : Vec Ideal S16384x1024 .f32) (ix2 r q))
      (xArr m c (ix2 r q) + norm (times (mixtureOf m c r) fun k j => outArr m c (ix3 1 k j)) (fun k => postArr m c (ix2 1 k)) q) := by
  have hr := r.isLt
  have e : rowOf ⟨r.val / 512, lt_of_lt_of_eq (show r.val / 512 < 32 by omega) N_0.symm⟩ ⟨r.val % 512, by omega⟩ = r :=
    Fin.ext (show 512 * (r.val / 512) + r.val % 512 = r.val by omega)
  have key := point_apply m c ⟨r.val / 512, lt_of_lt_of_eq (show r.val / 512 < 32 by omega) N_0.symm⟩ ⟨r.val % 512, by omega⟩ q
  rw [e] at key
  exact key

end Kernel

end Cert.Proof

end
-- ==== Proof.MergeClaim.lean ====
/- The merge's kernel and its reference end with equal results. -/
module

public import proofs.«01_k».proof.Defs
public import proofs.«01_k».proof.Proof.MergeEquation

@[expose] public section

set_option maxRecDepth 16384

noncomputable section

namespace Cert.Proof

open Idealize.ShloMosaic Idealize.ShloMosaic.TcCoe Idealize.SL.Sem Cert.Rows Cert.Kernel3Ideal.Merge Cert.Reference3Ideal.Merge

variable (m : (ℓ : Loc Cert.Kernel3Ideal.nD Cert.Kernel3Ideal.τ Cert.Kernel3Ideal.sig) → Buf (Elt Ideal) ℓ) (c : Dev Cert.Kernel3Ideal.nD)

/-- The branches of the reference, summed. -/
theorem branches_eq (r : Fin 16384) (l : Fin 1024) :
    (∑ n : Fin 3, gateOf m c n r l * times (fun k => sides (aArr m c) (bArr m c) (cArr m c) (ix3 r n k)) (fun k j => branchArr m c (ix4 1 n k j)) l)
      = mixtureOf m c r l := by
  rw [Fin.sum_univ_three, mixtureOf]
  simp only [(sides_apply (aArr m c) (bArr m c) (cArr m c) r _).1, (sides_apply (aArr m c) (bArr m c) (cArr m c) r _).2.1, (sides_apply (aArr m c) (bArr m c) (cArr m c) r _).2.2]

/-- The merge's value: what the reference computes is what the kernel leaves. -/
theorem merge_value (i : Cert.Kernel3Ideal.S16384x1024.Idx) :
    Eq (α := EReal) (addf (F := Ideal) (φ := .f32) (xArr m c) (normed (projected (gathered (sigmoid (logits (normed (xArr m c) (preArr m c)) (inArr m c)))
        (branches (sides (aArr m c) (bArr m c) (cArr m c)) (branchArr m c))) (outArr m c)) (postArr m c)) i)
      (((Cert.Kernel3Ideal.Gen.dats m 0 c).arrAt 11 Cert.Kernel3Ideal.cfg0.N : Vec Ideal Cert.Kernel3Ideal.S16384x1024 .f32) i) := by
  rw [show i = ix2 (i 0) (i 1) from ix2_of_val i rfl rfl]
  refine (res_apply _ _ _ _ _ _ _ _ _ (i 0) (i 1)).trans (Eq.trans ?_ (merge_apply m c (i 0) (i 1)).symm)
  exact congrArg (fun f => (xArr m c (ix2 (i 0) (i 1)) : EReal) + norm (times f fun k j => outArr m c (ix3 1 k j)) (fun k => postArr m c (ix2 1 k)) (i 1))
    (funext fun l => branches_eq m c (i 0) l)

/-- The merge's kernel and its reference end with equal results. -/
theorem algebraic3 : Cert.algebraic_Kernel3Ideal_Reference3Ideal (hKernel3Ideal := Cert.Kernel3Ideal.Gen.facts)
    (hReference3Ideal := Cert.Reference3Ideal.Gen.facts) := by
  intro m ρ m' ρ' hpre hagree
  refine ⟨fun c => (Cert.Kernel3Ideal.Gen.dats m 0 c).arrAt 11 Cert.Kernel3Ideal.cfg0.N, (θ_run Cert.Kernel3Ideal.defs _ _).mono (fun _ h c => h c) (Cert.Kernel3Ideal.Value.run_blocks m ρ), ?_⟩
  refine (θ_run Cert.Reference3Ideal.defs _ _).mono (fun _ h c => ⟨(h c).1.trans ?_, (h c).2⟩) (Cert.Reference3Ideal.Value.run (F := Ideal) m' ρ')
  obtain ⟨e0, e1, e2, e3, e4, e5, e6, e7, e8⟩ := hagree c
  rw [Cert.Reference3Ideal.Merge.res_eq, e0, e1, e2, e3, e4, e5, e6, e7, e8]
  exact funext fun i => merge_value m c i

end Cert.Proof

end
-- ==== Proof.InprojPoint.lean ====
/- What a block of the input projection holds after a point: its columns, the rotated ones, the log forget values. -/
module

public import proofs.«01_k».proof.Proof.Rows
public import proofs.«01_k».proof.Proof.Gen.Kernel4Ideal.Value
public import Idealize.ShloMosaic.Lib.VecWindow
public import Idealize.ShloMosaic.Lib.Pipeline.ValueKit.Basic

@[expose] public section

set_option maxRecDepth 16384

noncomputable section

namespace Cert.Kernel4Ideal.Inproj

open Idealize.ShloMosaic Idealize.ShloMosaic.TcCoe Cert.Kernel4Ideal Cert.Kernel4Ideal.Gen Cert.Rows

/-- The normalised rows. -/
theorem rows_apply (v0 : Vec Ideal S512x1024 .f32) (v1 : Vec Ideal S1x1024 .f32) (p : Fin 512) (q : Fin 1024) :
    Eq (α := EReal) (k0_pay7 v0 v1 (ix2 p q)) (norm (fun k => v0 (ix2 p k)) (fun k => v1 (ix2 0 k)) q) :=
  norm_apply v0 v1 reduces_S512x1024_S512 shapeCasts_S512_S512x1 shapeCasts_S1x1024_S1x1024 broadcasts_S512x1_S512x1024 broadcasts_S1x1024_S512x1024 p q

/-- The first half of a product's columns. -/
theorem left_apply (h : FVec Ideal S512x1024 .bf16) (w : Vec Ideal S1024x768 .bf16) (p : Fin 512) (q : Fin 384) :
    Eq (α := EReal) (k0_pay19 h w (ix2 p q)) (∑ k, h (ix2 p k) * w (ix2 k ⟨q.val, by omega⟩)) := by
  pointwise [k0_pay19, k0_pay18]

/-- The second half. -/
theorem right_apply (h : FVec Ideal S512x1024 .bf16) (w : Vec Ideal S1024x768 .bf16) (p : Fin 512) (q : Fin 384) :
    Eq (α := EReal) (k0_pay22 h w (ix2 p q)) (∑ k, h (ix2 p k) * w (ix2 k ⟨384 + q.val, by omega⟩)) := by
  pointwise [k0_pay22, k0_pay18]

/-- The last product's first 384 columns, and its next 128 with the bias. -/
theorem last_apply (h : FVec Ideal S512x1024 .bf16) (w : Vec Ideal S1024x512 .bf16) (p : Fin 512) (q : Fin 384) :
    Eq (α := EReal) (k0_pay3 h w (ix2 p q)) (∑ k, h (ix2 p k) * w (ix2 k ⟨q.val, by omega⟩)) := by
  pointwise [k0_pay3, k0_pay2]

/-- The logarithm of the sigmoid, as the kernel takes it. -/
def logSig (f : EReal) : EReal := min f 0 - Ideal.log1p (Ideal.exp (0 - max f (-f)))

theorem forget_apply (h : FVec Ideal S512x1024 .bf16) (w : Vec Ideal S1024x512 .bf16) (b : Vec Ideal S1x128 .f32) (p : Fin 512) (q : Fin 128) :
    Eq (α := EReal) (k0_pay6 h w b (ix2 p q)) (logSig ((∑ k, h (ix2 p k) * w (ix2 k ⟨384 + q.val, by omega⟩)) + b (ix2 0 q))) := by
  unfold logSig
  pointwise [k0_pay6, k0_pay2]
  rfl

/-- The partial rotation of 384 columns, by three tables. -/
def turned (f C A B : Fin 384 → EReal) (j : Fin 384) : EReal :=
  f j * C j + f ⟨(j.val + 384 - 378) % 384, Nat.mod_lt _ (by omega)⟩ * A j + f ⟨(j.val + 384 - 6) % 384, Nat.mod_lt _ (by omega)⟩ * B j

theorem turned_left (v61 : FVec Ideal S512x768 .f32) (v63 v67 v72 : Vec Ideal S512x384 .f32) (p : Fin 512) (q : Fin 384) :
    Eq (α := EReal) (k0_pay26 v61 v63 v67 v72 (ix2 p q))
      (turned (fun j => v61 (ix2 p ⟨j.val, by omega⟩)) (fun j => v63 (ix2 p j)) (fun j => v67 (ix2 p j)) (fun j => v72 (ix2 p j)) q
        * FloatOps.ofBits (F := Ideal) .f32 0x3E13CD3A#32) := by
  unfold turned
  pointwise [k0_pay26]

theorem turned_right (v61 : FVec Ideal S512x768 .f32) (v63 v67 v72 : Vec Ideal S512x384 .f32) (p : Fin 512) (q : Fin 384) :
    Eq (α := EReal) (k0_pay27 v61 v63 v67 v72 (ix2 p q))
      (turned (fun j => v61 (ix2 p ⟨384 + j.val, by omega⟩)) (fun j => v63 (ix2 p j)) (fun j => v67 (ix2 p j)) (fun j => v72 (ix2 p j)) q) := by
  unfold turned
  pointwise [k0_pay27]

theorem tall_apply (v : FVec Ideal S512x384 .f32) (p : Fin 512) (q : Fin 384) :
    Eq (α := EReal) (k0_pay1 (transpose S384x512 [1, 0] v transposes_S512x384_p1_0_S384x512) (ix4 0 0 q p)) (v (ix2 p q)) := by
  pointwise [k0_pay1]

theorem product_apply (h : FVec Ideal S512x1024 .bf16) (w : Vec Ideal S1024x768 .bf16) (p : Fin 512) (q : Fin 768) :
    Eq (α := EReal) (k0_pay25 h w (ix2 p q)) (∑ k, h (ix2 p k) * w (ix2 k q)) := by
  pointwise [k0_pay25]

theorem ix2_of_val {n0 n1 : ℕ} (i : (⟨2, ![n0, n1]⟩ : Shape).Idx) {a : Fin n0} {b : Fin n1} (ha : (i 0).val = a.val) (hb : (i 1).val = b.val) : i = ix2 a b := by
  funext x
  revert x
  exact Fin.forall_fin_two.mpr ⟨Fin.ext ha, Fin.ext hb⟩

theorem ix4_of_val {n0 n1 n2 n3 : ℕ} (i : (⟨4, ![n0, n1, n2, n3]⟩ : Shape).Idx) {a : Fin n0} {b : Fin n1} {d : Fin n2} {e : Fin n3}
    (ha : (i 0).val = a.val) (hb : (i 1).val = b.val) (hd : (i 2).val = d.val) (he : (i 3).val = e.val) : i = ix4 a b d e := by
  funext x
  revert x
  exact Fin.forall_fin_succ.mpr ⟨Fin.ext ha, Fin.forall_fin_succ.mpr ⟨Fin.ext hb, Fin.forall_fin_two.mpr ⟨Fin.ext hd, Fin.ext he⟩⟩⟩

/-- Column `j` of the product of a row with the weights. -/
def col (x0 : Vec Ideal S512x1024 .f32) (x1 : Vec Ideal S1x1024 .f32) (x2 : Vec Ideal S1024x3584 .bf16) (p : Fin 512) (j : Fin 3584) : EReal :=
  times (norm (fun k => x0 (ix2 p k)) fun k => x1 (ix2 0 k)) (fun k j => x2 (ix2 k j)) j

section Run

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3584 .bf16) (harg3 : arg3.IsWhole) (arg4 : Memref sig .tc .vmem S1x128 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S512x384 .f32) (harg7 : arg7.IsWhole) (arg11 : Memref sig .tc .vmem S512x2304 .bf16) (harg11 : arg11.IsWhole) (arg12 : Memref sig .tc .vmem S1x1x768x512 .f32) (harg12 : arg12.IsWhole) (arg13 : Memref sig .tc .vmem S1x1x768x512 .f32) (harg13 : arg13.IsWhole) (arg14 : Memref sig .tc .vmem S1x1x768x512 .f32) (harg14 : arg14.IsWhole) (arg15 : Memref sig .tc .vmem S512x1152 .bf16) (harg15 : arg15.IsWhole) (arg16 : Memref sig .tc .vmem S512x128 .f32) (harg16 : arg16.IsWhole)
    (x0 : Vec Ideal S512x1024 .f32) (x1 : Vec Ideal S1x1024 .f32) (x2 : Vec Ideal S1024x3584 .bf16) (x3 : Vec Ideal S1x128 .f32) (x4 : Vec Ideal S512x384 .f32) (x5 : Vec Ideal S512x384 .f32) (x6 : Vec Ideal S512x384 .f32)

/-- The normalised rows of the loaded block. -/
abbrev loaded (ib1 : ∀ a, (![0, 0] : Fin 2 → ℕ) a + S512x1024.size a ≤ S512x1024.size a) (ib2 : ∀ a, (![0, 0] : Fin 2 → ℕ) a + S1x1024.size a ≤ S1x1024.size a) : FVec Ideal S512x1024 .bf16 :=
  k0_pay7 (View.readAt (Elt Ideal) arg1.view (Rect.unit (s := S512x1024) ![0, 0] S512x1024.size ib1).toLoadRect (harg1.unread x0))
    (View.readAt (Elt Ideal) arg2.view (Rect.unit (s := S1x1024) ![0, 0] S1x1024.size ib2).toLoadRect (harg2.unread x1))

/-- The `n` columns of the weights from `o` on. -/
abbrev loadedW (o n : ℕ) (ib : ∀ a, (![0, o] : Fin 2 → ℕ) a + (⟨2, ![1024, n]⟩ : Shape).size a ≤ S1024x3584.size a) : Vec Ideal ⟨2, ![1024, n]⟩ .bf16 :=
  View.readAt (Elt Ideal) arg3.view (Rect.unit (s := S1024x3584) ![0, o] (⟨2, ![1024, n]⟩ : Shape).size ib).toLoadRect (harg3.unread x2)

theorem col_load (ib1 : ∀ a, (![0, 0] : Fin 2 → ℕ) a + S512x1024.size a ≤ S512x1024.size a) (ib2 : ∀ a, (![0, 0] : Fin 2 → ℕ) a + S1x1024.size a ≤ S1x1024.size a)
    (o n : ℕ) (ib : ∀ a, (![0, o] : Fin 2 → ℕ) a + (⟨2, ![1024, n]⟩ : Shape).size a ≤ S1024x3584.size a) (p : Fin 512) (j : Fin n) (f : Fin 3584) (hf : f.val = o + j.val) :
    Eq (α := EReal) (∑ k, loaded arg1 harg1 arg2 harg2 x0 x1 ib1 ib2 (ix2 p k) * loadedW arg3 harg3 x2 o n ib (ix2 k j)) (col x0 x1 x2 p f) := by
  unfold col times loaded
  rw [View.readAt_full, View.readAt_full, harg1.read_unread, harg2.read_unread]
  refine Finset.sum_congr rfl fun k _ => ?_
  have hw : loadedW arg3 harg3 x2 o n ib (ix2 k j) = x2 (ix2 k f) :=
    (congrArg (arg3.view.read (Elt Ideal) (harg3.unread x2)) (ix2_of_val _ ((show _ = 0 + 1 * k.val from rfl).trans (show _ = k.val from by omega)) ((show _ = o + 1 * j.val from rfl).trans (show _ = f.val from by omega)))).trans (by rw [harg3.read_unread])
  rw [hw, rows_apply]

variable (ib1 : ∀ a, (![0, 0] : Fin 2 → ℕ) a + S512x1024.size a ≤ S512x1024.size a) (ib2 : ∀ a, (![0, 0] : Fin 2 → ℕ) a + S1x1024.size a ≤ S1x1024.size a)

/-- 384 columns stored at `u` are the product's columns from `base + u` on. -/
theorem wide_left {W : ℕ} (o u base : ℕ) (hW : base + W ≤ 3584) (ho : base + u = o) (ib : ∀ a, (![0, o] : Fin 2 → ℕ) a + S1024x768.size a ≤ S1024x3584.size a)
    (ibu : ∀ a, (![0, u] : Fin 2 → ℕ) a + S512x384.size a ≤ (⟨2, ![512, W]⟩ : Shape).size a) (x : S512x384.Idx) :
    Eq (α := EReal) (k0_pay20 (loaded arg1 harg1 arg2 harg2 x0 x1 ib1 ib2) (loadedW arg3 harg3 x2 o 768 ib) x)
      (col x0 x1 x2 ((Rect.unit (s := ⟨2, ![512, W]⟩) ![0, u] S512x384.size ibu).emb x 0)
        ⟨base + ((Rect.unit (s := ⟨2, ![512, W]⟩) ![0, u] S512x384.size ibu).emb x 1).val, by have h := ((Rect.unit (s := ⟨2, ![512, W]⟩) ![0, u] S512x384.size ibu).emb x 1).isLt; have h' : ((Rect.unit (s := ⟨2, ![512, W]⟩) ![0, u] S512x384.size ibu).emb x 1).val < W := h; omega⟩) := by
  obtain ⟨p, q, rfl⟩ : ∃ (p : Fin 512) (q : Fin 384), x = ix2 p q := ⟨x 0, x 1, ix2_of_val x rfl rfl⟩
  refine (left_apply _ _ p q).trans ((col_load arg1 harg1 arg2 harg2 arg3 harg3 x0 x1 x2 ib1 ib2 o 768 ib p _ ⟨o + q.val, by have := (show o + 768 ≤ 3584 from ib (1 : Fin 2)); omega⟩ rfl).trans (congrArg₂ (col x0 x1 x2) (Fin.ext ?_) (Fin.ext ?_)))
  · exact ((show _ = 0 + 1 * p.val from rfl).trans (show _ = p.val from by omega)).symm
  · exact ((show _ = base + (u + 1 * q.val) from rfl).trans (show _ = o + q.val from by omega)).symm

theorem wide_right {W : ℕ} (o u base : ℕ) (hW : base + W ≤ 3584) (ho : base + u = o + 384) (ib : ∀ a, (![0, o] : Fin 2 → ℕ) a + S1024x768.size a ≤ S1024x3584.size a)
    (ibu : ∀ a, (![0, u] : Fin 2 → ℕ) a + S512x384.size a ≤ (⟨2, ![512, W]⟩ : Shape).size a) (x : S512x384.Idx) :
    Eq (α := EReal) (k0_pay23 (loaded arg1 harg1 arg2 harg2 x0 x1 ib1 ib2) (loadedW arg3 harg3 x2 o 768 ib) x)
      (col x0 x1 x2 ((Rect.unit (s := ⟨2, ![512, W]⟩) ![0, u] S512x384.size ibu).emb x 0)
        ⟨base + ((Rect.unit (s := ⟨2, ![512, W]⟩) ![0, u] S512x384.size ibu).emb x 1).val, by have h := ((Rect.unit (s := ⟨2, ![512, W]⟩) ![0, u] S512x384.size ibu).emb x 1).isLt; have h' : ((Rect.unit (s := ⟨2, ![512, W]⟩) ![0, u] S512x384.size ibu).emb x 1).val < W := h; omega⟩) := by
  obtain ⟨p, q, rfl⟩ : ∃ (p : Fin 512) (q : Fin 384), x = ix2 p q := ⟨x 0, x 1, ix2_of_val x rfl rfl⟩
  refine (right_apply _ _ p q).trans ((col_load arg1 harg1 arg2 harg2 arg3 harg3 x0 x1 x2 ib1 ib2 o 768 ib p _ ⟨o + (384 + q.val), by have := (show o + 768 ≤ 3584 from ib (1 : Fin 2)); omega⟩ rfl).trans (congrArg₂ (col x0 x1 x2) (Fin.ext ?_) (Fin.ext ?_)))
  · exact ((show _ = 0 + 1 * p.val from rfl).trans (show _ = p.val from by omega)).symm
  · exact ((show _ = base + (u + 1 * q.val) from rfl).trans (show _ = o + (384 + q.val) from by omega)).symm

/-- The columns of the second and third layer's heads, after a point. -/
theorem out7_apply (y : S512x2304.Idx) :
    Eq (α := EReal) (out0_A_7 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 y)
      (col x0 x1 x2 (y 0) ⟨0 + (y 1).val, by have h : (y 1).val < 2304 := (y 1).isLt; omega⟩) := by
  have hc := cover0_A_7 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 y
  unfold out0_A_7
  refine View.read_writes_apply_of_pieces VO0_7 VO0_7.junk (fun y : S512x2304.Idx => col x0 x1 x2 (y 0) ⟨0 + (y 1).val, by have h : (y 1).val < 2304 := (y 1).isLt; omega⟩) _ ?_ y hc
  unfold kernelRun0_A
  dsimp only
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩
  · exact fun x => wide_right (W := 2304) arg1 harg1 arg2 harg2 arg3 harg3 x0 x1 x2 (by decide) (by decide) 1536 1920 0 (by decide) rfl (by decide) (by decide) x
  · exact fun x => wide_left (W := 2304) arg1 harg1 arg2 harg2 arg3 harg3 x0 x1 x2 (by decide) (by decide) 1536 1536 0 (by decide) rfl (by decide) (by decide) x
  · exact fun x => wide_right (W := 2304) arg1 harg1 arg2 harg2 arg3 harg3 x0 x1 x2 (by decide) (by decide) 768 1152 0 (by decide) rfl (by decide) (by decide) x
  · exact fun x => wide_left (W := 2304) arg1 harg1 arg2 harg2 arg3 harg3 x0 x1 x2 (by decide) (by decide) 768 768 0 (by decide) rfl (by decide) (by decide) x
  · exact fun x => wide_right (W := 2304) arg1 harg1 arg2 harg2 arg3 harg3 x0 x1 x2 (by decide) (by decide) 0 384 0 (by decide) rfl (by decide) (by decide) x
  · exact fun x => wide_left (W := 2304) arg1 harg1 arg2 harg2 arg3 harg3 x0 x1 x2 (by decide) (by decide) 0 0 0 (by decide) rfl (by decide) (by decide) x

/-- The product's columns from `base` on, by channel and position. -/
def rowsOf (x0 : Vec Ideal S512x1024 .f32) (x1 : Vec Ideal S1x1024 .f32) (x2 : Vec Ideal S1024x3584 .bf16) (base : ℕ) (hW : base + 768 ≤ 3584) (y : S1x1x768x512.Idx) : EReal :=
  col x0 x1 x2 (y 3) ⟨base + (y 2).val, by have h : (y 2).val < 768 := (y 2).isLt; omega⟩

/-- The place of a stored block of 384 channels in the block of rows. -/
theorem tall_place (u : ℕ) (ibu : ∀ a, (![0, 0, u, 0] : Fin 4 → ℕ) a + S1x1x384x512.size a ≤ S1x1x768x512.size a) (p : Fin 512) (q : Fin 384) :
    (Rect.unit (s := S1x1x768x512) ![0, 0, u, 0] S1x1x384x512.size ibu).emb (ix4 0 0 q p)
      = ix4 (n0 := 1) (n1 := 1) 0 0 ⟨u + q.val, by have := (show u + 384 ≤ 768 from ibu (2 : Fin 4)); omega⟩ p :=
  ix4_of_val _ (show _ = 0 from rfl) (show _ = 0 from rfl) ((show _ = u + 1 * q.val from rfl).trans (show _ = u + q.val from by omega)) ((show _ = 0 + 1 * p.val from rfl).trans (show _ = p.val from by omega))

theorem tall_left (o u base : ℕ) (hW : base + 768 ≤ 3584) (ho : base + u = o) (ib : ∀ a, (![0, o] : Fin 2 → ℕ) a + S1024x768.size a ≤ S1024x3584.size a)
    (ibu : ∀ a, (![0, 0, u, 0] : Fin 4 → ℕ) a + S1x1x384x512.size a ≤ S1x1x768x512.size a) (x : S1x1x384x512.Idx) :
    Eq (α := EReal) (k0_pay21 (loaded arg1 harg1 arg2 harg2 x0 x1 ib1 ib2) (loadedW arg3 harg3 x2 o 768 ib) x)
      (rowsOf x0 x1 x2 base hW ((Rect.unit (s := S1x1x768x512) ![0, 0, u, 0] S1x1x384x512.size ibu).emb x)) := by
  obtain ⟨p, q, rfl⟩ : ∃ (p : Fin 512) (q : Fin 384), x = ix4 0 0 q p :=
    ⟨x 3, x 2, ix4_of_val x (by have h : (x 0).val < 1 := (x 0).isLt; exact (show (x 0).val = 0 by omega)) (by have h : (x 1).val < 1 := (x 1).isLt; exact (show (x 1).val = 0 by omega)) rfl rfl⟩
  rw [tall_place]
  exact (tall_apply _ p q).trans ((left_apply _ _ p q).trans ((col_load arg1 harg1 arg2 harg2 arg3 harg3 x0 x1 x2 ib1 ib2 o 768 ib p _ ⟨o + q.val, by have := (show o + 768 ≤ 3584 from ib (1 : Fin 2)); omega⟩ rfl).trans
    (congrArg (col x0 x1 x2 p) (Fin.ext (show o + q.val = base + (u + q.val) by omega)))))

theorem tall_right (o u base : ℕ) (hW : base + 768 ≤ 3584) (ho : base + u = o + 384) (ib : ∀ a, (![0, o] : Fin 2 → ℕ) a + S1024x768.size a ≤ S1024x3584.size a)
    (ibu : ∀ a, (![0, 0, u, 0] : Fin 4 → ℕ) a + S1x1x384x512.size a ≤ S1x1x768x512.size a) (x : S1x1x384x512.Idx) :
    Eq (α := EReal) (k0_pay24 (loaded arg1 harg1 arg2 harg2 x0 x1 ib1 ib2) (loadedW arg3 harg3 x2 o 768 ib) x)
      (rowsOf x0 x1 x2 base hW ((Rect.unit (s := S1x1x768x512) ![0, 0, u, 0] S1x1x384x512.size ibu).emb x)) := by
  obtain ⟨p, q, rfl⟩ : ∃ (p : Fin 512) (q : Fin 384), x = ix4 0 0 q p :=
    ⟨x 3, x 2, ix4_of_val x (by have h : (x 0).val < 1 := (x 0).isLt; exact (show (x 0).val = 0 by omega)) (by have h : (x 1).val < 1 := (x 1).isLt; exact (show (x 1).val = 0 by omega)) rfl rfl⟩
  rw [tall_place]
  exact (tall_apply _ p q).trans ((right_apply _ _ p q).trans ((col_load arg1 harg1 arg2 harg2 arg3 harg3 x0 x1 x2 ib1 ib2 o 768 ib p _ ⟨o + (384 + q.val), by have := (show o + 768 ≤ 3584 from ib (1 : Fin 2)); omega⟩ rfl).trans
    (congrArg (col x0 x1 x2 p) (Fin.ext (show o + (384 + q.val) = base + (u + q.val) by omega)))))

/-- The keys and values of the first layer's heads, by channel and position. -/
theorem out8_apply (p : Fin 512) (q : Fin 768) :
    Eq (α := EReal) (out0_A_8 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix4 0 0 q p)) (col x0 x1 x2 p ⟨384 + q.val, by omega⟩) := by
  have hc := cover0_A_8 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix4 0 0 q p)
  unfold out0_A_8
  refine View.read_writes_apply_of_pieces VO0_8 VO0_8.junk (rowsOf x0 x1 x2 384 (by decide)) _ ?_ (ix4 0 0 q p) hc
  unfold kernelRun0_A
  dsimp only
  refine List.forall_mem_cons.mpr ⟨?_, List.forall_mem_cons.mpr ⟨?_, List.forall_mem_nil _⟩⟩
  · exact fun x => tall_left (o := 768) (u := 384) arg1 harg1 arg2 harg2 arg3 harg3 x0 x1 x2 (by decide) (by decide) (base := 384) (by decide) rfl (by decide) (by decide) x
  · exact fun x => tall_right (o := 0) (u := 0) arg1 harg1 arg2 harg2 arg3 harg3 x0 x1 x2 (by decide) (by decide) (base := 384) (by decide) rfl (by decide) (by decide) x

/-- The keys and values of the second layer's heads, by channel and position. -/
theorem out9_apply (p : Fin 512) (q : Fin 768) :
    Eq (α := EReal) (out0_A_9 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix4 0 0 q p)) (col x0 x1 x2 p ⟨1536 + q.val, by omega⟩) := by
  have hc := cover0_A_9 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix4 0 0 q p)
  unfold out0_A_9
  refine View.read_writes_apply_of_pieces VO0_9 VO0_9.junk (rowsOf x0 x1 x2 1536 (by decide)) _ ?_ (ix4 0 0 q p) hc
  unfold kernelRun0_A
  dsimp only
  refine List.forall_mem_cons.mpr ⟨?_, List.forall_mem_cons.mpr ⟨?_, List.forall_mem_nil _⟩⟩
  · exact fun x => tall_right (o := 1536) (u := 384) arg1 harg1 arg2 harg2 arg3 harg3 x0 x1 x2 (by decide) (by decide) (base := 1536) (by decide) rfl (by decide) (by decide) x
  · exact fun x => tall_left (o := 1536) (u := 0) arg1 harg1 arg2 harg2 arg3 harg3 x0 x1 x2 (by decide) (by decide) (base := 1536) (by decide) rfl (by decide) (by decide) x

/-- The rotated keys. -/
def keys (x0 : Vec Ideal S512x1024 .f32) (x1 : Vec Ideal S1x1024 .f32) (x2 : Vec Ideal S1024x3584 .bf16) (x4 x5 x6 : Vec Ideal S512x384 .f32) (p : Fin 512) (j : Fin 384) : EReal :=
  turned (fun j => col x0 x1 x2 p ⟨2688 + j.val, by omega⟩) (fun j => x4 (ix2 p j)) (fun j => x5 (ix2 p j)) (fun j => x6 (ix2 p j)) j

/-- The rotated queries, scaled. -/
def queries (x0 : Vec Ideal S512x1024 .f32) (x1 : Vec Ideal S1x1024 .f32) (x2 : Vec Ideal S1024x3584 .bf16) (x4 x5 x6 : Vec Ideal S512x384 .f32) (p : Fin 512) (j : Fin 384) : EReal :=
  turned (fun j => col x0 x1 x2 p ⟨2304 + j.val, by omega⟩) (fun j => x4 (ix2 p j)) (fun j => x5 (ix2 p j)) (fun j => x6 (ix2 p j)) j * FloatOps.ofBits (F := Ideal) .f32 0x3E13CD3A#32

variable (ib5 : ∀ a, (![0, 0] : Fin 2 → ℕ) a + S512x384.size a ≤ S512x384.size a) (ibw : ∀ a, (![0, 2304] : Fin 2 → ℕ) a + S1024x768.size a ≤ S1024x3584.size a)

abbrev table (arg : Memref sig .tc .vmem S512x384 .f32) (h : arg.IsWhole) (x : Vec Ideal S512x384 .f32) : Vec Ideal S512x384 .f32 :=
  View.readAt (Elt Ideal) arg.view (Rect.unit (s := S512x384) ![0, 0] S512x384.size ib5).toLoadRect (h.unread x)

theorem table_eq (arg : Memref sig .tc .vmem S512x384 .f32) (h : arg.IsWhole) (x : Vec Ideal S512x384 .f32) : table ib5 arg h x = x := by
  unfold table
  rw [View.readAt_full, h.read_unread]

theorem keys_load (p : Fin 512) (q : Fin 384) :
    Eq (α := EReal) (k0_pay27 (k0_pay25 (loaded arg1 harg1 arg2 harg2 x0 x1 ib1 ib2) (loadedW arg3 harg3 x2 2304 768 ibw)) (table ib5 arg5 harg5 x4) (table ib5 arg6 harg6 x5) (table ib5 arg7 harg7 x6) (ix2 p q))
      (keys x0 x1 x2 x4 x5 x6 p q) := by
  refine (turned_right _ _ _ _ p q).trans ?_
  unfold keys
  rw [table_eq, table_eq, table_eq]
  exact congrArg (fun f => turned f _ _ _ q) (funext fun j => (product_apply _ _ p _).trans (col_load arg1 harg1 arg2 harg2 arg3 harg3 x0 x1 x2 ib1 ib2 2304 768 ibw p _ _ (show 2688 + j.val = 2304 + (384 + j.val) by omega)))

theorem queries_load (p : Fin 512) (q : Fin 384) :
    Eq (α := EReal) (k0_pay26 (k0_pay25 (loaded arg1 harg1 arg2 harg2 x0 x1 ib1 ib2) (loadedW arg3 harg3 x2 2304 768 ibw)) (table ib5 arg5 harg5 x4) (table ib5 arg6 harg6 x5) (table ib5 arg7 harg7 x6) (ix2 p q))
      (queries x0 x1 x2 x4 x5 x6 p q) := by
  refine (turned_left _ _ _ _ p q).trans ?_
  unfold queries
  rw [table_eq, table_eq, table_eq]
  exact congrArg (fun f => turned f _ _ _ q * _) (funext fun j => (product_apply _ _ p _).trans (col_load arg1 harg1 arg2 harg2 arg3 harg3 x0 x1 x2 ib1 ib2 2304 768 ibw p _ _ (show 2304 + j.val = 2304 + j.val by omega)))

/-- The rotated keys and the values of the third layer's heads, by channel. -/
def pair (x0 : Vec Ideal S512x1024 .f32) (x1 : Vec Ideal S1x1024 .f32) (x2 : Vec Ideal S1024x3584 .bf16) (x4 x5 x6 : Vec Ideal S512x384 .f32) (p : Fin 512) (j : Fin 768) : EReal :=
  if h : j.val < 384 then keys x0 x1 x2 x4 x5 x6 p ⟨j.val, h⟩ else col x0 x1 x2 p ⟨2688 + j.val, by omega⟩

theorem out10_apply (p : Fin 512) (q : Fin 768) :
    Eq (α := EReal) (out0_A_10 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix4 0 0 q p)) (pair x0 x1 x2 x4 x5 x6 p q) := by
  have hc := cover0_A_10 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix4 0 0 q p)
  unfold out0_A_10
  refine View.read_writes_apply_of_pieces VO0_10 VO0_10.junk (fun y : S1x1x768x512.Idx => pair x0 x1 x2 x4 x5 x6 (y 3) (y 2)) _ ?_ (ix4 0 0 q p) hc
  unfold kernelRun0_A
  dsimp only
  refine List.forall_mem_cons.mpr ⟨fun x => ?_, List.forall_mem_cons.mpr ⟨fun x => ?_, List.forall_mem_nil _⟩⟩
  all_goals
    obtain ⟨p, q, rfl⟩ : ∃ (p : Fin 512) (q : Fin 384), x = ix4 0 0 q p :=
      ⟨x 3, x 2, ix4_of_val x (by have h : (x 0).val < 1 := (x 0).isLt; exact (show (x 0).val = 0 by omega)) (by have h : (x 1).val < 1 := (x 1).isLt; exact (show (x 1).val = 0 by omega)) rfl rfl⟩
    refine Eq.trans ?_ (congrArg (fun y : S1x1x768x512.Idx => pair x0 x1 x2 x4 x5 x6 (y 3) (y 2)) (tall_place _ (by decide) p q)).symm
  · refine ((tall_apply _ p q).trans ((last_apply _ _ p q).trans (col_load arg1 harg1 arg2 harg2 arg3 harg3 x0 x1 x2 (by decide) (by decide) 3072 512 (by decide) p _ ⟨3072 + q.val, by omega⟩ rfl))).trans ?_
    exact ((dif_neg (show ¬ 384 + q.val < 384 by omega)).trans (congrArg (col x0 x1 x2 p) (Fin.ext (show 2688 + (384 + q.val) = 3072 + q.val by omega)))).symm
  · refine ((tall_apply _ p q).trans (keys_load arg1 harg1 arg2 harg2 arg3 harg3 arg5 harg5 arg6 harg6 arg7 harg7 x0 x1 x2 x4 x5 x6 (by decide) (by decide) (by decide) (by decide) p q)).trans ?_
    exact ((dif_pos (show 0 + q.val < 384 by omega)).trans (congrArg (keys x0 x1 x2 x4 x5 x6 p) (Fin.ext (show 0 + q.val = q.val by omega)))).symm

/-- The third layer's queries, keys and values, by position. -/
def triple (x0 : Vec Ideal S512x1024 .f32) (x1 : Vec Ideal S1x1024 .f32) (x2 : Vec Ideal S1024x3584 .bf16) (x4 x5 x6 : Vec Ideal S512x384 .f32) (p : Fin 512) (j : Fin 1152) : EReal :=
  if h : j.val < 384 then queries x0 x1 x2 x4 x5 x6 p ⟨j.val, h⟩ else pair x0 x1 x2 x4 x5 x6 p ⟨j.val - 384, by omega⟩

theorem wide_place (u : ℕ) (ibu : ∀ a, (![0, u] : Fin 2 → ℕ) a + S512x384.size a ≤ S512x1152.size a) (p : Fin 512) (q : Fin 384) :
    (Rect.unit (s := S512x1152) ![0, u] S512x384.size ibu).emb (ix2 p q) = ix2 p ⟨u + q.val, by have := (show u + 384 ≤ 1152 from ibu (1 : Fin 2)); omega⟩ :=
  ix2_of_val _ ((show _ = 0 + 1 * p.val from rfl).trans (show _ = p.val from by omega)) ((show _ = u + 1 * q.val from rfl).trans (show _ = u + q.val from by omega))

theorem out11_apply (p : Fin 512) (q : Fin 1152) :
    Eq (α := EReal) (out0_A_11 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix2 p q)) (triple x0 x1 x2 x4 x5 x6 p q) := by
  have hc := cover0_A_11 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix2 p q)
  unfold out0_A_11
  refine View.read_writes_apply_of_pieces VO0_11 VO0_11.junk (fun y : S512x1152.Idx => triple x0 x1 x2 x4 x5 x6 (y 0) (y 1)) _ ?_ (ix2 p q) hc
  unfold kernelRun0_A
  dsimp only
  refine List.forall_mem_cons.mpr ⟨fun x => ?_, List.forall_mem_cons.mpr ⟨fun x => ?_, List.forall_mem_cons.mpr ⟨fun x => ?_, List.forall_mem_nil _⟩⟩⟩
  all_goals
    obtain ⟨p, q, rfl⟩ : ∃ (p : Fin 512) (q : Fin 384), x = ix2 p q := ⟨x 0, x 1, ix2_of_val x rfl rfl⟩
    refine Eq.trans ?_ (congrArg (fun y : S512x1152.Idx => triple x0 x1 x2 x4 x5 x6 (y 0) (y 1)) (wide_place _ (by decide) p q)).symm
  · refine ((last_apply _ _ p q).trans (col_load arg1 harg1 arg2 harg2 arg3 harg3 x0 x1 x2 (by decide) (by decide) 3072 512 (by decide) p _ ⟨3072 + q.val, by omega⟩ rfl)).trans ?_
    exact ((dif_neg (show ¬ 768 + q.val < 384 by omega)).trans ((dif_neg (show ¬ 768 + q.val - 384 < 384 by omega)).trans (congrArg (col x0 x1 x2 p) (Fin.ext (show 2688 + (768 + q.val - 384) = 3072 + q.val by omega))))).symm
  · refine (keys_load arg1 harg1 arg2 harg2 arg3 harg3 arg5 harg5 arg6 harg6 arg7 harg7 x0 x1 x2 x4 x5 x6 (by decide) (by decide) (by decide) (by decide) p q).trans ?_
    exact ((dif_neg (show ¬ 384 + q.val < 384 by omega)).trans ((dif_pos (show 384 + q.val - 384 < 384 by omega)).trans (congrArg (keys x0 x1 x2 x4 x5 x6 p) (Fin.ext (show 384 + q.val - 384 = q.val by omega))))).symm
  · refine (queries_load arg1 harg1 arg2 harg2 arg3 harg3 arg5 harg5 arg6 harg6 arg7 harg7 x0 x1 x2 x4 x5 x6 (by decide) (by decide) (by decide) (by decide) p q).trans ?_
    exact ((dif_pos (show 0 + q.val < 384 by omega)).trans (congrArg (queries x0 x1 x2 x4 x5 x6 p) (Fin.ext (show 0 + q.val = q.val by omega)))).symm

/-- The logarithms of the forget gates. -/
theorem out12_apply (p : Fin 512) (q : Fin 128) :
    Eq (α := EReal) (out0_A_12 (F := Ideal) c i arg1 harg1 arg2 harg2 arg3 harg3 arg4 harg4 arg5 harg5 arg6 harg6 arg7 harg7 arg11 harg11 arg12 harg12 arg13 harg13 arg14 harg14 arg15 harg15 arg16 harg16 x0 x1 x2 x3 x4 x5 x6 (ix2 p q)) (logSig (col x0 x1 x2 p ⟨3456 + q.val, by omega⟩ + x3 (ix2 0 q))) := by
  unfold out0_A_12 kernelRun0_A
  dsimp only
  rw [View.read_writes_eq_canon _ _ _ fun y => View.cover_of_tiledL _ S512x128.size (by rfl) y, View.canon_cons_unit_lit _ _ _ (by decide)]
  refine (forget_apply _ _ _ p q).trans (congrArg logSig (congrArg₂ (fun a b : EReal => a + b) (col_load arg1 harg1 arg2 harg2 arg3 harg3 x0 x1 x2 (by decide) (by decide) 3072 512 (by decide) p _ _ (show 3456 + q.val = 3072 + (384 + q.val) by omega)) ?_))
  rw [View.readAt_full, harg4.read_unread]

end Run

end Cert.Kernel4Ideal.Inproj

end
-- ==== Proof.Rotary.lean ====
/- The angle of a rotary position, and the partial rotation of 384 columns: twelve of each head's 48. -/
module

public import proofs.«01_k».proof.Proof.Rows

@[expose] public section

noncomputable section

namespace Cert.Rows

open Idealize.ShloMosaic Idealize.ShloMosaic.TcCoe

/-- The angle of frequency `d` at position `t`. -/
def angle (t d : ℕ) : EReal :=
  FloatOps.sitofp (F := Ideal) .f32 (BitVec.ofNat 32 t) * Ideal.pow (Ideal.ofBits .f32 1223959552#32)
    (Ideal.div (-(Ideal.ofBits .f32 1073741824#32 * FloatOps.sitofp (F := Ideal) .f32 (BitVec.ofNat 32 d))) (Ideal.ofBits .f32 1094713344#32))

/-- The partial rotation, column by column. -/
def rot (t : ℕ) (f : Fin 384 → EReal) (j : Fin 384) : EReal :=
  if h : j.val % 48 < 6 then f j * Ideal.cos (angle t (j.val % 48)) - f ⟨j.val + 6, by omega⟩ * Ideal.sin (angle t (j.val % 48))
  else if h : j.val % 48 - 6 < 6 then f j * Ideal.cos (angle t (j.val % 48 - 6)) + f ⟨j.val - 6, by omega⟩ * Ideal.sin (angle t (j.val % 48 - 6))
  else f j

/-- Is column `j` one of the first or second mixer's queries? -/
abbrev IsQuery (j : ℕ) : Prop := j < 384 ∨ (1152 ≤ j ∧ j < 1536)

end Cert.Rows

end
-- ==== Proof.InprojHost.lean ====
/- The input projection's operands: what the host prepares. -/
module

public import proofs.«01_k».proof.Proof.InprojPoint
public import proofs.«01_k».proof.Proof.Rotary
public import Idealize.ShloMosaic.Lib.StableHlo.ReadAt

@[expose] public section

set_option maxRecDepth 16384

noncomputable section

namespace Cert.Kernel4Ideal.Inproj

open Idealize.ShloMosaic Idealize.ShloMosaic.TcCoe Idealize.ShloMosaic.Tactic Cert.Kernel4Ideal Cert.Kernel4Ideal.Gen Cert.Rows

theorem zero_word : Eq (α := EReal) (FloatOps.sitofp (F := Ideal) .f32 0#32) 0 := by
  refine Eq.trans (rfl : _ = (((0#32 : BitVec 32).toInt : ℝ) : EReal)) ?_
  simp

variable (m : (ℓ : Loc nD τ sig) → Buf (Elt Ideal) ℓ) (c : Dev nD)

/-- The residual stream. -/
abbrev xArr : Vec Ideal S16384x1024 .f32 := m ((c : Thread nD τ).loc main_arg0)
/-- The gains, the weights and the forget gates' biases of the two layers. -/
abbrev gainArr : Vec Ideal S2x1024 .f32 := m ((c : Thread nD τ).loc main_arg4)
abbrev wArr : Vec Ideal S2x1024x6534 .f32 := m ((c : Thread nD τ).loc main_arg5)
abbrev bArr : Vec Ideal S2x6 .f32 := m ((c : Thread nD τ).loc main_arg6)

theorem gain_apply (j : Fin 1024) : Eq (α := EReal) ((V m c main_v20 : Vec Ideal S1x1024 .f32) (ix2 0 j)) (gainArr m c (ix2 1 j)) := by
  unfold V
  after_reads_at

theorem bias_apply (j : Fin 128) : Eq (α := EReal) ((V m c main_v17 : Vec Ideal S1x128 .f32) (ix2 0 j)) (if h : j.val < 6 then bArr m c (ix2 1 ⟨j.val, h⟩) else 0) := by
  unfold V
  after_reads_at
  rw [zero_word]

/-- The weights: the queries' columns scaled, zeros after the forget gates' six. -/
def weight (j : Fin 3584) (w : EReal) : EReal :=
  if IsQuery j.val then w * Ideal.ofBits .f32 0x3E000000#32 else if j.val < 3462 then w else 0

theorem w_at (k : Fin 1024) (a b : Fin 6534) (h : a.val = b.val) : Eq (α := EReal) (wArr m c (ix3 1 k a)) (wArr m c (ix3 1 k b)) :=
  congrArg (fun f => wArr m c (ix3 1 k f)) (Fin.ext h)

/-- The host's array: five pieces side by side. -/
def assembled (k : Fin 1024) (j : Fin 3584) : EReal :=
  if h : j.val < 384 then wArr m c (ix3 1 k ⟨j.val, by omega⟩) * Ideal.ofBits .f32 0x3E000000#32
  else if h : j.val - 384 < 768 then wArr m c (ix3 1 k ⟨384 + (j.val - 384), by omega⟩)
  else if h : j.val - 384 - 768 < 384 then wArr m c (ix3 1 k ⟨1152 + (j.val - 384 - 768), by omega⟩) * Ideal.ofBits .f32 0x3E000000#32
  else if h : j.val - 384 - 768 - 384 < 1920 then wArr m c (ix3 1 k ⟨1536 + (j.val - 384 - 768 - 384), by omega⟩)
  else if h : j.val - 384 - 768 - 384 - 1920 < 6 then wArr m c (ix3 1 k ⟨3456 + (j.val - 384 - 768 - 384 - 1920), by omega⟩) else 0

theorem assembled_eq (k : Fin 1024) (j : Fin 3584) : assembled m c k j = weight j (wArr m c (ix3 1 k ⟨j.val, by omega⟩)) := by
  unfold assembled weight
  by_cases h1 : j.val < 384
  · rw [dif_pos h1, if_pos (Or.inl h1)]
  rw [dif_neg h1]
  by_cases h2 : j.val - 384 < 768
  · rw [dif_pos h2, if_neg (show ¬ IsQuery j.val by omega), if_pos (show j.val < 3462 by omega)]
    exact w_at m c k _ _ (show 384 + (j.val - 384) = j.val by omega)
  rw [dif_neg h2]
  by_cases h3 : j.val - 384 - 768 < 384
  · rw [dif_pos h3, if_pos (show IsQuery j.val by omega)]
    exact congrArg (fun w : EReal => w * _) (w_at m c k _ _ (show 1152 + (j.val - 384 - 768) = j.val by omega))
  rw [dif_neg h3, if_neg (show ¬ IsQuery j.val by omega)]
  by_cases h4 : j.val - 384 - 768 - 384 < 1920
  · rw [dif_pos h4, if_pos (show j.val < 3462 by omega)]
    exact w_at m c k _ _ (show 1536 + (j.val - 384 - 768 - 384) = j.val by omega)
  rw [dif_neg h4]
  by_cases h5 : j.val - 384 - 768 - 384 - 1920 < 6
  · rw [dif_pos h5, if_pos (show j.val < 3462 by omega)]
    exact w_at m c k _ _ (show 3456 + (j.val - 384 - 768 - 384 - 1920) = j.val by omega)
  · rw [dif_neg h5, if_neg (show ¬ j.val < 3462 by omega)]

theorem w_apply (k : Fin 1024) (j : Fin 3584) : Eq (α := EReal) ((V m c main_v13 : Vec Ideal S1024x3584 .bf16) (ix2 k j)) (weight j (wArr m c (ix3 1 k ⟨j.val, by omega⟩))) := by
  rw [← assembled_eq]
  unfold V assembled
  after_reads_at
  refine dite_congr rfl (fun _ => ?_) fun _ => dite_congr rfl (fun _ => ?_) fun _ => dite_congr rfl (fun _ => ?_) fun _ => dite_congr rfl (fun _ => ?_) fun _ => ?_
  · after_reads_at
  · after_reads_at
  · after_reads_at
  · after_reads_at
  · after_reads_at
    exact dite_congr rfl (fun _ => rfl) fun _ => zero_word

/-- The three tables of the rotation. -/
def cosAt (t : ℕ) (j : Fin 384) : EReal :=
  if j.val % 48 < 6 then Ideal.cos (angle t (j.val % 48)) else if j.val % 48 - 6 < 6 then Ideal.cos (angle t (j.val % 48 - 6)) else 1
def downAt (t : ℕ) (j : Fin 384) : EReal :=
  if j.val % 48 < 6 then -Ideal.sin (angle t (j.val % 48)) else 0
def upAt (t : ℕ) (j : Fin 384) : EReal :=
  if j.val % 48 < 6 then 0 else if j.val % 48 - 6 < 6 then Ideal.sin (angle t (j.val % 48 - 6)) else 0

set_option maxHeartbeats 1000000 in
theorem cos_apply (t : Fin 2048) (j : Fin 384) : Eq (α := EReal) ((V m c main_v46 : Vec Ideal S2048x384 .f32) (ix2 t j)) (cosAt t.val j) := by
  unfold V cosAt
  after_reads_at
  by_cases h1 : j.val % 48 < 6
  · rw [dif_pos h1, if_pos h1]
    after_reads_at
    rfl
  rw [dif_neg h1, if_neg h1]
  by_cases h2 : j.val % 48 - 6 < 6
  · rw [dif_pos h2, if_pos h2]
    after_reads_at
    rfl
  rw [dif_neg h2, if_neg h2]
  after_reads_at

set_option maxHeartbeats 1000000 in
theorem down_apply (t : Fin 2048) (j : Fin 384) : Eq (α := EReal) ((V m c main_v51 : Vec Ideal S2048x384 .f32) (ix2 t j)) (downAt t.val j) := by
  unfold V downAt
  after_reads_at
  by_cases h1 : j.val % 48 < 6
  · rw [dif_pos h1, if_pos h1]
    after_reads_at
    rfl
  rw [dif_neg h1, if_neg h1]
  by_cases h2 : j.val % 48 - 6 < 6
  · rw [dif_pos h2]
    after_reads_at
  rw [dif_neg h2]
  after_reads_at

set_option maxHeartbeats 1000000 in
theorem up_apply (t : Fin 2048) (j : Fin 384) : Eq (α := EReal) ((V m c main_v55 : Vec Ideal S2048x384 .f32) (ix2 t j)) (upAt t.val j) := by
  unfold V upAt
  after_reads_at
  by_cases h1 : j.val % 48 < 6
  · rw [dif_pos h1, if_pos h1]
    after_reads_at
  rw [dif_neg h1, if_neg h1]
  by_cases h2 : j.val % 48 - 6 < 6
  · rw [dif_pos h2, if_pos h2]
    after_reads_at
    rfl
  rw [dif_neg h2, if_neg h2]
  after_reads_at

/-- The three results that carry rows of the layer before start as copies of the arguments. -/
theorem start1_apply (i : S2x8x768x2048.Idx) : Eq (α := EReal) ((V m c main_v56_1 : Vec Ideal S2x8x768x2048 .f32) i) ((m ((c : Thread nD τ).loc main_arg1) : Vec Ideal S2x8x768x2048 .f32) i) := by
  unfold V
  after_reads_at
  rfl

theorem start2_apply (i : S2x8x768x2048.Idx) : Eq (α := EReal) ((V m c main_v56_2 : Vec Ideal S2x8x768x2048 .f32) i) ((m ((c : Thread nD τ).loc main_arg2) : Vec Ideal S2x8x768x2048 .f32) i) := by
  unfold V
  after_reads_at
  rfl

theorem start3_apply (i : S2x8x768x2048.Idx) : Eq (α := EReal) ((V m c main_v56_3 : Vec Ideal S2x8x768x2048 .f32) i) ((m ((c : Thread nD τ).loc main_arg3) : Vec Ideal S2x8x768x2048 .f32) i) := by
  unfold V
  after_reads_at
  rfl

end Cert.Kernel4Ideal.Inproj

end
-- ==== Proof.InprojBlocks.lean ====
/- The input projection's blocks: what each window of a point holds, and the six arrays that the points leave. -/
module

public import proofs.«01_k».proof.Proof.InprojHost

@[expose] public section

set_option maxRecDepth 16384

noncomputable section

namespace Cert.Kernel4Ideal.Inproj

open Idealize.ShloMosaic Idealize.ShloMosaic.TcCoe Idealize.ShloMosaic.Tactic Cert.Kernel4Ideal Cert.Kernel4Ideal.Gen Cert.Rows

/-- Where the operands' blocks of a point begin, in blocks: point `t` is rows `512 t` to `512 t + 511`. -/
theorem block_places : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val % 4 ∧ win0_4.index t 1 = 0) ∧ (win0_5.index t 0 = t.val % 4 ∧ win0_5.index t 1 = 0)
    ∧ (win0_6.index t 0 = t.val % 4 ∧ win0_6.index t 1 = 0) :=
  (by decide +kernel : ∀ t : Fin grid0.N, _)

/-- Where the results' blocks begin. -/
theorem wide_places : ∀ t : Fin cfg0.N,
    (win0_7.index t 0 = t.val ∧ win0_7.index t 1 = 0) ∧ (win0_11.index t 0 = t.val ∧ win0_11.index t 1 = 0) ∧ (win0_12.index t 0 = t.val ∧ win0_12.index t 1 = 0) :=
  (by decide +kernel : ∀ t : Fin grid0.N, _)

theorem tall_places : ∀ t : Fin cfg0.N,
    (win0_8.index t 0 = 1 ∧ win0_8.index t 1 = t.val / 4 ∧ win0_8.index t 2 = 0 ∧ win0_8.index t 3 = t.val % 4)
    ∧ (win0_9.index t 0 = 1 ∧ win0_9.index t 1 = t.val / 4 ∧ win0_9.index t 2 = 0 ∧ win0_9.index t 3 = t.val % 4)
    ∧ (win0_10.index t 0 = 1 ∧ win0_10.index t 1 = t.val / 4 ∧ win0_10.index t 2 = 0 ∧ win0_10.index t 3 = t.val % 4) :=
  (by decide +kernel : ∀ t : Fin grid0.N, _)

theorem wide_sizes : ∀ t : Fin cfg0.N,
    (win0_7.xsize (grid0.coords t) 0 = 512 ∧ win0_7.xsize (grid0.coords t) 1 = 2304 ∧ win0_7.flush t = true)
    ∧ (win0_11.xsize (grid0.coords t) 0 = 512 ∧ win0_11.xsize (grid0.coords t) 1 = 1152 ∧ win0_11.flush t = true)
    ∧ (win0_12.xsize (grid0.coords t) 0 = 512 ∧ win0_12.xsize (grid0.coords t) 1 = 128 ∧ win0_12.flush t = true) :=
  (by decide +kernel : ∀ t : Fin grid0.N, _)

theorem tall_sizes : ∀ t : Fin cfg0.N,
    ((∀ a, win0_8.xsize (grid0.coords t) a = S1x1x768x512.size a) ∧ win0_8.flush t = true)
    ∧ ((∀ a, win0_9.xsize (grid0.coords t) a = S1x1x768x512.size a) ∧ win0_9.flush t = true)
    ∧ ((∀ a, win0_10.xsize (grid0.coords t) a = S1x1x768x512.size a) ∧ win0_10.flush t = true) :=
  (by decide +kernel : ∀ t : Fin grid0.N, _)

variable (m : (ℓ : Loc nD τ sig) → Buf (Elt Ideal) ℓ) (c : Dev nD) (t : Fin cfg0.N)

/-- Row `p` of point `t`'s blocks, its sequence, and its position in the sequence. -/
def rowOf (p : Fin 512) : Fin 16384 := ⟨512 * t.val + p.val, by have := lt_of_lt_of_eq t.isLt N_0; omega⟩
def seqOf : Fin 8 := ⟨t.val / 4, by have := lt_of_lt_of_eq t.isLt N_0; omega⟩
def posOf (p : Fin 512) : Fin 2048 := ⟨t.val % 4 * 512 + p.val, by omega⟩

theorem block_x (p : Fin 512) (k : Fin 1024) : (iblk m c 0 t : Vec Ideal S512x1024 .f32) (ix2 p k) = xArr m c (ix2 (rowOf t p) k) := by
  obtain ⟨⟨e0, e1⟩, -⟩ := block_places t
  refine (congrFun (V_main_arg0 m c) _).trans (congrArg (xArr m c) (ix2_of_val _ ?_ ?_))
  · exact (show _ = win0_0.index t 0 * 512 + 1 * p.val from rfl).trans (show _ = 512 * t.val + p.val from by omega)
  · exact (show _ = win0_0.index t 1 * 1024 + 1 * k.val from rfl).trans (show _ = k.val from by omega)

theorem block_gain (k : Fin 1024) : Eq (α := EReal) ((iblk m c 1 t : Vec Ideal S1x1024 .f32) (ix2 0 k)) (gainArr m c (ix2 1 k)) := by
  obtain ⟨-, ⟨e0, e1⟩, -⟩ := block_places t
  refine Eq.trans (congrArg (V m c main_v20) (ix2_of_val _ ?_ ?_ : _ = ix2 0 k)) (gain_apply m c k)
  · exact (show _ = win0_1.index t 0 * 1 + 1 * 0 from rfl).trans (show _ = 0 from by omega)
  · exact (show _ = win0_1.index t 1 * 1024 + 1 * k.val from rfl).trans (show _ = k.val from by omega)

theorem block_w (k : Fin 1024) (j : Fin 3584) : Eq (α := EReal) ((iblk m c 2 t : Vec Ideal S1024x3584 .bf16) (ix2 k j)) (weight j (wArr m c (ix3 1 k ⟨j.val, by omega⟩))) := by
  obtain ⟨-, -, ⟨e0, e1⟩, -⟩ := block_places t
  refine Eq.trans (congrArg (V m c main_v13) (ix2_of_val _ ?_ ?_ : _ = ix2 k j)) (w_apply m c k j)
  · exact (show _ = win0_2.index t 0 * 1024 + 1 * k.val from rfl).trans (show _ = k.val from by omega)
  · exact (show _ = win0_2.index t 1 * 3584 + 1 * j.val from rfl).trans (show _ = j.val from by omega)

theorem block_bias (j : Fin 128) : Eq (α := EReal) ((iblk m c 3 t : Vec Ideal S1x128 .f32) (ix2 0 j)) (if h : j.val < 6 then bArr m c (ix2 1 ⟨j.val, h⟩) else 0) := by
  obtain ⟨-, -, -, ⟨e0, e1⟩, -⟩ := block_places t
  refine Eq.trans (congrArg (V m c main_v17) (ix2_of_val _ ?_ ?_ : _ = ix2 0 j)) (bias_apply m c j)
  · exact (show _ = win0_3.index t 0 * 1 + 1 * 0 from rfl).trans (show _ = 0 from by omega)
  · exact (show _ = win0_3.index t 1 * 128 + 1 * j.val from rfl).trans (show _ = j.val from by omega)

theorem block_cos (p : Fin 512) (j : Fin 384) : Eq (α := EReal) ((iblk m c 4 t : Vec Ideal S512x384 .f32) (ix2 p j)) (cosAt (posOf t p).val j) := by
  obtain ⟨-, -, -, -, ⟨e0, e1⟩, -⟩ := block_places t
  refine Eq.trans (congrArg (V m c main_v46) (ix2_of_val _ ?_ ?_ : _ = ix2 (posOf t p) j)) (cos_apply m c (posOf t p) j)
  · exact (show _ = win0_4.index t 0 * 512 + 1 * p.val from rfl).trans (show _ = t.val % 4 * 512 + p.val from by omega)
  · exact (show _ = win0_4.index t 1 * 384 + 1 * j.val from rfl).trans (show _ = j.val from by omega)

theorem block_down (p : Fin 512) (j : Fin 384) : Eq (α := EReal) ((iblk m c 5 t : Vec Ideal S512x384 .f32) (ix2 p j)) (downAt (posOf t p).val j) := by
  obtain ⟨-, -, -, -, -, ⟨e0, e1⟩, -⟩ := block_places t
  refine Eq.trans (congrArg (V m c main_v51) (ix2_of_val _ ?_ ?_ : _ = ix2 (posOf t p) j)) (down_apply m c (posOf t p) j)
  · exact (show _ = win0_5.index t 0 * 512 + 1 * p.val from rfl).trans (show _ = t.val % 4 * 512 + p.val from by omega)
  · exact (show _ = win0_5.index t 1 * 384 + 1 * j.val from rfl).trans (show _ = j.val from by omega)

theorem block_up (p : Fin 512) (j : Fin 384) : Eq (α := EReal) ((iblk m c 6 t : Vec Ideal S512x384 .f32) (ix2 p j)) (upAt (posOf t p).val j) := by
  obtain ⟨-, -, -, -, -, -, e0, e1⟩ := block_places t
  refine Eq.trans (congrArg (V m c main_v55) (ix2_of_val _ ?_ ?_ : _ = ix2 (posOf t p) j)) (up_apply m c (posOf t p) j)
  · exact (show _ = win0_6.index t 0 * 512 + 1 * p.val from rfl).trans (show _ = t.val % 4 * 512 + p.val from by omega)
  · exact (show _ = win0_6.index t 1 * 384 + 1 * j.val from rfl).trans (show _ = j.val from by omega)

/-- Result 0: at row `p` of point `t` it holds the block's row `p`. -/
theorem cut7 (A : Vec Ideal S16384x2304 .bf16) (X : Vec Ideal S512x2304 .bf16)
    (h : ((cfg0.win 7).blk t).view.read (Elt Ideal) A = (cfg0.win 7).cut (grid0.coords t) X) (p : Fin 512) (q : Fin 2304) :
    A (ix2 (rowOf t p) q) = X (ix2 p q) := by
  obtain ⟨⟨h0, h1, hf⟩, -, -⟩ := wide_sizes t
  obtain ⟨⟨e0, e1⟩, -, -⟩ := wide_places t
  have hy : ∀ a : Fin 2, ((![p.val, q.val] : Fin 2 → ℕ) a) < win0_7.xsize (grid0.coords t) a :=
    Fin.forall_fin_two.mpr ⟨lt_of_lt_of_eq p.isLt h0.symm, lt_of_lt_of_eq q.isLt h1.symm⟩
  have key := congrFun h (fun a => ⟨_, hy a⟩)
  refine Eq.trans (congrArg A (ix2_of_val _ ?_ ?_ : _ = ix2 (rowOf t p) q)).symm (Eq.trans key ?_)
  · exact (show _ = win0_7.index t 0 * 512 + 1 * p.val from rfl).trans (show _ = 512 * t.val + p.val from by omega)
  · exact (show _ = win0_7.index t 1 * 2304 + 1 * q.val from rfl).trans (show _ = q.val from by omega)
  · exact congrArg X (ix2_of_val _ rfl rfl)

/-- Result 4: at row `p` of point `t` it holds the block's row `p`. -/
theorem cut11 (A : Vec Ideal S16384x1152 .bf16) (X : Vec Ideal S512x1152 .bf16)
    (h : ((cfg0.win 11).blk t).view.read (Elt Ideal) A = (cfg0.win 11).cut (grid0.coords t) X) (p : Fin 512) (q : Fin 1152) :
    A (ix2 (rowOf t p) q) = X (ix2 p q) := by
  obtain ⟨-, ⟨h0, h1, hf⟩, -⟩ := wide_sizes t
  obtain ⟨-, ⟨e0, e1⟩, -⟩ := wide_places t
  have hy : ∀ a : Fin 2, ((![p.val, q.val] : Fin 2 → ℕ) a) < win0_11.xsize (grid0.coords t) a :=
    Fin.forall_fin_two.mpr ⟨lt_of_lt_of_eq p.isLt h0.symm, lt_of_lt_of_eq q.isLt h1.symm⟩
  have key := congrFun h (fun a => ⟨_, hy a⟩)
  refine Eq.trans (congrArg A (ix2_of_val _ ?_ ?_ : _ = ix2 (rowOf t p) q)).symm (Eq.trans key ?_)
  · exact (show _ = win0_11.index t 0 * 512 + 1 * p.val from rfl).trans (show _ = 512 * t.val + p.val from by omega)
  · exact (show _ = win0_11.index t 1 * 1152 + 1 * q.val from rfl).trans (show _ = q.val from by omega)
  · exact congrArg X (ix2_of_val _ rfl rfl)

/-- Result 5: at row `p` of point `t` it holds the block's row `p`. -/
theorem cut12 (A : Vec Ideal S16384x128 .f32) (X : Vec Ideal S512x128 .f32)
    (h : ((cfg0.win 12).blk t).view.read (Elt Ideal) A = (cfg0.win 12).cut (grid0.coords t) X) (p : Fin 512) (q : Fin 128) :
    A (ix2 (rowOf t p) q) = X (ix2 p q) := by
  obtain ⟨-, -, ⟨h0, h1, hf⟩⟩ := wide_sizes t
  obtain ⟨-, -, ⟨e0, e1⟩⟩ := wide_places t
  have hy : ∀ a : Fin 2, ((![p.val, q.val] : Fin 2 → ℕ) a) < win0_12.xsize (grid0.coords t) a :=
    Fin.forall_fin_two.mpr ⟨lt_of_lt_of_eq p.isLt h0.symm, lt_of_lt_of_eq q.isLt h1.symm⟩
  have key := congrFun h (fun a => ⟨_, hy a⟩)
  refine Eq.trans (congrArg A (ix2_of_val _ ?_ ?_ : _ = ix2 (rowOf t p) q)).symm (Eq.trans key ?_)
  · exact (show _ = win0_12.index t 0 * 512 + 1 * p.val from rfl).trans (show _ = 512 * t.val + p.val from by omega)
  · exact (show _ = win0_12.index t 1 * 128 + 1 * q.val from rfl).trans (show _ = q.val from by omega)
  · exact congrArg X (ix2_of_val _ rfl rfl)

theorem inside (p : Fin 512) (q : Fin 768) : ∀ a : Fin 4, ((![0, 0, q.val, p.val] : Fin 4 → ℕ) a) < S1x1x768x512.size a :=
  Fin.forall_fin_succ.mpr ⟨Nat.zero_lt_one, Fin.forall_fin_succ.mpr ⟨Nat.zero_lt_one, Fin.forall_fin_two.mpr ⟨q.isLt, p.isLt⟩⟩⟩

/-- Result 1: the new layer's rows are the blocks', and the layer before keeps its rows. -/
theorem cut8 (A : Vec Ideal S2x8x768x2048 .f32) (X : Vec Ideal S1x1x768x512 .f32)
    (h : ((cfg0.win 8).blk t).view.read (Elt Ideal) A = (cfg0.win 8).cut (grid0.coords t) X) (p : Fin 512) (q : Fin 768) :
    A (ix4 1 (seqOf t) q (posOf t p)) = X (ix4 0 0 q p) := by
  obtain ⟨⟨hs, hf⟩, -, -⟩ := tall_sizes t
  obtain ⟨⟨e0, e1, e2, e3⟩, -, -⟩ := tall_places t
  have hy : ∀ a : Fin 4, ((![0, 0, q.val, p.val] : Fin 4 → ℕ) a) < win0_8.xsize (grid0.coords t) a :=
    fun a => lt_of_lt_of_eq (inside p q a) (hs a).symm
  have key := congrFun h (fun a => ⟨_, hy a⟩)
  refine Eq.trans (congrArg A (ix4_of_val _ ?_ ?_ ?_ ?_ : _ = ix4 1 (seqOf t) q (posOf t p))).symm (Eq.trans key ?_)
  · exact (show _ = win0_8.index t 0 * 1 + 1 * 0 from rfl).trans (show _ = 1 from by omega)
  · exact (show _ = win0_8.index t 1 * 1 + 1 * 0 from rfl).trans (show _ = t.val / 4 from by omega)
  · exact (show _ = win0_8.index t 2 * 768 + 1 * q.val from rfl).trans (show _ = q.val from by omega)
  · exact (show _ = win0_8.index t 3 * 512 + 1 * p.val from rfl).trans (show _ = t.val % 4 * 512 + p.val from by omega)
  · exact congrArg X (ix4_of_val _ rfl rfl rfl rfl)

theorem kept8 (b : Fin 8) (j : Fin 768) (s : Fin 2048) : ∀ t : Fin cfg0.N, (cfg0.win 8).flush t = true → (ix4 0 b j s : S2x8x768x2048.Idx) ∉ ((cfg0.win 8).blk t).view.set := by
  intro t _ hm
  obtain ⟨x, hx⟩ := View.exists_emb_of_mem_set _ hm
  obtain ⟨⟨e0, e1, e2, e3⟩, -, -⟩ := tall_places t
  have h0 : win0_8.index t 0 * 1 + 1 * (x 0).val = 0 := congrArg (fun i : S2x8x768x2048.Idx => (i 0).val) hx
  omega

/-- Result 2: the new layer's rows are the blocks', and the layer before keeps its rows. -/
theorem cut9 (A : Vec Ideal S2x8x768x2048 .f32) (X : Vec Ideal S1x1x768x512 .f32)
    (h : ((cfg0.win 9).blk t).view.read (Elt Ideal) A = (cfg0.win 9).cut (grid0.coords t) X) (p : Fin 512) (q : Fin 768) :
    A (ix4 1 (seqOf t) q (posOf t p)) = X (ix4 0 0 q p) := by
  obtain ⟨-, ⟨hs, hf⟩, -⟩ := tall_sizes t
  obtain ⟨-, ⟨e0, e1, e2, e3⟩, -⟩ := tall_places t
  have hy : ∀ a : Fin 4, ((![0, 0, q.val, p.val] : Fin 4 → ℕ) a) < win0_9.xsize (grid0.coords t) a :=
    fun a => lt_of_lt_of_eq (inside p q a) (hs a).symm
  have key := congrFun h (fun a => ⟨_, hy a⟩)
  refine Eq.trans (congrArg A (ix4_of_val _ ?_ ?_ ?_ ?_ : _ = ix4 1 (seqOf t) q (posOf t p))).symm (Eq.trans key ?_)
  · exact (show _ = win0_9.index t 0 * 1 + 1 * 0 from rfl).trans (show _ = 1 from by omega)
  · exact (show _ = win0_9.index t 1 * 1 + 1 * 0 from rfl).trans (show _ = t.val / 4 from by omega)
  · exact (show _ = win0_9.index t 2 * 768 + 1 * q.val from rfl).trans (show _ = q.val from by omega)
  · exact (show _ = win0_9.index t 3 * 512 + 1 * p.val from rfl).trans (show _ = t.val % 4 * 512 + p.val from by omega)
  · exact congrArg X (ix4_of_val _ rfl rfl rfl rfl)

theorem kept9 (b : Fin 8) (j : Fin 768) (s : Fin 2048) : ∀ t : Fin cfg0.N, (cfg0.win 9).flush t = true → (ix4 0 b j s : S2x8x768x2048.Idx) ∉ ((cfg0.win 9).blk t).view.set := by
  intro t _ hm
  obtain ⟨x, hx⟩ := View.exists_emb_of_mem_set _ hm
  obtain ⟨-, ⟨e0, e1, e2, e3⟩, -⟩ := tall_places t
  have h0 : win0_9.index t 0 * 1 + 1 * (x 0).val = 0 := congrArg (fun i : S2x8x768x2048.Idx => (i 0).val) hx
  omega

/-- Result 3: the new layer's rows are the blocks', and the layer before keeps its rows. -/
theorem cut10 (A : Vec Ideal S2x8x768x2048 .f32) (X : Vec Ideal S1x1x768x512 .f32)
    (h : ((cfg0.win 10).blk t).view.read (Elt Ideal) A = (cfg0.win 10).cut (grid0.coords t) X) (p : Fin 512) (q : Fin 768) :
    A (ix4 1 (seqOf t) q (posOf t p)) = X (ix4 0 0 q p) := by
  obtain ⟨-, -, ⟨hs, hf⟩⟩ := tall_sizes t
  obtain ⟨-, -, ⟨e0, e1, e2, e3⟩⟩ := tall_places t
  have hy : ∀ a : Fin 4, ((![0, 0, q.val, p.val] : Fin 4 → ℕ) a) < win0_10.xsize (grid0.coords t) a :=
    fun a => lt_of_lt_of_eq (inside p q a) (hs a).symm
  have key := congrFun h (fun a => ⟨_, hy a⟩)
  refine Eq.trans (congrArg A (ix4_of_val _ ?_ ?_ ?_ ?_ : _ = ix4 1 (seqOf t) q (posOf t p))).symm (Eq.trans key ?_)
  · exact (show _ = win0_10.index t 0 * 1 + 1 * 0 from rfl).trans (show _ = 1 from by omega)
  · exact (show _ = win0_10.index t 1 * 1 + 1 * 0 from rfl).trans (show _ = t.val / 4 from by omega)
  · exact (show _ = win0_10.index t 2 * 768 + 1 * q.val from rfl).trans (show _ = q.val from by omega)
  · exact (show _ = win0_10.index t 3 * 512 + 1 * p.val from rfl).trans (show _ = t.val % 4 * 512 + p.val from by omega)
  · exact congrArg X (ix4_of_val _ rfl rfl rfl rfl)

theorem kept10 (b : Fin 8) (j : Fin 768) (s : Fin 2048) : ∀ t : Fin cfg0.N, (cfg0.win 10).flush t = true → (ix4 0 b j s : S2x8x768x2048.Idx) ∉ ((cfg0.win 10).blk t).view.set := by
  intro t _ hm
  obtain ⟨x, hx⟩ := View.exists_emb_of_mem_set _ hm
  obtain ⟨-, -, ⟨e0, e1, e2, e3⟩⟩ := tall_places t
  have h0 : win0_10.index t 0 * 1 + 1 * (x 0).val = 0 := congrArg (fun i : S2x8x768x2048.Idx => (i 0).val) hx
  omega

end Cert.Kernel4Ideal.Inproj

end
-- ==== Proof.InprojEquation.lean ====
/- The equations between the projection's kernel and its reference: scaled weights, the rotation by tables, the logarithm of the sigmoid. -/
module

public import proofs.«01_k».proof.Proof.InprojHost

@[expose] public section

noncomputable section

namespace Cert.Kernel4Ideal.Inproj

open Idealize.ShloMosaic Idealize.ShloMosaic.TcCoe Cert.Rows

/-- The word of one eighth. -/
theorem eighth : Eq (α := EReal) (Ideal.ofBits .f32 0x3E000000#32) ((0.125 : ℝ) : EReal) := by
  simp [Ideal.ofBits, Ideal.ieee]
  rw [← EReal.coe_mul]
  norm_num

/-- A real scale, pulled out of a sum. -/
theorem sum_scaled (r : ℝ) (hr : 0 ≤ r) (n : ℕ) (f : Fin n → EReal) : ∑ k, f k * (r : EReal) = (∑ k, f k) * (r : EReal) := by
  induction n with
  | zero => simp
  | succ n ih => rw [Fin.sum_univ_succ, Fin.sum_univ_succ, ih, EReal.right_distrib_of_nonneg_of_ne_top (EReal.coe_nonneg.mpr hr) (EReal.coe_ne_top r)]

/-- A column of weights may be scaled, or cleared, before or after the product. -/
theorem sum_weight (j : Fin 3584) (h w : Fin 1024 → EReal) : ∑ k, h k * weight j (w k) = weight j (∑ k, h k * w k) := by
  unfold weight
  split_ifs with h1 h2
  · rw [eighth, ← sum_scaled 0.125 (by norm_num)]
    exact Finset.sum_congr rfl fun k _ => (mul_assoc _ _ _).symm
  · rfl
  · exact Finset.sum_eq_zero fun k _ => mul_zero _

/-- The rotation by the three tables is the rotation. -/
theorem turned_eq (t : ℕ) (f : Fin 384 → EReal) (j : Fin 384) : turned f (cosAt t) (downAt t) (upAt t) j = rot t f j := by
  have hj := j.isLt
  unfold turned rot cosAt downAt upAt
  by_cases h1 : j.val % 48 < 6
  · rw [if_pos h1, if_pos h1, if_pos h1, dif_pos h1, mul_zero, add_zero, mul_neg, sub_eq_add_neg]
    exact congrArg (fun g => f j * Ideal.cos (angle t (j.val % 48)) + -(f g * Ideal.sin (angle t (j.val % 48)))) (Fin.ext (show (j.val + 384 - 378) % 384 = j.val + 6 by omega))
  rw [if_neg h1, if_neg h1, if_neg h1, dif_neg h1, mul_zero, add_zero]
  by_cases h2 : j.val % 48 - 6 < 6
  · rw [if_pos h2, if_pos h2, dif_pos h2]
    exact congrArg (fun g => f j * Ideal.cos (angle t (j.val % 48 - 6)) + f g * Ideal.sin (angle t (j.val % 48 - 6))) (Fin.ext (show (j.val + 384 - 6) % 384 = j.val - 6 by omega))
  · rw [if_neg h2, if_neg h2, dif_neg h2, mul_one, mul_zero, add_zero]

/-- The logarithm of one plus an exponential is not below every real. -/
theorem log1p_exp_ne_bot (x : EReal) : Ideal.log1p (Ideal.exp x) ≠ ⊥ := by
  unfold Ideal.log1p
  have real (r : ℝ) (h : 0 < r) : Ideal.log (r : EReal) ≠ ⊥ := by
    show (if r ≤ 0 then (⊥ : EReal) else ((Real.log r : ℝ) : EReal)) ≠ ⊥
    rw [if_neg (not_le.mpr h)]
    exact EReal.coe_ne_bot _
  induction x with
  | bot =>
    have e : (1 : EReal) + Ideal.exp ⊥ = ((1 : ℝ) : EReal) := (add_zero 1 : (1 : EReal) + 0 = 1)
    rw [e]
    exact real 1 one_pos
  | top =>
    have e : (1 : EReal) + Ideal.exp ⊤ = ⊤ := EReal.coe_add_top 1
    rw [e]
    exact (bot_ne_top (α := EReal)).symm
  | coe r =>
    have e : (1 : EReal) + Ideal.exp (r : EReal) = ((1 + Real.exp r : ℝ) : EReal) := (EReal.coe_add 1 (Real.exp r)).symm
    rw [e]
    exact real _ (by positivity)

/-- The two forms of the logarithm of the sigmoid. -/
theorem logSig_eq (z : EReal) : -(max (-z) 0 + Ideal.log1p (Ideal.exp (-max (-z) (- -z)))) = logSig z := by
  unfold logSig
  have hm : max (-z) (- -z) = max z (-z) := by rw [neg_neg, max_comm]
  have hn : -(max (-z) 0) = min z 0 := by
    rcases le_total z 0 with h | h
    · rw [min_eq_left h, max_eq_left (EReal.neg_nonneg.mpr h), neg_neg]
    · rw [min_eq_right h, max_eq_right (show -z ≤ 0 from EReal.neg_le.mpr (by rwa [neg_zero])), neg_zero]
  have h0 : max (-z) 0 ≠ ⊥ := ne_of_gt (lt_of_lt_of_le EReal.bot_lt_zero (le_max_right _ _))
  rw [EReal.neg_add (Or.inl h0) (Or.inr (log1p_exp_ne_bot _)), hn, hm, zero_sub]

end Cert.Kernel4Ideal.Inproj

end
-- ==== Proof.InprojRef.lean ====
/- What the input projection's reference computes: its six results at an index. -/
module

public import proofs.«01_k».proof.Proof.Rotary
public import proofs.«01_k».proof.Proof.Gen.Reference4Ideal.Run

@[expose] public section

set_option maxRecDepth 16384

noncomputable section

namespace Cert.Reference4Ideal.Inproj

open Cert.Reference4Ideal Cert.Reference4Ideal.Gen Cert.Reference4Ideal.Value Idealize.ShloMosaic Idealize.ShloMosaic.TcCoe Cert.Rows

/-- The normalised rows, with the gain `g`. -/
abbrev normed (x : FVec Ideal S16384x1024 .f32) (g : FVec Ideal S2x1024 .f32) : FVec Ideal S16384x1024 .f32 :=
  hostNorm x g slices_S2x1024_S1x1024_1_0 shapeCasts_S1x1024_S1024 reducesTo_S16384x1024_S16384_d1 h_S_ bcast_S16384_S16384x1_0 bcast_S_S16384x1
    bcast_S16384x1_S16384x1024_0_1 bcast_S1024_S1x1024_1 bcast_S1x1024_S16384x1024_0_1

/-- All columns of the projection. -/
def projected (h : FVec Ideal S16384x1024 .f32) (w : FVec Ideal S2x1024x6534 .f32) : FVec Ideal S16384x6534 .f32 :=
  Host.dotGeneral dot_S16384x1024_S1024x6534_S16384x6534_1_0_0_1_n_n none h (shapeCast _ (extractStridedSlice S1x1024x6534 ![1, 0, 0] w slices_S2x1024x6534_S1x1024x6534_1_0_0) shapeCasts_S1x1024x6534_S1024x6534)

/-- The angles of the positions. -/
def angles : FVec Ideal S2048x6 .f32 :=
  (mulf (broadcastInDim S2048x6 ![0, 1] bcast_S2048x1_S2048x6_0_1 (broadcastInDim S2048x1 ![0] bcast_S2048_S2048x1_0 (sitofp .f32 (iotaInDim S2048 32 0)))) (broadcastInDim S2048x6 ![0, 1] bcast_S1x6_S2048x6_0_1 (broadcastInDim S1x6 ![1] bcast_S6_S1x6_1 (Host.powf (broadcastInDim S6 ![] bcast_S_S6 (constant S_ .f32 0x48F42400#32)) (Host.divf (Host.negf (addf (broadcastInDim S6 ![] bcast_S_S6 (constant S_ .f32 0x00000000#32)) (mulf (broadcastInDim S6 ![] bcast_S_S6 (constant S_ .f32 0x40000000#32)) (sitofp .f32 (iotaInDim S6 32 0))))) (broadcastInDim S6 ![] bcast_S_S6 (constant S_ .f32 0x41400000#32)))))))

/-- The partial rotation. -/
def rotated (ang : FVec Ideal S2048x6 .f32) (x : FVec Ideal S16384x384 .f32) : FVec Ideal S16384x384 .f32 :=
  (shapeCast _ ((concatenate S8x2048x4x2x48 4 [⟨S8x2048x4x2x6, ((subf (mulf (extractStridedSlice S8x2048x4x2x6 ![0, 0, 0, 0, 0] (shapeCast _ x shapeCasts_S16384x384_S8x2048x4x2x48) slices_S8x2048x4x2x48_S8x2048x4x2x6_0_0_0_0_0) (broadcastInDim S8x2048x4x2x6 ![0, 1, 2, 3, 4] bcast_S1x2048x1x1x6_S8x2048x4x2x6_0_1_2_3_4 (broadcastInDim S1x2048x1x1x6 ![1, 4] bcast_S2048x6_S1x2048x1x1x6_1_4 (Host.cos ang)))) (mulf (extractStridedSlice S8x2048x4x2x6 ![0, 0, 0, 0, 6] (shapeCast _ x shapeCasts_S16384x384_S8x2048x4x2x48) slices_S8x2048x4x2x48_S8x2048x4x2x6_0_0_0_0_6) (broadcastInDim S8x2048x4x2x6 ![0, 1, 2, 3, 4] bcast_S1x2048x1x1x6_S8x2048x4x2x6_0_1_2_3_4 (broadcastInDim S1x2048x1x1x6 ![1, 4] bcast_S2048x6_S1x2048x1x1x6_1_4 (Host.sin ang))))) : (⟨S8x2048x4x2x6, .f32⟩ : BufTy).Contents (Elt Ideal))⟩, ⟨S8x2048x4x2x6, ((addf (mulf (extractStridedSlice S8x2048x4x2x6 ![0, 0, 0, 0, 6] (shapeCast _ x shapeCasts_S16384x384_S8x2048x4x2x48) slices_S8x2048x4x2x48_S8x2048x4x2x6_0_0_0_0_6) (broadcastInDim S8x2048x4x2x6 ![0, 1, 2, 3, 4] bcast_S1x2048x1x1x6_S8x2048x4x2x6_0_1_2_3_4 (broadcastInDim S1x2048x1x1x6 ![1, 4] bcast_S2048x6_S1x2048x1x1x6_1_4 (Host.cos ang)))) (mulf (extractStridedSlice S8x2048x4x2x6 ![0, 0, 0, 0, 0] (shapeCast _ x shapeCasts_S16384x384_S8x2048x4x2x48) slices_S8x2048x4x2x48_S8x2048x4x2x6_0_0_0_0_0) (broadcastInDim S8x2048x4x2x6 ![0, 1, 2, 3, 4] bcast_S1x2048x1x1x6_S8x2048x4x2x6_0_1_2_3_4 (broadcastInDim S1x2048x1x1x6 ![1, 4] bcast_S2048x6_S1x2048x1x1x6_1_4 (Host.sin ang))))) : (⟨S8x2048x4x2x6, .f32⟩ : BufTy).Contents (Elt Ideal))⟩, ⟨S8x2048x4x2x36, ((extractStridedSlice S8x2048x4x2x36 ![0, 0, 0, 0, 12] (shapeCast _ x shapeCasts_S16384x384_S8x2048x4x2x48) slices_S8x2048x4x2x48_S8x2048x4x2x36_0_0_0_0_12) : (⟨S8x2048x4x2x36, .f32⟩ : BufTy).Contents (Elt Ideal))⟩] concatenates_S8x2048x4x2x6_S8x2048x4x2x6_S8x2048x4x2x36_S8x2048x4x2x48_d4 : (⟨S8x2048x4x2x48, .f32⟩ : BufTy).Contents (Elt Ideal))) shapeCasts_S8x2048x4x2x48_S16384x384)

/-- The queries, keys and values of the first and second layer's heads. -/
def pairs (u : FVec Ideal S16384x6534 .f32) : FVec Ideal S16384x2304 .bf16 :=
  truncf .bf16 ((concatenate S16384x2304 1 [⟨S16384x384, ((mulf (extractStridedSlice S16384x384 ![0, 0] u slices_S16384x6534_S16384x384_0_0) (broadcastInDim S16384x384 ![] bcast_S_S16384x384 (constant S_ .f32 0x3E000000#32))) : (⟨S16384x384, .f32⟩ : BufTy).Contents (Elt Ideal))⟩, ⟨S16384x384, ((extractStridedSlice S16384x384 ![0, 384] u slices_S16384x6534_S16384x384_0_384) : (⟨S16384x384, .f32⟩ : BufTy).Contents (Elt Ideal))⟩, ⟨S16384x384, ((extractStridedSlice S16384x384 ![0, 768] u slices_S16384x6534_S16384x384_0_768) : (⟨S16384x384, .f32⟩ : BufTy).Contents (Elt Ideal))⟩, ⟨S16384x384, ((mulf (extractStridedSlice S16384x384 ![0, 1152] u slices_S16384x6534_S16384x384_0_1152) (broadcastInDim S16384x384 ![] bcast_S_S16384x384 (constant S_ .f32 0x3E000000#32))) : (⟨S16384x384, .f32⟩ : BufTy).Contents (Elt Ideal))⟩, ⟨S16384x384, ((extractStridedSlice S16384x384 ![0, 1536] u slices_S16384x6534_S16384x384_0_1536) : (⟨S16384x384, .f32⟩ : BufTy).Contents (Elt Ideal))⟩, ⟨S16384x384, ((extractStridedSlice S16384x384 ![0, 1920] u slices_S16384x6534_S16384x384_0_1920) : (⟨S16384x384, .f32⟩ : BufTy).Contents (Elt Ideal))⟩] concatenates_S16384x384_S16384x384_S16384x384_S16384x384_S16384x384_S16384x384_S16384x2304_d1 : (⟨S16384x2304, .f32⟩ : BufTy).Contents (Elt Ideal))) bitsLt_bf16_f32

/-- The queries, keys and values of the third layer's heads. -/
def triples (q k : FVec Ideal S16384x384 .f32) (u : FVec Ideal S16384x6534 .f32) : FVec Ideal S16384x1152 .bf16 :=
  truncf .bf16 ((concatenate S16384x1152 1 [⟨S16384x384, ((mulf q (broadcastInDim S16384x384 ![] bcast_S_S16384x384 (constant S_ .f32 0x3E13CD3A#32))) : (⟨S16384x384, .f32⟩ : BufTy).Contents (Elt Ideal))⟩, ⟨S16384x384, (k : (⟨S16384x384, .f32⟩ : BufTy).Contents (Elt Ideal))⟩, ⟨S16384x384, ((extractStridedSlice S16384x384 ![0, 3072] u slices_S16384x6534_S16384x384_0_3072) : (⟨S16384x384, .f32⟩ : BufTy).Contents (Elt Ideal))⟩] concatenates_S16384x384_S16384x384_S16384x384_S16384x1152_d1 : (⟨S16384x1152, .f32⟩ : BufTy).Contents (Elt Ideal))) bitsLt_bf16_f32

/-- Keys and values side by side. -/
def merged (k v : FVec Ideal S16384x384 .f32) : FVec Ideal S16384x768 .f32 :=
  concatenate S16384x768 1 [⟨S16384x384, k⟩, ⟨S16384x384, v⟩] concatenates_S16384x384_S16384x384_S16384x768_d1

/-- The new layer's rows, by channel and position. -/
def turnedRows (kv : FVec Ideal S16384x768 .f32) : FVec Ideal S8x768x2048 .f32 :=
  transpose S8x768x2048 [0, 2, 1] (shapeCast _ kv shapeCasts_S16384x768_S8x2048x768) transposes_S8x2048x768_S8x768x2048_0_2_1

/-- The new layer's rows beside the rows so far. -/
def joined (rows : FVec Ideal S2x8x768x2048 .f32) (new : FVec Ideal S8x768x2048 .f32) : FVec Ideal S2x8x768x2048 .f32 :=
  concatenate S2x8x768x2048 0 [⟨S1x8x768x2048, (extractStridedSlice S1x8x768x2048 ![0, 0, 0, 0] rows slices_S2x8x768x2048_S1x8x768x2048_0_0_0_0)⟩, ⟨S1x8x768x2048, (broadcastInDim S1x8x768x2048 ![1, 2, 3] bcast_S8x768x2048_S1x8x768x2048_1_2_3 new)⟩] concatenates_S1x8x768x2048_S1x8x768x2048_S2x8x768x2048_d0

/-- The new layer's keys and values beside the rows so far. -/
abbrev added (rows : FVec Ideal S2x8x768x2048 .f32) (k v : FVec Ideal S16384x384 .f32) : FVec Ideal S2x8x768x2048 .f32 :=
  joined rows (turnedRows (merged k v))

/-- The forget gates before the sigmoid, padded. -/
def gates (u : FVec Ideal S16384x6534 .f32) (b : FVec Ideal S2x6 .f32) : FVec Ideal S16384x128 .f32 :=
  (pad S16384x128 ![0, 0] ![0, 122] ![0, 0] (addf (extractStridedSlice S16384x6 ![0, 3456] u slices_S16384x6534_S16384x6_0_3456) (broadcastInDim S16384x6 ![0, 1] bcast_S1x6_S16384x6_0_1 (broadcastInDim S1x6 ![1] bcast_S6_S1x6_1 (shapeCast _ (extractStridedSlice S1x6 ![1, 0] b slices_S2x6_S1x6_1_0) shapeCasts_S1x6_S6)))) (sitofp .f32 (constantI S_ 32 0#32)) pads_S16384x6_S16384x128_000_01220 h_S_)

/-- The logarithm of the sigmoid. -/
def logs (z : FVec Ideal S16384x128 .f32) : FVec Ideal S16384x128 .f32 :=
  Host.negf (select (cmpf .une (subf (Host.negf z) (broadcastInDim S16384x128 ![] bcast_S_S16384x128 (constant S_ .f32 0x00000000#32))) (subf (Host.negf z) (broadcastInDim S16384x128 ![] bcast_S_S16384x128 (constant S_ .f32 0x00000000#32)))) (addf (Host.negf z) (broadcastInDim S16384x128 ![] bcast_S_S16384x128 (constant S_ .f32 0x00000000#32))) (addf (maximumf (Host.negf z) (broadcastInDim S16384x128 ![] bcast_S_S16384x128 (constant S_ .f32 0x00000000#32))) (Host.log1p (Host.exp (Host.negf (Host.absf (subf (Host.negf z) (broadcastInDim S16384x128 ![] bcast_S_S16384x128 (constant S_ .f32 0x00000000#32)))))))))

section Result

variable (m : (ℓ : Loc nD τ sig) → Buf (Elt Ideal) ℓ) (c : Dev nD)

abbrev uArr : FVec Ideal S16384x6534 .f32 := projected (normed (m ((c.tc : Thread nD τ).loc main_arg0)) (m ((c.tc : Thread nD τ).loc main_arg4))) (m ((c.tc : Thread nD τ).loc main_arg5))

theorem pairs_eq : res_main_v114 (F := Ideal) m c = pairs (uArr m c) := rfl

theorem triples_eq : res_main_v118 (F := Ideal) m c = triples (rotated angles (extractStridedSlice S16384x384 ![0, 2304] (uArr m c) slices_S16384x6534_S16384x384_0_2304))
    (rotated angles (extractStridedSlice S16384x384 ![0, 2688] (uArr m c) slices_S16384x6534_S16384x384_0_2688)) (uArr m c) := rfl

theorem added_eq : res_main_v136 (F := Ideal) m c = added (m ((c.tc : Thread nD τ).loc main_arg3)) (rotated angles (extractStridedSlice S16384x384 ![0, 2688] (uArr m c) slices_S16384x6534_S16384x384_0_2688))
    (extractStridedSlice S16384x384 ![0, 3072] (uArr m c) slices_S16384x6534_S16384x384_0_3072) := rfl

theorem logs_eq : res_main_v34 (F := Ideal) m c = logs (gates (uArr m c) (m ((c.tc : Thread nD τ).loc main_arg6))) := rfl

end Result

theorem projected_apply (h : FVec Ideal S16384x1024 .f32) (w : FVec Ideal S2x1024x6534 .f32) (r : Fin 16384) (j : Fin 6534) :
    Eq (α := EReal) (projected h w (ix2 r j)) (times (fun k => h (ix2 r k)) (fun k j => w (ix3 1 k j)) j) := by
  unfold times
  pointwise [projected]

theorem angles_apply (t : Fin 2048) (d : Fin 6) : Eq (α := EReal) (angles (ix2 t d)) (angle t.val d.val) := by
  unfold angle
  pointwise [angles]

theorem rotated_apply (x : FVec Ideal S16384x384 .f32) (r : Fin 16384) (j : Fin 384) :
    Eq (α := EReal) (rotated angles x (ix2 r j)) (rot (r.val % 2048) (fun j => x (ix2 r j)) j) := by
  unfold rot
  pointwise [rotated]
  simp only [angles_apply]
  refine dite_congr rfl (fun h => ?_) fun h => dite_congr rfl (fun h' => ?_) fun h' => ?_
  · exact congrArg (fun f => x (ix2 r j) * Ideal.cos (angle (r.val % 2048) (j.val % 48)) - x (ix2 r f) * Ideal.sin (angle (r.val % 2048) (j.val % 48))) (Fin.ext (by simp only []; omega))
  · exact congrArg₂ (fun f g => x (ix2 r f) * Ideal.cos (angle (r.val % 2048) (j.val % 48 - 6)) + x (ix2 r g) * Ideal.sin (angle (r.val % 2048) (j.val % 48 - 6))) (Fin.ext (by simp only []; omega)) (Fin.ext (by simp only []; omega))
  · exact congrArg (fun f => x (ix2 r f)) (Fin.ext (by simp only []; omega))

theorem pairs_apply (u : FVec Ideal S16384x6534 .f32) (r : Fin 16384) (j : Fin 2304) :
    Eq (α := EReal) (pairs u (ix2 r j)) (if IsQuery j.val then u (ix2 r ⟨j.val, by omega⟩) * Ideal.ofBits .f32 0x3E000000#32 else u (ix2 r ⟨j.val, by omega⟩)) := by
  have at_ : ∀ a b : Fin 6534, a.val = b.val → Eq (α := EReal) (u (ix2 r a)) (u (ix2 r b)) := fun a b h => congrArg (fun f => u (ix2 r f)) (Fin.ext h)
  pointwise [pairs]
  by_cases h1 : j.val < 384
  · rw [dif_pos h1, if_pos (Or.inl h1)]
  rw [dif_neg h1]
  by_cases h2 : j.val - 384 < 384
  · rw [dif_pos h2, if_neg (show ¬ IsQuery j.val by omega)]
    exact at_ _ _ (show 384 + (j.val - 384) = j.val by omega)
  rw [dif_neg h2]
  by_cases h3 : j.val - 384 - 384 < 384
  · rw [dif_pos h3, if_neg (show ¬ IsQuery j.val by omega)]
    exact at_ _ _ (show 768 + (j.val - 384 - 384) = j.val by omega)
  rw [dif_neg h3]
  by_cases h4 : j.val - 384 - 384 - 384 < 384
  · rw [dif_pos h4, if_pos (show IsQuery j.val by omega)]
    exact congrArg (fun w : EReal => w * _) (at_ _ _ (show 1152 + (j.val - 384 - 384 - 384) = j.val by omega))
  rw [dif_neg h4, if_neg (show ¬ IsQuery j.val by omega)]
  by_cases h5 : j.val - 384 - 384 - 384 - 384 < 384
  · rw [dif_pos h5]
    exact at_ _ _ (show 1536 + (j.val - 384 - 384 - 384 - 384) = j.val by omega)
  rw [dif_neg h5]
  exact at_ _ _ (show 1920 + (j.val - 384 - 384 - 384 - 384 - 384) = j.val by omega)

theorem triples_apply (q k : FVec Ideal S16384x384 .f32) (u : FVec Ideal S16384x6534 .f32) (r : Fin 16384) (j : Fin 1152) :
    Eq (α := EReal) (triples q k u (ix2 r j)) (if h : j.val < 384 then q (ix2 r ⟨j.val, h⟩) * Ideal.ofBits .f32 1041485114#32
      else if h : j.val - 384 < 384 then k (ix2 r ⟨j.val - 384, h⟩) else u (ix2 r ⟨3072 + (j.val - 384 - 384), by omega⟩)) := by
  pointwise [triples]

theorem merged_apply (k v : FVec Ideal S16384x384 .f32) (r : Fin 16384) (j : Fin 768) :
    Eq (α := EReal) (merged k v (ix2 r j)) (if h : j.val < 384 then k (ix2 r ⟨j.val, h⟩) else v (ix2 r ⟨j.val - 384, by omega⟩)) := by
  pointwise [merged]

theorem turnedRows_apply (kv : FVec Ideal S16384x768 .f32) (b : Fin 8) (j : Fin 768) (t : Fin 2048) :
    Eq (α := EReal) (turnedRows kv (ix3 b j t)) (kv (ix2 ⟨b.val * 2048 + t.val, by omega⟩ j)) := by
  pointwise [turnedRows]

theorem joined_apply (rows : FVec Ideal S2x8x768x2048 .f32) (new : FVec Ideal S8x768x2048 .f32) (l : Fin 2) (b : Fin 8) (j : Fin 768) (t : Fin 2048) :
    Eq (α := EReal) (joined rows new (ix4 l b j t)) (if l.val < 1 then rows (ix4 l b j t) else new (ix3 b j t)) := by
  pointwise [joined]
  by_cases h : l.val < 1
  · rw [dif_pos h, if_pos h]
  · rw [dif_neg h, if_neg h]

theorem gates_apply (u : FVec Ideal S16384x6534 .f32) (b : FVec Ideal S2x6 .f32) (r : Fin 16384) (j : Fin 128) :
    Eq (α := EReal) (gates u b (ix2 r j)) (if h : j.val < 6 then u (ix2 r ⟨3456 + j.val, by omega⟩) + b (ix2 1 ⟨j.val, h⟩) else FloatOps.sitofp (F := Ideal) .f32 0#32) := by
  pointwise [gates]

theorem logs_apply (z : FVec Ideal S16384x128 .f32) (r : Fin 16384) (j : Fin 128) :
    Eq (α := EReal) (logs z (ix2 r j)) (-(max (-z (ix2 r j)) 0 + Ideal.log1p (Ideal.exp (-max (-z (ix2 r j)) (- -z (ix2 r j)))))) := by
  pointwise [logs]
  rw [if_neg (fun h => h rfl)]
  rfl

end Cert.Reference4Ideal.Inproj

end
-- ==== Proof.InprojClaim.lean ====
/- The input projection's kernel and its reference end with equal results. -/
module

public import proofs.«01_k».proof.Defs
public import proofs.«01_k».proof.Proof.InprojBlocks
public import proofs.«01_k».proof.Proof.InprojEquation
public import proofs.«01_k».proof.Proof.InprojRef

@[expose] public section

set_option maxRecDepth 16384

noncomputable section

namespace Cert.Proof

open Idealize.ShloMosaic Idealize.ShloMosaic.TcCoe Idealize.SL.Sem Cert.Rows

namespace Inproj

open Cert.Kernel4Ideal.Inproj Cert.Reference4Ideal.Inproj

variable (m : (ℓ : Loc Cert.Kernel4Ideal.nD Cert.Kernel4Ideal.τ Cert.Kernel4Ideal.sig) → Buf (Elt Ideal) ℓ) (c : Dev Cert.Kernel4Ideal.nD)

/-- All columns of the projection, of the kernel's arguments. -/
def uAll : FVec Ideal Cert.Reference4Ideal.S16384x6534 .f32 := projected (normed (xArr m c) (gainArr m c)) (wArr m c)

theorem uAll_apply (r : Fin 16384) (j : Fin 6534) :
    Eq (α := EReal) (uAll m c (ix2 r j)) (∑ k, norm (fun k => xArr m c (ix2 r k)) (fun k => gainArr m c (ix2 1 k)) k * wArr m c (ix3 1 k j)) := by
  refine (projected_apply _ _ r j).trans ?_
  unfold times
  exact Finset.sum_congr rfl fun k _ => congrArg (fun a : EReal => a * _) (hostNorm_apply _ _ _ _ _ _ _ _ _ _ _ r k)

theorem uAll_at (r : Fin 16384) (a b : Fin 6534) (h : a.val = b.val) : Eq (α := EReal) (uAll m c (ix2 r a)) (uAll m c (ix2 r b)) :=
  congrArg (fun f => uAll m c (ix2 r f)) (Fin.ext h)

/-- What `weight` does to a column: nothing to most of them. -/
theorem weight_plain (j : Fin 3584) (w : EReal) (h : ¬ IsQuery j.val) (h' : j.val < 3462) : weight j w = w := by
  unfold weight
  rw [if_neg h, if_pos h']

theorem weight_query (j : Fin 3584) (w : EReal) (h : IsQuery j.val) : weight j w = w * Ideal.ofBits .f32 0x3E000000#32 := by
  unfold weight
  rw [if_pos h]

theorem weight_padding (j : Fin 3584) (w : EReal) (h : ¬ j.val < 3462) : weight j w = 0 := by
  unfold weight
  rw [if_neg (show ¬ IsQuery j.val by omega), if_neg h]

section Point

variable (t : Fin Cert.Kernel4Ideal.cfg0.N) (p : Fin 512)

/-- A column of a point's row. -/
theorem col_eq (j : Fin 3584) :
    col (Cert.Kernel4Ideal.Gen.iblk m c 0 t) (Cert.Kernel4Ideal.Gen.iblk m c 1 t) (Cert.Kernel4Ideal.Gen.iblk m c 2 t) p j
      = weight j (uAll m c (ix2 (rowOf t p) ⟨j.val, by omega⟩)) := by
  refine Eq.trans ?_ (congrArg (weight j) (uAll_apply m c (rowOf t p) ⟨j.val, by omega⟩)).symm
  refine Eq.trans ?_ (sum_weight j _ _)
  unfold col times
  refine Finset.sum_congr rfl fun k _ => congrArg₂ (fun a b : EReal => a * b) ?_ (block_w m c t k j)
  exact congrArg₂ (fun f g => norm f g k) (funext fun k => block_x m c t p k) (funext fun k => block_gain m c t k)

/-- A column that is not scaled. -/
theorem col_plain (j : Fin 3584) (h : ¬ IsQuery j.val) (h' : j.val < 3462) :
    col (Cert.Kernel4Ideal.Gen.iblk m c 0 t) (Cert.Kernel4Ideal.Gen.iblk m c 1 t) (Cert.Kernel4Ideal.Gen.iblk m c 2 t) p j
      = uAll m c (ix2 (rowOf t p) ⟨j.val, by omega⟩) :=
  (col_eq m c t p j).trans (weight_plain j _ h h')

theorem pos_eq : (posOf t p).val = (rowOf t p).val % 2048 :=
  show t.val % 4 * 512 + p.val = (512 * t.val + p.val) % 2048 by omega

theorem turned_congr {f f' C C' A A' B B' : Fin 384 → EReal} (hf : ∀ j, f j = f' j) (hC : ∀ j, C j = C' j) (hA : ∀ j, A j = A' j) (hB : ∀ j, B j = B' j)
    (j : Fin 384) : turned f C A B j = turned f' C' A' B' j := by
  rw [funext hf, funext hC, funext hA, funext hB]

/-- The 384 columns from `o` on, rotated by the point's tables. -/
theorem rot_eq (o : ℕ) (ho : 1536 ≤ o) (ho' : o + 384 ≤ 3462) (j : Fin 384) :
    turned (fun j : Fin 384 => col (Cert.Kernel4Ideal.Gen.iblk m c 0 t) (Cert.Kernel4Ideal.Gen.iblk m c 1 t) (Cert.Kernel4Ideal.Gen.iblk m c 2 t) p ⟨o + j.val, by omega⟩)
        (fun j => (Cert.Kernel4Ideal.Gen.iblk m c 4 t : Vec Ideal Cert.Kernel4Ideal.S512x384 .f32) (ix2 p j))
        (fun j => (Cert.Kernel4Ideal.Gen.iblk m c 5 t : Vec Ideal Cert.Kernel4Ideal.S512x384 .f32) (ix2 p j))
        (fun j => (Cert.Kernel4Ideal.Gen.iblk m c 6 t : Vec Ideal Cert.Kernel4Ideal.S512x384 .f32) (ix2 p j)) j
      = rot ((rowOf t p).val % 2048) (fun j => uAll m c (ix2 (rowOf t p) ⟨o + j.val, by omega⟩)) j := by
  rw [← pos_eq, ← turned_eq]
  exact turned_congr (fun j => col_plain m c t p ⟨o + j.val, by omega⟩ (show ¬ IsQuery (o + j.val) by omega) (show o + j.val < 3462 by omega))
    (fun j => block_cos m c t p j) (fun j => block_down m c t p j) (fun j => block_up m c t p j) j

end Point

/-- The 384 columns from `o` on. -/
theorem slice_apply (u : FVec Ideal Cert.Reference4Ideal.S16384x6534 .f32) (o : ℕ) (ho : o + 384 ≤ 6534) (h) (r : Fin 16384) (j : Fin 384) :
    Eq (α := EReal) (extractStridedSlice Cert.Reference4Ideal.S16384x384 ![0, o] u h (ix2 r j)) (u (ix2 r ⟨o + j.val, by omega⟩)) := by
  pointwise []

/-- The same columns, rotated. -/
theorem rotated_slice (u : FVec Ideal Cert.Reference4Ideal.S16384x6534 .f32) (o : ℕ) (ho : o + 384 ≤ 6534) (h) (r : Fin 16384) (j : Fin 384) :
    Eq (α := EReal) (rotated angles (extractStridedSlice Cert.Reference4Ideal.S16384x384 ![0, o] u h) (ix2 r j))
      (rot (r.val % 2048) (fun j => u (ix2 r ⟨o + j.val, by omega⟩)) j) :=
  (rotated_apply _ r j).trans (congrArg (fun f => rot (r.val % 2048) f j) (funext fun j => slice_apply u o ho h r j))

/-- Every row is a point's. -/
theorem row_split (r : Fin 16384) : ∃ (t : Fin Cert.Kernel4Ideal.cfg0.N) (p : Fin 512), r = rowOf t p :=
  ⟨⟨r.val / 512, lt_of_lt_of_eq (show r.val / 512 < 32 by omega) Cert.Kernel4Ideal.Gen.N_0.symm⟩, ⟨r.val % 512, by omega⟩,
    Fin.ext (show r.val = 512 * (r.val / 512) + r.val % 512 by omega)⟩

/-- Every position of a sequence is a point's. -/
theorem pos_split (b : Fin 8) (s : Fin 2048) : ∃ (t : Fin Cert.Kernel4Ideal.cfg0.N) (p : Fin 512),
    b = seqOf t ∧ s = posOf t p ∧ (⟨b.val * 2048 + s.val, by omega⟩ : Fin 16384) = rowOf t p :=
  ⟨⟨4 * b.val + s.val / 512, lt_of_lt_of_eq (show 4 * b.val + s.val / 512 < 32 by omega) Cert.Kernel4Ideal.Gen.N_0.symm⟩, ⟨s.val % 512, by omega⟩,
    Fin.ext (show b.val = (4 * b.val + s.val / 512) / 4 by omega),
    Fin.ext (show s.val = (4 * b.val + s.val / 512) % 4 * 512 + s.val % 512 by omega),
    Fin.ext (show b.val * 2048 + s.val = 512 * (4 * b.val + s.val / 512) + s.val % 512 by omega)⟩

/-- An array that keeps the rows of the layer before, and whose new rows are keys and values by channel. -/
theorem tall_value (A rows : Vec Ideal Cert.Kernel4Ideal.S2x8x768x2048 .f32) (k v : FVec Ideal Cert.Reference4Ideal.S16384x384 .f32)
    (h0 : ∀ (b : Fin 8) (j : Fin 768) (s : Fin 2048), Eq (α := EReal) (A (ix4 0 b j s)) (rows (ix4 0 b j s)))
    (h1 : ∀ (t : Fin Cert.Kernel4Ideal.cfg0.N) (p : Fin 512) (q : Fin 768), Eq (α := EReal) (A (ix4 1 (seqOf t) q (posOf t p)))
      (if h : q.val < 384 then k (ix2 (rowOf t p) ⟨q.val, h⟩) else v (ix2 (rowOf t p) ⟨q.val - 384, by omega⟩)))
    (i : Cert.Kernel4Ideal.S2x8x768x2048.Idx) : Eq (α := EReal) (added rows k v i) (A i) := by
  obtain ⟨l, b, j, s, rfl⟩ : ∃ (l : Fin 2) (b : Fin 8) (j : Fin 768) (s : Fin 2048), i = ix4 l b j s := ⟨i 0, i 1, i 2, i 3, ix4_of_val i rfl rfl rfl rfl⟩
  refine (joined_apply _ _ l b j s).trans ?_
  obtain rfl | rfl : l = 0 ∨ l = 1 := by omega
  · exact (if_pos (show (0 : Fin 2).val < 1 by decide)).trans (h0 b j s).symm
  · refine (if_neg (show ¬ (1 : Fin 2).val < 1 by decide)).trans ?_
    refine (turnedRows_apply _ b j s).trans ((merged_apply _ _ _ _).trans ?_)
    obtain ⟨t, p, eb, es, er⟩ := pos_split b s
    rw [er, eb, es]
    exact (h1 t p j).symm

/-- The first result: both mixers' queries, keys and values. -/
theorem value0 (i : Cert.Kernel4Ideal.S16384x2304.Idx) : Eq (α := EReal) (pairs (uAll m c) i)
    (((Cert.Kernel4Ideal.Gen.dats m 0 c).arrAt 7 Cert.Kernel4Ideal.cfg0.N : Vec Ideal Cert.Kernel4Ideal.S16384x2304 .bf16) i) := by
  obtain ⟨r, q, rfl⟩ : ∃ (r : Fin 16384) (q : Fin 2304), i = ix2 r q := ⟨i 0, i 1, ix2_of_val i rfl rfl⟩
  obtain ⟨t, p, rfl⟩ := row_split r
  refine (pairs_apply _ _ q).trans (Eq.symm ?_)
  refine (cut7 t _ _ ((Cert.Kernel4Ideal.Value.blocks7 m c t (wide_sizes t).1.2.2).trans (Cert.Kernel4Ideal.Value.flushed7_A m c t)) p q).trans ?_
  refine (out7_apply _ _ _ _ _ _ _ _ _ _ _ _ _ _ _ _ _ _ _ _ _ _ _ _ _ _ _ _ _ _ _ _ _ _ _ (ix2 p q)).trans ?_
  refine (col_eq m c t p ⟨0 + q.val, by omega⟩).trans ?_
  have e := uAll_at m c (rowOf t p) ⟨0 + q.val, by omega⟩ ⟨q.val, by omega⟩ (Nat.zero_add _)
  by_cases h : IsQuery q.val
  · exact (weight_query _ _ (show IsQuery (0 + q.val) by omega)).trans ((congrArg (fun a : EReal => a * _) e).trans (if_pos h).symm)
  · exact (weight_plain _ _ (show ¬ IsQuery (0 + q.val) by omega) (show 0 + q.val < 3462 by omega)).trans (e.trans (if_neg h).symm)

/-- The second result: the first mixer's keys and values. -/
theorem value1 (i : Cert.Kernel4Ideal.S2x8x768x2048.Idx) : Eq (α := EReal)
    (added (m ((c : Thread Cert.Kernel4Ideal.nD Cert.Kernel4Ideal.τ).loc Cert.Kernel4Ideal.main_arg1))
      (extractStridedSlice Cert.Reference4Ideal.S16384x384 ![0, 384] (uAll m c) Cert.Reference4Ideal.Gen.slices_S16384x6534_S16384x384_0_384)
      (extractStridedSlice Cert.Reference4Ideal.S16384x384 ![0, 768] (uAll m c) Cert.Reference4Ideal.Gen.slices_S16384x6534_S16384x384_0_768) i)
    (((Cert.Kernel4Ideal.Gen.dats m 0 c).arrAt 8 Cert.Kernel4Ideal.cfg0.N : Vec Ideal Cert.Kernel4Ideal.S2x8x768x2048 .f32) i) := by
  refine tall_value _ _ _ _ (fun b j s => (Cert.Kernel4Ideal.Value.entry8 m c _ (kept8 b j s)).trans (start1_apply m c _)) (fun t p q => ?_) i
  refine (cut8 t _ _ ((Cert.Kernel4Ideal.Value.blocks8 m c t (tall_sizes t).1.2).trans (Cert.Kernel4Ideal.Value.flushed8_A m c t)) p q).trans ?_
  refine (out8_apply _ _ _ _ _ _ _ _ _ _ _ _ _ _ _ _ _ _ _ _ _ _ _ _ _ _ _ _ _ _ _ _ _ _ _ p q).trans ?_
  refine (col_plain m c t p _ (show ¬ IsQuery (384 + q.val) by omega) (show 384 + q.val < 3462 by omega)).trans ?_
  by_cases h : q.val < 384
  · rw [dif_pos h]
    exact (slice_apply _ 384 (by decide) _ _ ⟨q.val, h⟩).symm
  · rw [dif_neg h]
    exact (uAll_at m c _ _ _ (show 384 + q.val = 768 + (q.val - 384) by omega)).trans (slice_apply _ 768 (by decide) _ _ ⟨q.val - 384, by omega⟩).symm

/-- The third result: the second mixer's keys and values. -/
theorem value2 (i : Cert.Kernel4Ideal.S2x8x768x2048.Idx) : Eq (α := EReal)
    (added (m ((c : Thread Cert.Kernel4Ideal.nD Cert.Kernel4Ideal.τ).loc Cert.Kernel4Ideal.main_arg2))
      (extractStridedSlice Cert.Reference4Ideal.S16384x384 ![0, 1536] (uAll m c) Cert.Reference4Ideal.Gen.slices_S16384x6534_S16384x384_0_1536)
      (extractStridedSlice Cert.Reference4Ideal.S16384x384 ![0, 1920] (uAll m c) Cert.Reference4Ideal.Gen.slices_S16384x6534_S16384x384_0_1920) i)
    (((Cert.Kernel4Ideal.Gen.dats m 0 c).arrAt 9 Cert.Kernel4Ideal.cfg0.N : Vec Ideal Cert.Kernel4Ideal.S2x8x768x2048 .f32) i) := by
  refine tall_value _ _ _ _ (fun b j s => (Cert.Kernel4Ideal.Value.entry9 m c _ (kept9 b j s)).trans (start2_apply m c _)) (fun t p q => ?_) i
  refine (cut9 t _ _ ((Cert.Kernel4Ideal.Value.blocks9 m c t (tall_sizes t).2.1.2).trans (Cert.Kernel4Ideal.Value.flushed9_A m c t)) p q).trans ?_
  refine (out9_apply _ _ _ _ _ _ _ _ _ _ _ _ _ _ _ _ _ _ _ _ _ _ _ _ _ _ _ _ _ _ _ _ _ _ _ p q).trans ?_
  refine (col_plain m c t p _ (show ¬ IsQuery (1536 + q.val) by omega) (show 1536 + q.val < 3462 by omega)).trans ?_
  by_cases h : q.val < 384
  · rw [dif_pos h]
    exact (slice_apply _ 1536 (by decide) _ _ ⟨q.val, h⟩).symm
  · rw [dif_neg h]
    exact (uAll_at m c _ _ _ (show 1536 + q.val = 1920 + (q.val - 384) by omega)).trans (slice_apply _ 1920 (by decide) _ _ ⟨q.val - 384, by omega⟩).symm

/-- The third mixer's rotated keys, of the reference. -/
abbrev keysOf : FVec Ideal Cert.Reference4Ideal.S16384x384 .f32 :=
  rotated angles (extractStridedSlice Cert.Reference4Ideal.S16384x384 ![0, 2688] (uAll m c) Cert.Reference4Ideal.Gen.slices_S16384x6534_S16384x384_0_2688)

/-- The third mixer's keys and values, of a point's row. -/
theorem pair_eq (t : Fin Cert.Kernel4Ideal.cfg0.N) (p : Fin 512) (q : Fin 768) :
    Eq (α := EReal) (pair (Cert.Kernel4Ideal.Gen.iblk m c 0 t) (Cert.Kernel4Ideal.Gen.iblk m c 1 t) (Cert.Kernel4Ideal.Gen.iblk m c 2 t) (Cert.Kernel4Ideal.Gen.iblk m c 4 t) (Cert.Kernel4Ideal.Gen.iblk m c 5 t) (Cert.Kernel4Ideal.Gen.iblk m c 6 t) p q)
      (if h : q.val < 384 then keysOf m c (ix2 (rowOf t p) ⟨q.val, h⟩) else uAll m c (ix2 (rowOf t p) ⟨3072 + (q.val - 384), by omega⟩)) := by
  unfold pair
  refine dite_congr rfl (fun h => ?_) fun h => ?_
  · exact (rot_eq m c t p 2688 (by decide) (by decide) ⟨q.val, h⟩).trans (rotated_slice _ 2688 (by decide) _ _ _).symm
  · exact (col_plain m c t p ⟨2688 + q.val, by omega⟩ (show ¬ IsQuery (2688 + q.val) by omega) (show 2688 + q.val < 3462 by omega)).trans
      (uAll_at m c _ _ _ (show 2688 + q.val = 3072 + (q.val - 384) by omega))

/-- The fourth result: the third mixer's keys, rotated, and values. -/
theorem value3 (i : Cert.Kernel4Ideal.S2x8x768x2048.Idx) : Eq (α := EReal)
    (added (m ((c : Thread Cert.Kernel4Ideal.nD Cert.Kernel4Ideal.τ).loc Cert.Kernel4Ideal.main_arg3)) (keysOf m c)
      (extractStridedSlice Cert.Reference4Ideal.S16384x384 ![0, 3072] (uAll m c) Cert.Reference4Ideal.Gen.slices_S16384x6534_S16384x384_0_3072) i)
    (((Cert.Kernel4Ideal.Gen.dats m 0 c).arrAt 10 Cert.Kernel4Ideal.cfg0.N : Vec Ideal Cert.Kernel4Ideal.S2x8x768x2048 .f32) i) := by
  refine tall_value _ _ _ _ (fun b j s => (Cert.Kernel4Ideal.Value.entry10 m c _ (kept10 b j s)).trans (start3_apply m c _)) (fun t p q => ?_) i
  refine (cut10 t _ _ ((Cert.Kernel4Ideal.Value.blocks10 m c t (tall_sizes t).2.2.2).trans (Cert.Kernel4Ideal.Value.flushed10_A m c t)) p q).trans ?_
  refine (out10_apply _ _ _ _ _ _ _ _ _ _ _ _ _ _ _ _ _ _ _ _ _ _ _ _ _ _ _ _ _ _ _ _ _ _ _ p q).trans ((pair_eq m c t p q).trans ?_)
  exact dite_congr rfl (fun _ => rfl) fun h => (slice_apply _ 3072 (by decide) _ _ ⟨q.val - 384, by omega⟩).symm

/-- The fifth result: the third mixer's queries and keys, rotated, and values. -/
theorem value4 (i : Cert.Kernel4Ideal.S16384x1152.Idx) : Eq (α := EReal)
    (triples (rotated angles (extractStridedSlice Cert.Reference4Ideal.S16384x384 ![0, 2304] (uAll m c) Cert.Reference4Ideal.Gen.slices_S16384x6534_S16384x384_0_2304)) (keysOf m c) (uAll m c) i)
    (((Cert.Kernel4Ideal.Gen.dats m 0 c).arrAt 11 Cert.Kernel4Ideal.cfg0.N : Vec Ideal Cert.Kernel4Ideal.S16384x1152 .bf16) i) := by
  obtain ⟨r, q, rfl⟩ : ∃ (r : Fin 16384) (q : Fin 1152), i = ix2 r q := ⟨i 0, i 1, ix2_of_val i rfl rfl⟩
  obtain ⟨t, p, rfl⟩ := row_split r
  refine (triples_apply _ _ _ _ q).trans (Eq.symm ?_)
  refine (cut11 t _ _ ((Cert.Kernel4Ideal.Value.blocks11 m c t (wide_sizes t).2.1.2.2).trans (Cert.Kernel4Ideal.Value.flushed11_A m c t)) p q).trans ?_
  refine (out11_apply _ _ _ _ _ _ _ _ _ _ _ _ _ _ _ _ _ _ _ _ _ _ _ _ _ _ _ _ _ _ _ _ _ _ _ p q).trans ?_
  unfold triple
  refine dite_congr rfl (fun h => ?_) fun h => ?_
  · exact congrArg (fun a : EReal => a * Ideal.ofBits .f32 0x3E13CD3A#32)
      ((rot_eq m c t p 2304 (by decide) (by decide) ⟨q.val, h⟩).trans (rotated_slice _ 2304 (by decide) _ _ _).symm)
  · exact pair_eq m c t p ⟨q.val - 384, by omega⟩

/-- The sixth result: the logarithms of the third mixer's forget gates. -/
theorem value5 (i : Cert.Kernel4Ideal.S16384x128.Idx) : Eq (α := EReal) (logs (gates (uAll m c) (m ((c : Thread Cert.Kernel4Ideal.nD Cert.Kernel4Ideal.τ).loc Cert.Kernel4Ideal.main_arg6))) i)
    (((Cert.Kernel4Ideal.Gen.dats m 0 c).arrAt 12 Cert.Kernel4Ideal.cfg0.N : Vec Ideal Cert.Kernel4Ideal.S16384x128 .f32) i) := by
  obtain ⟨r, q, rfl⟩ : ∃ (r : Fin 16384) (q : Fin 128), i = ix2 r q := ⟨i 0, i 1, ix2_of_val i rfl rfl⟩
  obtain ⟨t, p, rfl⟩ := row_split r
  refine ((logs_apply _ _ q).trans (logSig_eq _)).trans (Eq.symm ?_)
  refine (cut12 t _ _ ((Cert.Kernel4Ideal.Value.blocks12 m c t (wide_sizes t).2.2.2.2).trans (Cert.Kernel4Ideal.Value.flushed12_A m c t)) p q).trans ?_
  refine (out12_apply _ _ _ _ _ _ _ _ _ _ _ _ _ _ _ _ _ _ _ _ _ _ _ _ _ _ _ _ _ _ _ _ _ _ _ p q).trans (congrArg logSig ?_)
  refine (congrArg₂ (fun a b : EReal => a + b) (col_eq m c t p ⟨3456 + q.val, by omega⟩) (block_bias m c t q)).trans ?_
  refine Eq.trans ?_ (gates_apply _ _ (rowOf t p) q).symm
  by_cases h : q.val < 6
  · rw [dif_pos h, dif_pos h, weight_plain _ _ (show ¬ IsQuery (3456 + q.val) by omega) (show 3456 + q.val < 3462 by omega)]
  · rw [dif_neg h, dif_neg h, weight_padding _ _ (show ¬ 3456 + q.val < 3462 by omega), add_zero]
    exact zero_word.symm

end Inproj

set_option maxHeartbeats 1000000 in
/-- The input projection's kernel and its reference end with equal results. -/
theorem algebraic4 : Cert.algebraic_Kernel4Ideal_Reference4Ideal (hKernel4Ideal := Cert.Kernel4Ideal.Gen.facts)
    (hReference4Ideal := Cert.Reference4Ideal.Gen.facts) := by
  intro m ρ m' ρ' hpre hagree
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 11 Cert.Kernel4Ideal.cfg0.N, fun c => (Cert.Kernel4Ideal.Gen.dats m 0 c).arrAt 12 Cert.Kernel4Ideal.cfg0.N,
    (θ_run Cert.Kernel4Ideal.defs _ _).mono (fun _ h c => h c) (Cert.Kernel4Ideal.Value.run_blocks m ρ), ?_⟩
  have hu : ∀ c, Cert.Reference4Ideal.Inproj.uArr m' c = Inproj.uAll m c := fun c => by
    obtain ⟨e0, e1, e2, e3, e4, e5, e6⟩ := hagree c
    show Cert.Reference4Ideal.Inproj.projected (Cert.Reference4Ideal.Inproj.normed _ _) _ = _
    rw [e0, e4, e5]
    rfl
  refine (θ_run Cert.Reference4Ideal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference4Ideal.Value.run (F := Ideal) m' ρ')
  · rw [Cert.Reference4Ideal.Inproj.pairs_eq, hu]
    exact funext fun i => Inproj.value0 m c i
  · obtain ⟨e0, e1, e2, e3, e4, e5, e6⟩ := hagree c
    refine Eq.trans (show _ = Cert.Reference4Ideal.Inproj.added (m' ((c.tc : Thread Cert.Reference4Ideal.nD Cert.Reference4Ideal.τ).loc Cert.Reference4Ideal.main_arg1))
      (extractStridedSlice Cert.Reference4Ideal.S16384x384 ![0, 384] (Cert.Reference4Ideal.Inproj.uArr m' c) Cert.Reference4Ideal.Gen.slices_S16384x6534_S16384x384_0_384)
      (extractStridedSlice Cert.Reference4Ideal.S16384x384 ![0, 768] (Cert.Reference4Ideal.Inproj.uArr m' c) Cert.Reference4Ideal.Gen.slices_S16384x6534_S16384x384_0_768) from rfl) ?_
    rw [hu, e1]
    exact funext fun i => Inproj.value1 m c i
  · obtain ⟨e0, e1, e2, e3, e4, e5, e6⟩ := hagree c
    refine Eq.trans (show _ = Cert.Reference4Ideal.Inproj.added (m' ((c.tc : Thread Cert.Reference4Ideal.nD Cert.Reference4Ideal.τ).loc Cert.Reference4Ideal.main_arg2))
      (extractStridedSlice Cert.Reference4Ideal.S16384x384 ![0, 1536] (Cert.Reference4Ideal.Inproj.uArr m' c) Cert.Reference4Ideal.Gen.slices_S16384x6534_S16384x384_0_1536)
      (extractStridedSlice Cert.Reference4Ideal.S16384x384 ![0, 1920] (Cert.Reference4Ideal.Inproj.uArr m' c) Cert.Reference4Ideal.Gen.slices_S16384x6534_S16384x384_0_1920) from rfl) ?_
    rw [hu, e2]
    exact funext fun i => Inproj.value2 m c i
  · obtain ⟨e0, e1, e2, e3, e4, e5, e6⟩ := hagree c
    rw [Cert.Reference4Ideal.Inproj.added_eq, hu, e3]
    exact funext fun i => Inproj.value3 m c i
  · rw [Cert.Reference4Ideal.Inproj.triples_eq, hu]
    exact funext fun i => Inproj.value4 m c i
  · obtain ⟨e0, e1, e2, e3, e4, e5, e6⟩ := hagree c
    rw [Cert.Reference4Ideal.Inproj.logs_eq, hu, e6]
    exact funext fun i => Inproj.value5 m c i

end Cert.Proof

end
-- ==== Proof.Flash.lean ====
/- The mathematics of a softmax that is computed block by block, over the extended reals: the running maximum, the
   running weighted sum, what one block does to both, and the quotient that ends it. -/
module

public import Idealize.ShloMosaic.PureOps.Ideal
public import Idealize.ShloMosaic.Lib.ValueIdx

@[expose] public section

noncomputable section

namespace Cert.Flash

open Idealize.ShloMosaic

/-- A number that is not `⊤`: a real or `⊥`, as a masked score is. -/
theorem bot_or_coe {x : EReal} (h : x ≠ ⊤) : x = ⊥ ∨ ∃ r : ℝ, x = r := by
  induction x using EReal.rec with
  | bot => exact Or.inl rfl
  | top => exact absurd rfl h
  | coe r => exact Or.inr ⟨r, rfl⟩

/-- The exponential of a masked score less a real is a real that is not negative. -/
theorem exp_sub_real {x : EReal} (hx : x ≠ ⊤) (m : ℝ) : ∃ r : ℝ, 0 ≤ r ∧ Ideal.exp (x - m) = r := by
  rcases bot_or_coe hx with rfl | ⟨r, rfl⟩
  · exact ⟨0, le_rfl, by rw [EReal.bot_sub]; rfl⟩
  · exact ⟨Real.exp (r - m), (Real.exp_pos _).le, by rw [← EReal.coe_sub]; rfl⟩

/-- Changing the maximum that was subtracted, from `a` to `m`, multiplies by `exp (a - m)`. -/
theorem exp_rescale {x a : EReal} (hxa : x ≤ a) (ha : a ≠ ⊤) (m : ℝ) :
    Ideal.exp (a - m) * Ideal.exp (x - a) = Ideal.exp (x - m) := by
  rcases bot_or_coe ha with rfl | ⟨a, rfl⟩
  · obtain rfl : x = ⊥ := le_bot_iff.mp hxa
    simp only [EReal.bot_sub, Ideal.exp_bot, zero_mul]
  · rcases bot_or_coe (ne_top_of_le_ne_top (EReal.coe_ne_top a) hxa) with rfl | ⟨x, rfl⟩
    · simp only [EReal.bot_sub, Ideal.exp_bot, mul_zero]
    · rw [← EReal.coe_sub, ← EReal.coe_sub, ← EReal.coe_sub, Ideal.exp_coe, Ideal.exp_coe, Ideal.exp_coe, ← EReal.coe_mul, ← Real.exp_add]
      congr 2; ring

/-- A real that is not negative goes through a sum of any extended reals, from the left. -/
theorem coe_mul_sum {ι : Type*} {r : ℝ} (hr : 0 ≤ r) (s : Finset ι) (f : ι → EReal) :
    (r : EReal) * ∑ t ∈ s, f t = ∑ t ∈ s, (r : EReal) * f t := by
  classical
  induction s using Finset.induction_on with
  | empty => simp only [Finset.sum_empty, mul_zero]
  | insert a s ha ih =>
    rw [Finset.sum_insert ha, Finset.sum_insert ha,
      EReal.left_distrib_of_nonneg_of_ne_top (EReal.coe_nonneg.mpr hr) (EReal.coe_ne_top r), ih]

/-- A sum of reals is a real. -/
theorem coe_sum {ι : Type*} (s : Finset ι) (f : ι → ℝ) : ((∑ t ∈ s, f t : ℝ) : EReal) = ∑ t ∈ s, (f t : EReal) := by
  classical
  induction s using Finset.induction_on with
  | empty => simp only [Finset.sum_empty, EReal.coe_zero]
  | insert a s ha ih => rw [Finset.sum_insert ha, Finset.sum_insert ha, EReal.coe_add, ih]

/-- The maximum of the first `n` scores. -/
def top (s : ℕ → EReal) (n : ℕ) : EReal := (Finset.range n).sup s

/-- The sum of the first `n` values, weighted by the exponentials of their scores less the maximum. -/
def acc (s v : ℕ → EReal) (n : ℕ) : EReal := ∑ t ∈ Finset.range n, v t * Ideal.exp (s t - top s n)

theorem le_top_of_lt (s : ℕ → EReal) {n t : ℕ} (h : t < n) : s t ≤ top s n :=
  Finset.le_sup (f := s) (Finset.mem_range.mpr h)

/-- No score is `⊤`, so no maximum is. -/
theorem top_ne_top {s : ℕ → EReal} (hs : ∀ t, s t ≠ ⊤) (n : ℕ) : top s n ≠ ⊤ := by
  unfold top
  exact ((Finset.sup_lt_iff (bot_lt_top)).mpr fun t _ => lt_top_iff_ne_top.mpr (hs t)).ne

/-- Where one score is real the maximum is. -/
theorem top_real {s : ℕ → EReal} (hs : ∀ t, s t ≠ ⊤) {n t : ℕ} (ht : t < n) (hr : s t ≠ ⊥) : ∃ m : ℝ, top s n = m := by
  rcases bot_or_coe (top_ne_top hs n) with h | h
  · exact absurd (le_bot_iff.mp (h ▸ le_top_of_lt s ht)) hr
  · exact h

/-- The maximum after a block of `k` more scores. -/
theorem top_add (s : ℕ → EReal) (n k : ℕ) :
    top s (n + k) = max (top s n) ((Finset.range k).sup fun j => s (n + j)) := by
  refine le_antisymm (Finset.sup_le fun t ht => ?_) (max_le (Finset.sup_mono (Finset.range_mono (Nat.le_add_right n k)))
    (Finset.sup_le fun j hj => Finset.le_sup (f := s) (Finset.mem_range.mpr (Nat.add_lt_add_left (Finset.mem_range.mp hj) n))))
  rcases Nat.lt_or_ge t n with h | h
  · exact le_max_of_le_left (le_top_of_lt s h)
  · refine le_max_of_le_right ?_
    have := Finset.le_sup (f := fun j => s (n + j)) (s := Finset.range k) (b := t - n)
      (Finset.mem_range.mpr (by have := Finset.mem_range.mp ht; omega))
    rwa [show s (n + (t - n)) = s t by rw [Nat.add_sub_cancel' h]] at this

/-- The weighted sum after a block of `k` more scores: the old one scaled to the new maximum, and the block's. -/
theorem acc_add {s : ℕ → EReal} (v : ℕ → EReal) (hs : ∀ t, s t ≠ ⊤) (n k : ℕ) {m : ℝ} (hm : top s (n + k) = m) :
    Ideal.exp (top s n - top s (n + k)) * acc s v n
      + ∑ j ∈ Finset.range k, v (n + j) * Ideal.exp (s (n + j) - top s (n + k)) = acc s v (n + k) := by
  unfold acc
  rw [Finset.sum_range_add, hm]
  obtain ⟨r, hr, he⟩ := exp_sub_real (top_ne_top hs n) m
  rw [he, coe_mul_sum hr, ← he]
  congr 1
  refine Finset.sum_congr rfl fun t ht => ?_
  rw [← exp_rescale (le_top_of_lt s (Finset.mem_range.mp ht)) (top_ne_top hs n) m]
  exact mul_left_comm _ _ _

/-- Scores that are all `⊥` from `n` on change neither. -/
theorem top_masked {s : ℕ → EReal} (n k : ℕ) (h : ∀ t, n ≤ t → s t = ⊥) : top s (n + k) = top s n := by
  rw [top_add, show ((Finset.range k).sup fun j => s (n + j)) = ⊥ from
    (Finset.sup_eq_bot_iff _ _).mpr fun j _ => h _ (Nat.le_add_right n j)]
  exact max_eq_left bot_le

theorem acc_masked {s : ℕ → EReal} (v : ℕ → EReal) (n k : ℕ) (h : ∀ t, n ≤ t → s t = ⊥) : acc s v (n + k) = acc s v n := by
  unfold acc
  rw [top_masked n k h, Finset.sum_range_add]
  refine (congrArg (_ + ·) (Finset.sum_eq_zero fun j _ => ?_)).trans (add_zero _)
  rw [h _ (Nat.le_add_right n j), EReal.bot_sub, Ideal.exp_bot, mul_zero]

/-- THE QUOTIENT: the weighted sum over the sum of the weights is the values weighted by the softmax. -/
theorem quotient {s : ℕ → EReal} (v : ℕ → EReal) (hs : ∀ t, s t ≠ ⊤) {n t₀ : ℕ} (ht₀ : t₀ < n) (hr : s t₀ ≠ ⊥) :
    Ideal.div (acc s v n) (acc s (fun _ => 1) n)
      = ∑ t ∈ Finset.range n, v t * Ideal.div (Ideal.exp (s t - top s n)) (∑ u ∈ Finset.range n, Ideal.exp (s u - top s n)) := by
  obtain ⟨m, hm⟩ := top_real hs ht₀ hr
  choose e he₀ he using fun t => exp_sub_real (hs t) m
  have hL : ∑ u ∈ Finset.range n, Ideal.exp (s u - top s n) = ((∑ u ∈ Finset.range n, e u : ℝ) : EReal) := by
    rw [coe_sum]; exact Finset.sum_congr rfl fun u _ => by rw [hm, he]
  have h1 : acc s (fun _ => 1) n = ((∑ u ∈ Finset.range n, e u : ℝ) : EReal) := by
    rw [← hL]; exact Finset.sum_congr rfl fun u _ => one_mul _
  have hpos : 0 < ∑ u ∈ Finset.range n, e u := by
    refine Finset.sum_pos' (fun u _ => he₀ u) ⟨t₀, Finset.mem_range.mpr ht₀, ?_⟩
    rcases bot_or_coe (hs t₀) with h | ⟨r, h⟩
    · exact absurd h hr
    · have := he t₀
      rw [h, ← EReal.coe_sub, Ideal.exp_coe] at this
      rw [← EReal.coe_eq_coe_iff.mp this]; exact Real.exp_pos _
  rw [hL, h1, Ideal.div_coe hpos.ne']
  unfold acc
  rw [mul_comm, coe_mul_sum (by positivity)]
  refine Finset.sum_congr rfl fun t _ => ?_
  rw [Ideal.div_coe hpos.ne', mul_left_comm, mul_comm (Ideal.exp _)]

end Cert.Flash

end
-- ==== Proof.Step.lean ====
/- What one block of 256 keys does for one head: the stored maximum and the stored weighted sums, as functions of the
   block's scores and values and of what was stored before. -/
module

public import proofs.«01_k».proof.Proof.Gen.KernelIdeal.Skeleton
public import proofs.«01_k».proof.Proof.Flash
public import Idealize.ShloMosaic.Lib.Pointwise

@[expose] public section

set_option maxRecDepth 16384

noncomputable section

namespace Cert.KernelIdeal.Fox

open Idealize.ShloMosaic Cert.KernelIdeal Cert.KernelIdeal.Gen Cert.Flash

/-! ## Arrays read at natural numbers -/

/-- The element (a, b) of a matrix; zero outside it. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- The element (a, b, c) of an array of rank three; zero outside it. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem at2_idx {n0 n1 : ℕ} (X : (⟨2, ![n0, n1]⟩ : Shape).Idx → EReal) (i : (⟨2, ![n0, n1]⟩ : Shape).Idx) {a b : ℕ}
    (ha : (i 0).val = a) (hb : (i 1).val = b) : X i = at2 X a b := by
  subst ha hb
  unfold at2
  rw [dif_pos ⟨(i 0).isLt, (i 1).isLt⟩]
  exact congrArg X (eq_ix2 i)

theorem at3_idx {n0 n1 n2 : ℕ} (X : (⟨3, ![n0, n1, n2]⟩ : Shape).Idx → EReal) (i : (⟨3, ![n0, n1, n2]⟩ : Shape).Idx)
    {a b c : ℕ} (ha : (i 0).val = a) (hb : (i 1).val = b) (hc : (i 2).val = c) : X i = at3 X a b c := by
  subst ha hb hc
  unfold at3
  rw [dif_pos ⟨(i 0).isLt, (i 1).isLt, (i 2).isLt⟩]
  exact congrArg X (eq_ix3 i)

section Defs
variable {F : FTy → Type} [FloatOps F] [Named F]

/-! ## One head's step -/

/-- The new maximum of every query. -/
def newMax (s : FVec F S256x256 .f32) (mx : Vec F S1x1x256 .f32) : FVec F S1x256 .f32 :=
  maximumf (shapeCast S1x256 mx shapeCasts_S1x1x256_S1x256)
    (shapeCast S1x256 (multiReduction .maximumf [0] S256 s 0xFF800000#32 reduces_S256x256_S256 (.inl rfl) rfl) shapeCasts_S256_S1x256)

/-- The maxima as they are stored. -/
def maxPay (s : FVec F S256x256 .f32) (mx : Vec F S1x1x256 .f32) : FVec F S1x1x256 .f32 :=
  shapeCast S1x1x256 (newMax s mx) shapeCasts_S1x256_S1x1x256

/-- The weighted sums as they are stored. -/
def accPay (s : FVec F S256x256 .f32) (vt : Vec F S128x256 .bf16) (mx : Vec F S1x1x256 .f32) (a : Vec F S1x128x256 .f32) :
    FVec F S1x128x256 .f32 :=
  shapeCast S1x128x256
    (addf
      (mulf (broadcastTo S128x256 (exp (subf (shapeCast S1x256 mx shapeCasts_S1x1x256_S1x256) (newMax s mx))) broadcasts_S1x256_S128x256)
        (shapeCast S128x256 a shapeCasts_S1x128x256_S128x256))
      (matmul dot_S128x256_S256x256_S128x256_1_0_0_1_n_n none vt
        (truncf .bf16 (exp (subf s (broadcastTo S256x256 (newMax s mx) broadcasts_S1x256_S256x256))) bitsLt_bf16_f32)
        (constant S128x256 .f32 0x00000000#32)))
    shapeCasts_S128x256_S1x128x256

/-- The scores of a block: keys by queries. -/
def score (k q : Vec F S256x128 .bf16) : FVec F S256x256 .f32 :=
  matmul dot_S256x128_S256x128_S256x256_1_1_0_0_n_n none k q (constant S256x256 .f32 0x00000000#32)

end Defs

/-- A score is the product of a key's and a query's 128 lanes. -/
theorem score_apply (k q : Vec Ideal S256x128 .bf16) (j c : Fin 256) :
    score (F := Ideal) k q (ix2 j c) = ∑ l ∈ Finset.range 128, at2 k j l * at2 q c l := by
  rw [Finset.sum_range]
  unfold score
  pointwise
  refine Finset.sum_congr rfl fun l _ => ?_
  exact congrArg₂ (· * ·) (at2_idx k (ix2 j l) rfl rfl) (at2_idx q (ix2 c l) rfl rfl)

/-- A maximum over a range of naturals is the one over the numbers below its end. -/
theorem sup_range {n : ℕ} (f : ℕ → EReal) : (Finset.range n).sup f = (Finset.univ : Finset (Fin n)).sup fun j => f j :=
  le_antisymm (Finset.sup_le fun j hj => Finset.le_sup (f := fun j : Fin n => f j) (Finset.mem_univ (⟨j, Finset.mem_range.mp hj⟩ : Fin n)))
    (Finset.sup_le fun j _ => Finset.le_sup (f := f) (Finset.mem_range.mpr j.isLt))

/-- The pattern of −∞ denotes it. -/
theorem neg_inf : Ideal.ofBits .f32 0xFF800000#32 = ⊥ := by
  simp [Ideal.ofBits, Ideal.ieee]

theorem newMax_apply (s : FVec Ideal S256x256 .f32) (mx : Vec Ideal S1x1x256 .f32) (z : Fin 1) (c : Fin 256) :
    newMax (F := Ideal) s mx (ix2 z c) = max (at3 mx 0 0 c) ((Finset.range 256).sup fun j => at2 s j c) := by
  unfold newMax
  pointwise
  rw [sup_range]
  refine congrArg₂ max (at3_idx mx _ rfl rfl rfl) ?_
  rw [neg_inf]
  exact Finset.sup_congr (f := fun x => s (ix2 x c)) rfl fun x _ => at2_idx s (ix2 x c) rfl rfl

section Step

variable (s : FVec Ideal S256x256 .f32) (vt : Vec Ideal S128x256 .bf16) (mx : Vec Ideal S1x1x256 .f32) (a : Vec Ideal S1x128x256 .f32)
  (σ v : ℕ → EReal) (n : ℕ) (r : Fin 128) (c : Fin 256)

/-- THE MAXIMUM: where the block holds the scores `n`, `n + 1`, … and the stored maximum is that of the first `n`, the new
    one is that of the first `n + 256`. -/
theorem newMax_eq (z : Fin 1) (hs : ∀ j < 256, at2 s j c = σ (n + j)) (hm : at3 mx 0 0 c = top σ n) :
    newMax (F := Ideal) s mx (ix2 z c) = top σ (n + 256) := by
  rw [newMax_apply, hm, top_add]
  exact congrArg (max _) (Finset.sup_congr rfl fun j hj => hs j (Finset.mem_range.mp hj))

theorem maxPay_eq (y z : Fin 1) (hs : ∀ j < 256, at2 s j c = σ (n + j)) (hm : at3 mx 0 0 c = top σ n) :
    maxPay (F := Ideal) s mx (ix3 y z c) = top σ (n + 256) := by
  rw [← newMax_eq s mx σ n c 0 hs hm]
  unfold maxPay
  pointwise

/-- THE WEIGHTED SUM, likewise. -/
theorem accPay_eq (z : Fin 1) (hs : ∀ j < 256, at2 s j c = σ (n + j)) (hv : ∀ j < 256, at2 vt r j = v (n + j))
    (hm : at3 mx 0 0 c = top σ n) (ha : at3 a 0 r c = acc σ v n)
    (hσ : ∀ t, σ t ≠ ⊤) {t₀ : ℕ} (ht₀ : t₀ < n + 256) (hr : σ t₀ ≠ ⊥) :
    accPay (F := Ideal) s vt mx a (ix3 z r c) = acc σ v (n + 256) := by
  obtain ⟨m, hmr⟩ := top_real hσ ht₀ hr
  rw [← acc_add v hσ n 256 hmr, Finset.sum_range]
  unfold accPay
  pointwise
  rw [newMax_eq s mx σ n c 0 hs hm, ← hm, ← ha]
  refine congrArg₂ (· + ·) (congrArg₂ (· * ·) (congrArg Ideal.exp (congrArg (· - _) (at3_idx mx _ rfl rfl rfl))) (at3_idx a _ rfl rfl rfl))
    (Finset.sum_congr rfl fun x _ => ?_)
  rw [← hs x x.isLt, ← hv x x.isLt]
  exact congrArg₂ (· * ·) (at2_idx vt _ rfl rfl) (congrArg Ideal.exp (congrArg (· - _) (at2_idx s _ rfl rfl)))

end Step

end Cert.KernelIdeal.Fox

end
-- ==== Proof.Loop.lean ====
/- The loop over the blocks of keys before the diagonal one: what the two scratch arrays (maxima and weighted sums) hold
   after every trip. -/
module

public import proofs.«01_k».proof.Proof.Gen.KernelIdeal.Loops
public import proofs.«01_k».proof.Proof.Step
public import Idealize.ShloMosaic.Lib.WritesUnit
public import Idealize.ShloMosaic.Lib.Pipeline.Value

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

section
variable {K Q V : ℕ → ℕ → EReal}

/-- The score of key `t` for query `q` of head `h`: the product of their 128 lanes. -/
def sc (K Q : ℕ → ℕ → EReal) (h q t : ℕ) : EReal := ∑ l ∈ Finset.range 128, K t (128 * h + l) * Q q (128 * h + l)

/-- The masked score, of the queries from `256 * i` on. -/
def msc (K Q : ℕ → ℕ → EReal) (i h q t : ℕ) : EReal := if t ≤ 256 * i + q then sc K Q h q t else ⊥

/-- Row `r` of head `h` of the values. -/
def vrow (V : ℕ → ℕ → EReal) (h r t : ℕ) : EReal := V (128 * h + r) t

end

/-- What the two scratch arrays hold when the first `n` keys are done, and of the heads below `h` 256 more. -/
def Held (σ : ℕ → ℕ → ℕ → EReal) (v : ℕ → ℕ → ℕ → EReal) (M : Vec Ideal S6x1x256 .f32) (A : Vec Ideal S6x128x256 .f32) (h n : ℕ) : Prop :=
  ∀ h' < 6, ∀ q < 256, at3 M h' 0 q = top (σ h' q) (if h' < h then n + 256 else n)
    ∧ ∀ r < 128, at3 A h' r q = acc (σ h' q) (v h' r) (if h' < h then n + 256 else n)

theorem Held.next {σ v : ℕ → ℕ → ℕ → EReal} {M : Vec Ideal S6x1x256 .f32} {A : Vec Ideal S6x128x256 .f32} {n : ℕ}
    (H : Held σ v M A 6 n) : Held σ v M A 0 (n + 256) := fun h' hh q hq => by
  have := H h' hh q hq
  rw [if_pos hh] at this
  rwa [if_neg (Nat.not_lt_zero _)]

/-- An element of the newest piece, plane `h` of an array of rank three, reads its payload. -/
theorem read_plane {n0 w1 w2 : ℕ} {e : EltTy} {κ : Kind} {sp : Space} (vw : View sig κ sp (⟨3, ![n0, w1, w2]⟩ : Shape) e)
    (f : vw.ty.Contents (Elt Ideal)) (L : List (View.Piece (Elt Ideal) (⟨3, ![n0, w1, w2]⟩ : Shape) e)) (h : ℕ) (hh : h < n0)
    (inb : ∀ a, (![h, 0, 0] : Fin 3 → ℕ) a + (![1, w1, w2] : Fin 3 → ℕ) a ≤ (![n0, w1, w2] : Fin 3 → ℕ) a)
    (p : (⟨3, ![1, w1, w2]⟩ : Shape).Idx → Elt Ideal e) (b : Fin w1) (c : Fin w2) :
    vw.read (Elt Ideal) (vw.writes (Elt Ideal) f (⟨Rect.unit (s := (⟨3, ![n0, w1, w2]⟩ : Shape)) ![h, 0, 0] ![1, w1, w2] inb, p⟩ :: L)) (ix3 ⟨h, hh⟩ b c)
      = p (ix3 (n0 := 1) 0 b c) := by
  refine View.read_writes_cons_unit_of_mem (s := (⟨3, ![n0, w1, w2]⟩ : Shape)) (off' := ![h, 0, 0]) _ _ inb p L _
    (ix3 (n0 := 1) (n1 := w1) (n2 := w2) 0 b c) rfl fun a => ?_
  revert a
  exact Fin.forall_fin_succ.mpr ⟨(Nat.add_zero h).symm, Fin.forall_fin_two.mpr ⟨(Nat.zero_add _).symm, (Nat.zero_add _).symm⟩⟩

/-- An element of another plane reads what was there. -/
theorem read_other {n0 w1 w2 : ℕ} {e : EltTy} {κ : Kind} {sp : Space} (vw : View sig κ sp (⟨3, ![n0, w1, w2]⟩ : Shape) e)
    (f : vw.ty.Contents (Elt Ideal)) (L : List (View.Piece (Elt Ideal) (⟨3, ![n0, w1, w2]⟩ : Shape) e)) (h : ℕ)
    (inb : ∀ a, (![h, 0, 0] : Fin 3 → ℕ) a + (![1, w1, w2] : Fin 3 → ℕ) a ≤ (![n0, w1, w2] : Fin 3 → ℕ) a)
    (p : (⟨3, ![1, w1, w2]⟩ : Shape).Idx → Elt Ideal e) (a : Fin n0) (ha : a.val ≠ h) (b : Fin w1) (c : Fin w2) :
    vw.read (Elt Ideal) (vw.writes (Elt Ideal) f (⟨Rect.unit (s := (⟨3, ![n0, w1, w2]⟩ : Shape)) ![h, 0, 0] ![1, w1, w2] inb, p⟩ :: L)) (ix3 a b c)
      = vw.read (Elt Ideal) (vw.writes (Elt Ideal) f L) (ix3 a b c) := by
  refine View.read_writes_cons_unit_of_not_mem (s := (⟨3, ![n0, w1, w2]⟩ : Shape)) (off' := ![h, 0, 0]) _ _ inb p L _ rfl 0 ?_
  show a.val < h ∨ h + 1 ≤ a.val
  omega

section Pieces

variable {σ v : ℕ → ℕ → ℕ → EReal} {n : ℕ}
  (arg13 : Memref sig .tc .vmem S6x1x256 .f32) (arg14 : Memref sig .tc .vmem S6x128x256 .f32)

/-- One head's stores carry `Held` to the next head. -/
theorem Held.store (h : ℕ) (hh : h < 6) (f13 : BufTy.Contents (Elt Ideal) arg13.view.ty) (f14 : BufTy.Contents (Elt Ideal) arg14.view.ty)
    (L13 : List (View.Piece (Elt Ideal) S6x1x256 .f32)) (L14 : List (View.Piece (Elt Ideal) S6x128x256 .f32))
    (inb13 : ∀ a, (![h, 0, 0] : Fin 3 → ℕ) a + S1x1x256.size a ≤ S6x1x256.size a)
    (inb14 : ∀ a, (![h, 0, 0] : Fin 3 → ℕ) a + S1x128x256.size a ≤ S6x128x256.size a)
    (p13 : FVec Ideal S1x1x256 .f32) (p14 : FVec Ideal S1x128x256 .f32)
    (H : Held σ v (arg13.view.read (Elt Ideal) (arg13.view.writes (Elt Ideal) f13 L13)) (arg14.view.read (Elt Ideal) (arg14.view.writes (Elt Ideal) f14 L14)) h n)
    (h13 : ∀ q : Fin 256, p13 (ix3 0 0 q) = top (σ h q) (n + 256))
    (h14 : ∀ (r : Fin 128) (q : Fin 256), p14 (ix3 0 r q) = acc (σ h q) (v h r) (n + 256)) :
    Held σ v (arg13.view.read (Elt Ideal) (arg13.view.writes (Elt Ideal) f13 (⟨Rect.unit (s := S6x1x256) ![h, 0, 0] S1x1x256.size inb13, p13⟩ :: L13)))
      (arg14.view.read (Elt Ideal) (arg14.view.writes (Elt Ideal) f14 (⟨Rect.unit (s := S6x128x256) ![h, 0, 0] S1x128x256.size inb14, p14⟩ :: L14))) (h + 1) n := by
  intro h' hh' q hq
  have H' := H h' hh' q hq
  by_cases e : h' = h
  · subst e
    rw [if_pos (Nat.lt_succ_self _)]
    refine ⟨?_, fun r hr => ?_⟩
    · rw [← h13 ⟨q, hq⟩, at3, dif_pos ⟨hh', Nat.one_pos, hq⟩]
      exact read_plane arg13.view f13 L13 h' hh' inb13 p13 0 ⟨q, hq⟩
    · rw [← h14 ⟨r, hr⟩ ⟨q, hq⟩, at3, dif_pos ⟨hh', hr, hq⟩]
      exact read_plane arg14.view f14 L14 h' hh' inb14 p14 ⟨r, hr⟩ ⟨q, hq⟩
  · rw [show (if h' < h + 1 then n + 256 else n) = if h' < h then n + 256 else n by
      by_cases h1 : h' < h
      · rw [if_pos h1, if_pos (by omega)]
      · rw [if_neg h1, if_neg (by omega)]]
    refine ⟨?_, fun r hr => ?_⟩
    · rw [← H'.1, at3, at3, dif_pos ⟨hh', Nat.one_pos, hq⟩, dif_pos ⟨hh', Nat.one_pos, hq⟩]
      exact read_other arg13.view f13 L13 h inb13 p13 ⟨h', hh'⟩ e 0 ⟨q, hq⟩
    · rw [← H'.2 r hr, at3, at3, dif_pos ⟨hh', hr, hq⟩, dif_pos ⟨hh', hr, hq⟩]
      exact read_other arg14.view f14 L14 h inb14 p14 ⟨h', hh'⟩ e ⟨r, hr⟩ ⟨q, hq⟩

variable (hσ : ∀ h q t, σ h q t ≠ ⊤) (h0 : ∀ h q, σ h q 0 ≠ ⊥)

/-- The maxima loaded for a head. -/
theorem load13 (h : ℕ) (hh : h < 6) (f13 : BufTy.Contents (Elt Ideal) arg13.view.ty)
    (inb13 : ∀ a, (![h, 0, 0] : Fin 3 → ℕ) a + S1x1x256.size a ≤ S6x1x256.size a) (q : Fin 256) :
    at3 (View.readAt (Elt Ideal) arg13.view (Rect.unit (s := S6x1x256) ![h, 0, 0] S1x1x256.size inb13).toLoadRect f13) 0 0 q
      = at3 (arg13.view.read (Elt Ideal) f13) h 0 q := by
  rw [at3, dif_pos ⟨Nat.one_pos, Nat.one_pos, q.isLt⟩]
  exact at3_idx (arg13.view.read (Elt Ideal) f13) _ rfl rfl ((Nat.zero_add _).trans (Nat.one_mul _))

/-- The weighted sums loaded for a head. -/
theorem load14 (h : ℕ) (hh : h < 6) (f14 : BufTy.Contents (Elt Ideal) arg14.view.ty)
    (inb14 : ∀ a, (![h, 0, 0] : Fin 3 → ℕ) a + S1x128x256.size a ≤ S6x128x256.size a) (r : Fin 128) (q : Fin 256) :
    at3 (View.readAt (Elt Ideal) arg14.view (Rect.unit (s := S6x128x256) ![h, 0, 0] S1x128x256.size inb14).toLoadRect f14) 0 r q
      = at3 (arg14.view.read (Elt Ideal) f14) h r q := by
  rw [at3, dif_pos ⟨Nat.one_pos, r.isLt, q.isLt⟩]
  exact at3_idx (arg14.view.read (Elt Ideal) f14) _ rfl ((Nat.zero_add _).trans (Nat.one_mul _)) ((Nat.zero_add _).trans (Nat.one_mul _))

/-- What a head stores into the maxima, where its own are not done yet. -/
theorem head13 (h g : ℕ) (hh : h < 6) (hg : g ≤ h) (f13 : BufTy.Contents (Elt Ideal) arg13.view.ty) (A : Vec Ideal S6x128x256 .f32)
    (inb13 : ∀ a, (![h, 0, 0] : Fin 3 → ℕ) a + S1x1x256.size a ≤ S6x1x256.size a) (s : FVec Ideal S256x256 .f32)
    (H : Held σ v (arg13.view.read (Elt Ideal) f13) A g n) (hs : ∀ j < 256, ∀ q < 256, at2 s j q = σ h q (n + j)) (q : Fin 256) :
    maxPay (F := Ideal) s (View.readAt (Elt Ideal) arg13.view (Rect.unit (s := S6x1x256) ![h, 0, 0] S1x1x256.size inb13).toLoadRect f13) (ix3 0 0 q)
      = top (σ h q) (n + 256) := by
  refine maxPay_eq s _ (σ h q) n q 0 0 (fun j hj => hs j hj q q.isLt) ?_
  rw [load13 arg13 h hh, (H h hh q q.isLt).1, if_neg (by omega)]

include hσ h0 in
/-- What a head stores into the weighted sums, where its own are not done yet. -/
theorem head14 (h g : ℕ) (hh : h < 6) (hg : g ≤ h) (f13 : BufTy.Contents (Elt Ideal) arg13.view.ty) (f14 : BufTy.Contents (Elt Ideal) arg14.view.ty)
    (inb13 : ∀ a, (![h, 0, 0] : Fin 3 → ℕ) a + S1x1x256.size a ≤ S6x1x256.size a)
    (inb14 : ∀ a, (![h, 0, 0] : Fin 3 → ℕ) a + S1x128x256.size a ≤ S6x128x256.size a)
    (s : FVec Ideal S256x256 .f32) (vt : Vec Ideal S128x256 .bf16)
    (H : Held σ v (arg13.view.read (Elt Ideal) f13) (arg14.view.read (Elt Ideal) f14) g n)
    (hs : ∀ j < 256, ∀ q < 256, at2 s j q = σ h q (n + j)) (hv : ∀ r < 128, ∀ j < 256, at2 vt r j = v h r (n + j)) (r : Fin 128) (q : Fin 256) :
    accPay (F := Ideal) s vt (View.readAt (Elt Ideal) arg13.view (Rect.unit (s := S6x1x256) ![h, 0, 0] S1x1x256.size inb13).toLoadRect f13)
      (View.readAt (Elt Ideal) arg14.view (Rect.unit (s := S6x128x256) ![h, 0, 0] S1x128x256.size inb14).toLoadRect f14) (ix3 0 r q)
      = acc (σ h q) (v h r) (n + 256) := by
  refine accPay_eq s vt _ _ (σ h q) (v h r) n r q 0 (fun j hj => hs j hj q q.isLt) (fun j hj => hv r r.isLt j hj) ?_ ?_ (hσ h q)
    (t₀ := 0) (by omega) (h0 h q)
  · rw [load13 arg13 h hh, (H h hh q q.isLt).1, if_neg (by omega)]
  · rw [load14 arg14 h hh, (H h hh q q.isLt).2 r r.isLt, if_neg (by omega)]

end Pieces

end Cert.KernelIdeal.Fox

end
-- ==== Proof.Trip.lean ====
/- One trip of the loop over the blocks of keys, and the loop. -/
module

public import proofs.«01_k».proof.Proof.Loop

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

/-- A load of a part of a matrix, read at natural numbers. -/
theorem at2_load {n0 n1 w0 w1 o0 o1 : ℕ} {κ : Kind} {sp : Space} (vw : View sig κ sp (⟨2, ![n0, n1]⟩ : Shape) .bf16)
    (off : Fin 2 → ℕ) (inb : ∀ a, off a + (![w0, w1] : Fin 2 → ℕ) a ≤ (![n0, n1] : Fin 2 → ℕ) a) (hoff : off = ![o0, o1])
    (X : vw.ty.Contents (Elt Ideal)) {j l : ℕ} (hj : j < w0) (hl : l < w1) :
    at2 (n0 := w0) (n1 := w1) (View.readAt (Elt Ideal) vw (Rect.unit (s := (⟨2, ![n0, n1]⟩ : Shape)) off ![w0, w1] inb).toLoadRect X) j l
      = at2 (vw.read (Elt Ideal) X) (o0 + j) (o1 + l) := by
  subst hoff
  rw [at2, dif_pos ⟨hj, hl⟩]
  exact at2_idx (vw.read (Elt Ideal) X) _ (congrArg (o0 + ·) (Nat.one_mul _)) (congrArg (o1 + ·) (Nat.one_mul _))

/-- The scores of the block of keys from `n` on, for head `h`. -/
theorem score_block {n h : ℕ} (arg11 : Memref sig .tc .vmem S2048x768 .bf16) (arg10 : Memref sig .tc .vmem S256x768 .bf16)
    (X11 : BufTy.Contents (Elt Ideal) arg11.view.ty) (qb : Vec Ideal S256x128 .bf16) (Q : ℕ → ℕ → EReal)
    (off : Fin 2 → ℕ) (inb : ∀ a, off a + S256x128.size a ≤ S2048x768.size a) (hoff : off = ![n, 128 * h])
    (hq : ∀ q < 256, ∀ l < 128, at2 qb q l = Q q (128 * h + l)) :
    ∀ j < 256, ∀ q < 256, at2 (score (F := Ideal) (View.readAt (Elt Ideal) arg11.view (Rect.unit (s := S2048x768) off S256x128.size inb).toLoadRect X11) qb) j q
      = sc (at2 (arg11.view.read (Elt Ideal) X11)) Q h q (n + j) := by
  intro j hj q hq'
  rw [at2, dif_pos ⟨hj, hq'⟩, score_apply]
  refine Finset.sum_congr rfl fun l hl => ?_
  have hl := Finset.mem_range.mp hl
  rw [hq q hq' l hl]
  exact congrArg (· * _) (at2_load arg11.view off inb hoff X11 hj hl)

/-- The counter of trip `k`, times 256. -/
theorem key_word : ∀ k : Fin 8, (Scalar.indexCast (Scalar.muli (Scf.iv 0#32 1#32 k.val) 256#32)).toNat = 256 * k.val := by decide

theorem trips_t1 : ∀ q : Fin 8, Scf.trips 0#32 (Scalar.addi 0#32 (Scalar.muli (Scalar.divsi (Scalar.subi (BitVec.ofNat 32 q.val) 0#32) 1#32) 1#32)) 1#32 = q.val := by
  decide

theorem trips_t2 : ∀ q : Fin 8, Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by
  decide

section Run

variable (c : Dev nD) (i : grid0.Coords)
  (arg2 : Memref sig .tc .vmem S1x256x384 .bf16) (harg2 : arg2.IsWhole) (arg3 : Memref sig .tc .vmem S1x2048x384 .bf16) (harg3 : arg3.IsWhole)
  (arg4 : Memref sig .tc .vmem S1x1x384x2048 .f32) (harg4 : arg4.IsWhole) (arg5 : Memref sig .tc .vmem S1x256x128 .bf16) (harg5 : arg5.IsWhole)
  (arg6 : Memref sig .tc .vmem S1x2048x128 .bf16) (harg6 : arg6.IsWhole) (arg7 : Memref sig .tc .vmem S512x768 .bf16) (harg7 : arg7.IsWhole)
  (arg8 : Memref sig .tc .vmem S512x768 .bf16) (harg8 : arg8.IsWhole) (arg9 : Memref sig .tc .vmem S1x256x384 .bf16) (harg9 : arg9.IsWhole)
  (arg10 : Memref sig .tc .vmem S256x768 .bf16) (harg10 : arg10.IsWhole) (arg11 : Memref sig .tc .vmem S2048x768 .bf16) (harg11 : arg11.IsWhole)
  (arg12 : Memref sig .tc .vmem S768x2048 .bf16) (harg12 : arg12.IsWhole) (arg13 : Memref sig .tc .vmem S6x1x256 .f32) (harg13 : arg13.IsWhole)
  (arg14 : Memref sig .tc .vmem S6x128x256 .f32) (harg14 : arg14.IsWhole)
  (X10 : BufTy.Contents (Elt Ideal) arg10.view.ty) (X11 : BufTy.Contents (Elt Ideal) arg11.view.ty) (X12 : BufTy.Contents (Elt Ideal) arg12.view.ty)

/-- What one trip assumes: the block of keys it reads has the scores `σ` and the values `v`. -/
def BlockScores (σ v : ℕ → ℕ → ℕ → EReal) (n : ℕ) : Prop :=
  (∀ h < 6, ∀ j < 256, ∀ q < 256, sc (at2 (arg11.view.read (Elt Ideal) X11)) (at2 (arg10.view.read (Elt Ideal) X10)) h q (n + j) = σ h q (n + j))
    ∧ ∀ h r t, v h r t = at2 (arg12.view.read (Elt Ideal) X12) (128 * h + r) t

variable {σ v : ℕ → ℕ → ℕ → EReal} (hσ : ∀ h q t, σ h q t ≠ ⊤) (h0 : ∀ h q, σ h q 0 ≠ ⊥)

include hσ h0 in
/-- One trip takes the two scratch arrays from the first `256 k` keys to the first `256 (k + 1)`. -/
theorem trip_held (bd : Option Variants.none.V) (arg1 : BitVec 32) (v2 : IVec S256x256 1) (v54 : FVec Ideal S128x256 .f32)
    (k : Fin (k0_t1_loop i).trips) (hk : k.val < 8) (f13 : BufTy.Contents (Elt Ideal) arg13.view.ty) (f14 : BufTy.Contents (Elt Ideal) arg14.view.ty)
    (hB : BlockScores arg10 arg11 arg12 X10 X11 X12 σ v (256 * k.val))
    (H : Held σ v (arg13.view.read (Elt Ideal) f13) (arg14.view.read (Elt Ideal) f14) 0 (256 * k.val)) :
    Held σ v
      (arg13.view.read (Elt Ideal) (arg13.view.writes (Elt Ideal) f13 (tripL_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg1 v2 v54 X10 X11 X12 k f13 f14).1))
      (arg14.view.read (Elt Ideal) (arg14.view.writes (Elt Ideal) f14 (tripL_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg1 v2 v54 X10 X11 X12 k f13 f14).2)) 6 (256 * k.val) := by
  have hw := key_word ⟨k.val, hk⟩
  have hS : ∀ h < 6, ∀ (o0 o1 : Fin 2 → ℕ) inb inb', o0 = ![256 * k.val, 128 * h] → o1 = ![0, 128 * h] → ∀ j < 256, ∀ q < 256,
      at2 (score (F := Ideal) (View.readAt (Elt Ideal) arg11.view (Rect.unit (s := S2048x768) o0 S256x128.size inb).toLoadRect X11)
        (View.readAt (Elt Ideal) arg10.view (Rect.unit (s := S256x768) o1 S256x128.size inb').toLoadRect X10)) j q = σ h q (256 * k.val + j) := by
    intro h hh o0 o1 inb inb' e0 e1 j hj q hq
    rw [← hB.1 h hh j hj q hq]
    refine score_block (h := h) arg11 arg10 X11 _ _ _ _ e0 (fun q hq l hl => ?_) j hj q hq
    exact (at2_load arg10.view o1 inb' e1 X10 hq hl).trans (by rw [Nat.zero_add])
  have hV : ∀ h, ∀ (o : Fin 2 → ℕ) inb, o = ![128 * h, 256 * k.val] → ∀ r < 128, ∀ j < 256,
      at2 (View.readAt (Elt Ideal) arg12.view (Rect.unit (s := S768x2048) o S128x256.size inb).toLoadRect X12) r j = v h r (256 * k.val + j) := by
    intro h o inb e r hr j hj
    rw [hB.2 h]
    exact at2_load arg12.view o inb e X12 hr hj
  unfold tripL_k0_t1 trip_k0_t1
  dsimp only
  sl_unfold_words
  refine Held.store arg13 arg14 5 (by decide) f13 f14 _ _ _ _ _ _ (Held.store arg13 arg14 4 (by decide) f13 f14 _ _ _ _ _ _
    (Held.store arg13 arg14 3 (by decide) f13 f14 _ _ _ _ _ _ (Held.store arg13 arg14 2 (by decide) f13 f14 _ _ _ _ _ _
    (Held.store arg13 arg14 1 (by decide) f13 f14 _ _ _ _ _ _ (Held.store arg13 arg14 0 (by decide) f13 f14 [] [] _ _ _ _ H ?_ ?_) ?_ ?_) ?_ ?_) ?_ ?_) ?_ ?_) ?_ ?_
  · exact head13 arg13 0 0 (by decide) (by decide) f13 _ _ _ H (hS 0 (by decide) _ _ _ _ (by rw [← hw]) rfl)
  · exact head14 arg13 arg14 hσ h0 0 0 (by decide) (by decide) f13 f14 _ _ _ _ H (hS 0 (by decide) _ _ _ _ (by rw [← hw]) rfl) (hV 0 _ _ (by rw [← hw]))
  · exact head13 arg13 1 0 (by decide) (by decide) f13 _ _ _ H (hS 1 (by decide) _ _ _ _ (by rw [← hw]) rfl)
  · exact head14 arg13 arg14 hσ h0 1 0 (by decide) (by decide) f13 f14 _ _ _ _ H (hS 1 (by decide) _ _ _ _ (by rw [← hw]) rfl) (hV 1 _ _ (by rw [← hw]))
  · exact head13 arg13 2 0 (by decide) (by decide) f13 _ _ _ H (hS 2 (by decide) _ _ _ _ (by rw [← hw]) rfl)
  · exact head14 arg13 arg14 hσ h0 2 0 (by decide) (by decide) f13 f14 _ _ _ _ H (hS 2 (by decide) _ _ _ _ (by rw [← hw]) rfl) (hV 2 _ _ (by rw [← hw]))
  · exact head13 arg13 3 0 (by decide) (by decide) f13 _ _ _ H (hS 3 (by decide) _ _ _ _ (by rw [← hw]) rfl)
  · exact head14 arg13 arg14 hσ h0 3 0 (by decide) (by decide) f13 f14 _ _ _ _ H (hS 3 (by decide) _ _ _ _ (by rw [← hw]) rfl) (hV 3 _ _ (by rw [← hw]))
  · exact head13 arg13 4 0 (by decide) (by decide) f13 _ _ _ H (hS 4 (by decide) _ _ _ _ (by rw [← hw]) rfl)
  · exact head14 arg13 arg14 hσ h0 4 0 (by decide) (by decide) f13 f14 _ _ _ _ H (hS 4 (by decide) _ _ _ _ (by rw [← hw]) rfl) (hV 4 _ _ (by rw [← hw]))
  · exact head13 arg13 5 0 (by decide) (by decide) f13 _ _ _ H (hS 5 (by decide) _ _ _ _ (by rw [← hw]) rfl)
  · exact head14 arg13 arg14 hσ h0 5 0 (by decide) (by decide) f13 f14 _ _ _ _ H (hS 5 (by decide) _ _ _ _ (by rw [← hw]) rfl) (hV 5 _ _ (by rw [← hw]))

include hσ h0 in
/-- The loop over the first `k` blocks of keys. -/
theorem loop_held (bd : Option Variants.none.V) (arg1 : BitVec 32) (v2 : IVec S256x256 1) (v54 : FVec Ideal S128x256 .f32)
    (G13 : BufTy.Contents (Elt Ideal) arg13.view.ty) (G14 : BufTy.Contents (Elt Ideal) arg14.view.ty)
    (H : Held σ v (arg13.view.read (Elt Ideal) G13) (arg14.view.read (Elt Ideal) G14) 0 0) (n : ℕ) (hn : n ≤ (k0_t1_loop i).trips) (hn8 : n ≤ 8)
    (hB : ∀ k < n, BlockScores arg10 arg11 arg12 X10 X11 X12 σ v (256 * k)) :
    Held σ v
      (arg13.view.read (Elt Ideal) (arg13.view.writes (Elt Ideal) G13 (pb_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg1 v2 v54 X10 X11 X12 G13 G14 n).1))
      (arg14.view.read (Elt Ideal) (arg14.view.writes (Elt Ideal) G14 (pb_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg1 v2 v54 X10 X11 X12 G13 G14 n).2)) 0 (256 * n) := by
  induction n with
  | zero => exact H
  | succ n ih =>
    have ih := ih (Nat.le_of_succ_le hn) (Nat.le_of_succ_le hn8) fun k hk => hB k (Nat.lt_succ_of_lt hk)
    rw [pb_k0_t1_succ Variants.none c bd i arg2 harg2 arg3 harg3 arg4 harg4 arg5 harg5 arg6 harg6 arg7 harg7 arg8 harg8 arg9 harg9 arg10 harg10 arg11 harg11 arg12 harg12 arg13 harg13 arg14 harg14 arg1 v2 v54 X10 X11 X12 G13 G14 ⟨n, hn⟩]
    dsimp only
    rw [View.writes_append, View.writes_append]
    exact (trip_held c i arg2 harg2 arg3 harg3 arg4 harg4 arg5 harg5 arg6 harg6 arg7 harg7 arg8 harg8 arg9 harg9 arg10 harg10 arg11 harg11 arg12 harg12 arg13 harg13 arg14 harg14
      X10 X11 X12 hσ h0 bd arg1 v2 v54 ⟨n, hn⟩ hn8 _ _ (hB n (Nat.lt_succ_self n)) ih).next

end Run

end Cert.KernelIdeal.Fox

end
-- ==== Proof.Diag.lean ====
/- The scratch arrays around the loop: what they hold at first, the masked block of keys, and what is stored at last. -/
module

public import proofs.«01_k».proof.Proof.Trip
public import Idealize.ShloMosaic.PureOps.IdealRules

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

/-- The mask names minus infinity. -/
theorem mask_eq : (Named.named κ "mask" 0xF149F2CA#32 : Ideal .f32) = ⊥ := IdealRules.named_const.ideal_named_scalar _ _ _ _ rfl

/-- The maxima the loop starts from. -/
theorem start_max (q : Fin 256) : k0_pay94 (F := Ideal) k0_pay93 (ix3 0 0 q) = ⊥ := by
  pointwise [k0_pay94, k0_pay93]
  exact mask_eq

/-- The weighted sums the loop starts from. -/
theorem start_acc (r : Fin 128) (q : Fin 256) : k0_pay102 (F := Ideal) k0_pay101 (ix3 0 r q) = 0 := by
  pointwise [k0_pay102, k0_pay101]

/-- The scores of the block on the diagonal: a key after its query is masked. -/
def masked (k q : Vec Ideal S256x128 .bf16) : FVec Ideal S256x256 .f32 := k0_pay107 (F := Ideal) k0_pay85 k q

theorem cmp_sle : ∀ j c : Fin 256, IntOp.cmpi .sle (BitVec.ofNat 32 j.val) (BitVec.ofNat 32 c.val) = if j.val ≤ c.val then 1#1 else 0#1 := by
  intro j c
  have h1 : (BitVec.ofNat 32 j.val).toInt = j.val := by
    rw [BitVec.toInt_eq_toNat_of_lt] <;> rw [BitVec.toNat_ofNat, Nat.mod_eq_of_lt] <;> omega
  have h2 : (BitVec.ofNat 32 c.val).toInt = c.val := by
    rw [BitVec.toInt_eq_toNat_of_lt] <;> rw [BitVec.toNat_ofNat, Nat.mod_eq_of_lt] <;> omega
  simp only [IntOp.cmpi, BitVec.sle, h1, h2, Int.ofNat_le]
  by_cases h : j.val ≤ c.val
  · rw [if_pos h, decide_eq_true h]; rfl
  · rw [if_neg h, decide_eq_false h]; rfl

theorem masked_apply (k q : Vec Ideal S256x128 .bf16) {j c : ℕ} (hj : j < 256) (hc : c < 256) :
    at2 (masked k q) j c = if j ≤ c then at2 (score (F := Ideal) k q) j c else ⊥ := by
  rw [at2, dif_pos ⟨hj, hc⟩, at2, dif_pos ⟨hj, hc⟩, masked]
  pointwise [k0_pay107, k0_pay85, score]
  rw [mask_eq, cmp_sle ⟨j, hj⟩ ⟨c, hc⟩]
  by_cases h : j ≤ c
  · rw [if_pos h, if_pos h]; rfl
  · rw [if_neg h, if_neg h]; rfl

section Lists

variable {σ v : ℕ → ℕ → ℕ → EReal} {n : ℕ}
  (arg13 : Memref sig .tc .vmem S6x1x256 .f32) (arg14 : Memref sig .tc .vmem S6x128x256 .f32)

/-- The planes below `h` of an array of rank three are all `z`. -/
def Filled {w1 w2 : ℕ} {κ : Kind} {sp : Space} (vw : View sig κ sp (⟨3, ![6, w1, w2]⟩ : Shape) .f32) (f : vw.ty.Contents (Elt Ideal))
    (L : List (View.Piece (Elt Ideal) (⟨3, ![6, w1, w2]⟩ : Shape) .f32)) (z : EReal) (h : ℕ) : Prop :=
  ∀ a : Fin 6, a.val < h → ∀ (b : Fin w1) (c : Fin w2), vw.read (Elt Ideal) (vw.writes (Elt Ideal) f L) (ix3 a b c) = z

theorem Filled.store {w1 w2 : ℕ} {κ : Kind} {sp : Space} {vw : View sig κ sp (⟨3, ![6, w1, w2]⟩ : Shape) .f32} {f : vw.ty.Contents (Elt Ideal)}
    {L : List (View.Piece (Elt Ideal) (⟨3, ![6, w1, w2]⟩ : Shape) .f32)} {z : EReal} (h : ℕ) (hh : h < 6)
    (inb : ∀ a, (![h, 0, 0] : Fin 3 → ℕ) a + (![1, w1, w2] : Fin 3 → ℕ) a ≤ (![6, w1, w2] : Fin 3 → ℕ) a)
    (p : (⟨3, ![1, w1, w2]⟩ : Shape).Idx → Elt Ideal .f32) (hp : ∀ b c, p (ix3 0 b c) = z) (H : Filled vw f L z h) :
    Filled vw f (⟨Rect.unit (s := (⟨3, ![6, w1, w2]⟩ : Shape)) ![h, 0, 0] ![1, w1, w2] inb, p⟩ :: L) z (h + 1) := by
  intro a ha b c
  by_cases e : a.val = h
  · obtain rfl : a = ⟨h, hh⟩ := Fin.ext e
    rw [read_plane vw f L h hh inb p b c, hp]
  · rw [read_other vw f L h inb p a e b c]
    exact H a (by omega) b c

/-- Where the maxima are minus infinity and the sums zero, no key is done. -/
theorem Filled.held {f13 : BufTy.Contents (Elt Ideal) arg13.view.ty} {f14 : BufTy.Contents (Elt Ideal) arg14.view.ty}
    {L13 : List (View.Piece (Elt Ideal) S6x1x256 .f32)} {L14 : List (View.Piece (Elt Ideal) S6x128x256 .f32)}
    (H13 : Filled (w1 := 1) (w2 := 256) arg13.view f13 L13 ⊥ 6) (H14 : Filled (w1 := 128) (w2 := 256) arg14.view f14 L14 0 6) :
    Held σ v (arg13.view.read (Elt Ideal) (arg13.view.writes (Elt Ideal) f13 L13)) (arg14.view.read (Elt Ideal) (arg14.view.writes (Elt Ideal) f14 L14)) 0 0 := by
  intro h hh q hq
  rw [if_neg (Nat.not_lt_zero h)]
  refine ⟨?_, fun r hr => ?_⟩
  · rw [at3, dif_pos ⟨hh, Nat.one_pos, hq⟩]
    exact (H13 ⟨h, hh⟩ hh 0 ⟨q, hq⟩).trans rfl
  · rw [at3, dif_pos ⟨hh, hr, hq⟩]
    exact (H14 ⟨h, hh⟩ hh ⟨r, hr⟩ ⟨q, hq⟩).trans (by simp [acc])

variable (hσ : ∀ h q t, σ h q t ≠ ⊤) (h0 : ∀ h q, σ h q 0 ≠ ⊥)

include hσ h0 in
/-- One head of the last block of keys. -/
theorem Held.last (h : ℕ) (hh : h < 6) {f13 : BufTy.Contents (Elt Ideal) arg13.view.ty} {f14 : BufTy.Contents (Elt Ideal) arg14.view.ty}
    {L13 : List (View.Piece (Elt Ideal) S6x1x256 .f32)} {L14 : List (View.Piece (Elt Ideal) S6x128x256 .f32)}
    (inb13 : ∀ a, (![h, 0, 0] : Fin 3 → ℕ) a + S1x1x256.size a ≤ S6x1x256.size a)
    (inb14 : ∀ a, (![h, 0, 0] : Fin 3 → ℕ) a + S1x128x256.size a ≤ S6x128x256.size a)
    (s : FVec Ideal S256x256 .f32) (vt : Vec Ideal S128x256 .bf16)
    (hs : ∀ j < 256, ∀ q < 256, at2 s j q = σ h q (n + j)) (hv : ∀ r < 128, ∀ j < 256, at2 vt r j = v h r (n + j))
    (H : Held σ v (arg13.view.read (Elt Ideal) (arg13.view.writes (Elt Ideal) f13 L13)) (arg14.view.read (Elt Ideal) (arg14.view.writes (Elt Ideal) f14 L14)) h n) :
    Held σ v
      (arg13.view.read (Elt Ideal) (arg13.view.writes (Elt Ideal) f13 (⟨Rect.unit (s := S6x1x256) ![h, 0, 0] S1x1x256.size inb13,
        maxPay (F := Ideal) s (View.readAt (Elt Ideal) arg13.view (Rect.unit (s := S6x1x256) ![h, 0, 0] S1x1x256.size inb13).toLoadRect (arg13.view.writes (Elt Ideal) f13 L13))⟩ :: L13)))
      (arg14.view.read (Elt Ideal) (arg14.view.writes (Elt Ideal) f14 (⟨Rect.unit (s := S6x128x256) ![h, 0, 0] S1x128x256.size inb14,
        accPay (F := Ideal) s vt (View.readAt (Elt Ideal) arg13.view (Rect.unit (s := S6x1x256) ![h, 0, 0] S1x1x256.size inb13).toLoadRect (arg13.view.writes (Elt Ideal) f13 L13))
          (View.readAt (Elt Ideal) arg14.view (Rect.unit (s := S6x128x256) ![h, 0, 0] S1x128x256.size inb14).toLoadRect (arg14.view.writes (Elt Ideal) f14 L14))⟩ :: L14))) (h + 1) n :=
  Held.store arg13 arg14 h hh f13 f14 L13 L14 inb13 inb14 _ _ H
    (head13 arg13 h h hh le_rfl _ _ inb13 s H hs)
    (head14 arg13 arg14 hσ h0 h h hh le_rfl _ _ inb13 inb14 s vt H hs hv)

/-- A pair of heads as it is stored: each head's sums over their row 64. -/
theorem pair_apply (w0 w1 : Vec Ideal S1x128x256 .f32) (q : Fin 256) (l : Fin 128) : k0_pay141 (F := Ideal) w0 w1 (ix3 0 q l)
    = if l.val < 64 then Ideal.div (at3 w0 0 l q) (at3 w0 0 64 q) else Ideal.div (at3 w1 0 (l - 64) q) (at3 w1 0 64 q) := by
  pointwise [k0_pay141]
  have hq := q.isLt
  by_cases h : l.val < 64
  · rw [dif_pos h, if_pos h, at3, dif_pos ⟨Nat.one_pos, l.isLt, q.isLt⟩, at3, dif_pos ⟨Nat.one_pos, by decide, q.isLt⟩]
    rfl
  · rw [dif_neg h, if_neg h, at3, dif_pos ⟨Nat.one_pos, by omega, q.isLt⟩, at3, dif_pos ⟨Nat.one_pos, by decide, q.isLt⟩]
    rfl

end Lists

section Run

variable (c : Dev nD) (i : grid0.Coords)
  (arg2 : Memref sig .tc .vmem S1x256x384 .bf16) (harg2 : arg2.IsWhole) (arg3 : Memref sig .tc .vmem S1x2048x384 .bf16) (harg3 : arg3.IsWhole)
  (arg4 : Memref sig .tc .vmem S1x1x384x2048 .f32) (harg4 : arg4.IsWhole) (arg5 : Memref sig .tc .vmem S1x256x128 .bf16) (harg5 : arg5.IsWhole)
  (arg6 : Memref sig .tc .vmem S1x2048x128 .bf16) (harg6 : arg6.IsWhole) (arg7 : Memref sig .tc .vmem S512x768 .bf16) (harg7 : arg7.IsWhole)
  (arg8 : Memref sig .tc .vmem S512x768 .bf16) (harg8 : arg8.IsWhole) (arg9 : Memref sig .tc .vmem S1x256x384 .bf16) (harg9 : arg9.IsWhole)
  (arg10 : Memref sig .tc .vmem S256x768 .bf16) (harg10 : arg10.IsWhole) (arg11 : Memref sig .tc .vmem S2048x768 .bf16) (harg11 : arg11.IsWhole)
  (arg12 : Memref sig .tc .vmem S768x2048 .bf16) (harg12 : arg12.IsWhole) (arg13 : Memref sig .tc .vmem S6x1x256 .f32) (harg13 : arg13.IsWhole)
  (arg14 : Memref sig .tc .vmem S6x128x256 .f32) (harg14 : arg14.IsWhole)
  (X10 : BufTy.Contents (Elt Ideal) arg10.view.ty) (X11 : BufTy.Contents (Elt Ideal) arg11.view.ty) (X12 : BufTy.Contents (Elt Ideal) arg12.view.ty)

/-- The scores of a grid point: of query `q` in its block and key `t`. -/
def pointScore : ℕ → ℕ → ℕ → EReal := msc (at2 (arg11.view.read (Elt Ideal) X11)) (at2 (arg10.view.read (Elt Ideal) X10)) (i 1).val

/-- The values: row `r` of head `h`, key `t`. -/
def pointValue : ℕ → ℕ → ℕ → EReal := vrow (at2 (arg12.view.read (Elt Ideal) X12))

/-- A block of keys before the diagonal is not masked. -/
theorem block_scores (k : ℕ) (hk : k < (i 1).val) :
    BlockScores arg10 arg11 arg12 X10 X11 X12 (pointScore i arg10 arg11 X10 X11) (pointValue arg12 X12) (256 * k) :=
  ⟨fun h _ j hj q _ => (if_pos (by omega)).symm, fun h r t => rfl⟩

variable (hσ : ∀ h q t, pointScore i arg10 arg11 X10 X11 h q t ≠ ⊤) (h0 : ∀ h q, pointScore i arg10 arg11 X10 X11 h q 0 ≠ ⊥)

include hσ h0 in
/-- The loop takes the arrays from no key to all keys before the diagonal. -/
theorem run_held (arg1 : BitVec 32) (v2 : IVec S256x256 1) (v54 : FVec Ideal S128x256 .f32) (v72 : BitVec 32)
    (G13 : BufTy.Contents (Elt Ideal) arg13.view.ty) (G14 : BufTy.Contents (Elt Ideal) arg14.view.ty)
    (L13 : List (View.Piece (Elt Ideal) S6x1x256 .f32)) (L14 : List (View.Piece (Elt Ideal) S6x128x256 .f32))
    (L13' : List (View.Piece (Elt Ideal) S6x1x256 .f32)) (L14' : List (View.Piece (Elt Ideal) S6x128x256 .f32))
    (P : List (View.Piece (Elt Ideal) S6x1x256 .f32) × List (View.Piece (Elt Ideal) S6x128x256 .f32))
    (hP : P = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v2 v54 X10 X11 X12 (arg13.view.writes (Elt Ideal) G13 L13) (arg14.view.writes (Elt Ideal) G14 L14) (Scf.trips (k0_t1_loop i).lb (k0_t1_loop i).ub (k0_t1_loop i).st))
    (P' : List (View.Piece (Elt Ideal) S6x1x256 .f32) × List (View.Piece (Elt Ideal) S6x128x256 .f32))
    (hP' : P' = pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v2 v54 v72 X10 X11 X12 (arg13.view.writes (Elt Ideal) G13 (P.1 ++ L13)) (arg14.view.writes (Elt Ideal) G14 (P.2 ++ L14)) (Scf.trips (k0_t2_loop i).lb (k0_t2_loop i).ub (k0_t2_loop i).st))
    (H : Held (pointScore i arg10 arg11 X10 X11) (pointValue arg12 X12) (arg13.view.read (Elt Ideal) (arg13.view.writes (Elt Ideal) G13 L13)) (arg14.view.read (Elt Ideal) (arg14.view.writes (Elt Ideal) G14 L14)) 0 0) :
    Held (pointScore i arg10 arg11 X10 X11) (pointValue arg12 X12)
      (arg13.view.read (Elt Ideal) (arg13.view.writes (Elt Ideal) G13 (P'.1 ++ (P.1 ++ L13))))
      (arg14.view.read (Elt Ideal) (arg14.view.writes (Elt Ideal) G14 (P'.2 ++ (P.2 ++ L14)))) 0 (256 * (i 1).val) := by
  have hi : (i 1).val < 8 := (i 1).isLt
  have ht1 : Scf.trips (k0_t1_loop i).lb (k0_t1_loop i).ub (k0_t1_loop i).st = (i 1).val := trips_t1 ⟨(i 1).val, hi⟩
  have ht2 : Scf.trips (k0_t2_loop i).lb (k0_t2_loop i).ub (k0_t2_loop i).st = 0 := trips_t2 ⟨(i 1).val, hi⟩
  rw [ht2] at hP'
  obtain rfl : P' = ([], []) := hP'
  rw [List.nil_append, List.nil_append, View.writes_append, View.writes_append, hP, ht1]
  exact loop_held c i arg2 harg2 arg3 harg3 arg4 harg4 arg5 harg5 arg6 harg6 arg7 harg7 arg8 harg8 arg9 harg9 arg10 harg10 arg11 harg11 arg12 harg12 arg13 harg13 arg14 harg14 X10 X11 X12 hσ h0 none arg1 v2 v54 _ _ H (i 1).val (le_of_eq ht1.symm) hi.le
    fun k hk => block_scores i arg10 arg11 arg12 X10 X11 X12 k hk

/-- The scores of the masked block. -/
theorem diag_score {h : ℕ} (hh : h < 6) (o0 o1 : Fin 2 → ℕ) (inb : ∀ a, o0 a + S256x128.size a ≤ S2048x768.size a) (inb' : ∀ a, o1 a + S256x128.size a ≤ S256x768.size a)
    (e0 : o0 = ![256 * (i 1).val, 128 * h]) (e1 : o1 = ![0, 128 * h]) :
    ∀ j < 256, ∀ q < 256, at2 (masked (View.readAt (Elt Ideal) arg11.view (Rect.unit (s := S2048x768) o0 S256x128.size inb).toLoadRect X11)
      (View.readAt (Elt Ideal) arg10.view (Rect.unit (s := S256x768) o1 S256x128.size inb').toLoadRect X10)) j q
      = pointScore i arg10 arg11 X10 X11 h q (256 * (i 1).val + j) := by
  intro j hj q hq
  rw [masked_apply _ _ hj hq, score_block (h := h) arg11 arg10 X11 _ (at2 (arg10.view.read (Elt Ideal) X10)) _ _ e0 (fun q hq l hl => ?_) j hj q hq]
  · by_cases hjq : j ≤ q
    · rw [if_pos hjq]; exact (if_pos (by omega)).symm
    · rw [if_neg hjq]; exact (if_neg (by omega)).symm
  · exact (at2_load arg10.view o1 inb' e1 X10 hq hl).trans (by rw [Nat.zero_add])

/-- The values of the masked block. -/
theorem diag_value {h : ℕ} (o : Fin 2 → ℕ) (inb : ∀ a, o a + S128x256.size a ≤ S768x2048.size a) (e : o = ![128 * h, 256 * (i 1).val]) :
    ∀ r < 128, ∀ j < 256, at2 (View.readAt (Elt Ideal) arg12.view (Rect.unit (s := S768x2048) o S128x256.size inb).toLoadRect X12) r j
      = pointValue arg12 X12 h r (256 * (i 1).val + j) :=
  fun _ hr _ hj => at2_load arg12.view o inb e X12 hr hj

end Run

end Cert.KernelIdeal.Fox

end
-- ==== Proof.Out.lean ====
/- What is stored at last, from what the scratch arrays hold. -/
module

public import proofs.«01_k».proof.Proof.Diag

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

section Out

variable {σ v : ℕ → ℕ → ℕ → EReal} {n : ℕ} (arg14 : Memref sig .tc .vmem S6x128x256 .f32)

/-- What a pair of heads stores, from the sums held. -/
theorem pair_held {M : Vec Ideal S6x1x256 .f32} {f14 : BufTy.Contents (Elt Ideal) arg14.view.ty} (H : Held σ v M (arg14.view.read (Elt Ideal) f14) 6 n)
    (h0 h1 : ℕ) (hh0 : h0 < 6) (hh1 : h1 < 6)
    (inb0 : ∀ a, (![h0, 0, 0] : Fin 3 → ℕ) a + S1x128x256.size a ≤ S6x128x256.size a)
    (inb1 : ∀ a, (![h1, 0, 0] : Fin 3 → ℕ) a + S1x128x256.size a ≤ S6x128x256.size a) (q : Fin 256) (l : Fin 128) :
    k0_pay141 (F := Ideal) (View.readAt (Elt Ideal) arg14.view (Rect.unit (s := S6x128x256) ![h0, 0, 0] S1x128x256.size inb0).toLoadRect f14)
      (View.readAt (Elt Ideal) arg14.view (Rect.unit (s := S6x128x256) ![h1, 0, 0] S1x128x256.size inb1).toLoadRect f14) (ix3 0 q l)
      = Ideal.div (acc (σ (if l.val < 64 then h0 else h1) q) (v (if l.val < 64 then h0 else h1) (if l.val < 64 then l else l - 64)) (n + 256))
          (acc (σ (if l.val < 64 then h0 else h1) q) (v (if l.val < 64 then h0 else h1) 64) (n + 256)) := by
  have L : ∀ h < 6, ∀ inb, ∀ r (hr : r < 128), at3 (View.readAt (Elt Ideal) arg14.view (Rect.unit (s := S6x128x256) ![h, 0, 0] S1x128x256.size inb).toLoadRect f14) 0 r q
      = acc (σ h q) (v h r) (n + 256) := fun h hh inb r hr => by
    have e := (H h hh q q.isLt).2 r hr
    rw [if_pos hh] at e
    exact (load14 arg14 h hh _ inb ⟨r, hr⟩ q).trans e
  rw [pair_apply]
  have hl := l.isLt
  by_cases e : l.val < 64
  · simp only [if_pos e]
    exact congrArg₂ Ideal.div (L h0 hh0 inb0 l (by omega)) (L h0 hh0 inb0 64 (by omega))
  · simp only [if_neg e]
    exact congrArg₂ Ideal.div (L h1 hh1 inb1 (l - 64) (by omega)) (L h1 hh1 inb1 64 (by omega))

/-- The block of results of a grid point: lane `d` of query `q` belongs to head `d / 64`. -/
def blockOut (σ v : ℕ → ℕ → ℕ → EReal) (n q d : ℕ) : EReal :=
  Ideal.div (acc (σ (d / 64) q) (v (d / 64) (d % 64)) n) (acc (σ (d / 64) q) (v (d / 64) 64) n)

/-- The three stores of the results, from the sums held. -/
theorem out_held {M : Vec Ideal S6x1x256 .f32} {f14 : BufTy.Contents (Elt Ideal) arg14.view.ty} (H : Held σ v M (arg14.view.read (Elt Ideal) f14) 6 n)
    {κ : Kind} {sp : Space} (vw : View sig κ sp S1x256x384 .bf16) (f : vw.ty.Contents (Elt Ideal))
    (inb0 : ∀ a, (![0, 0, 0] : Fin 3 → ℕ) a + S1x128x256.size a ≤ S6x128x256.size a)
    (inb1 : ∀ a, (![1, 0, 0] : Fin 3 → ℕ) a + S1x128x256.size a ≤ S6x128x256.size a)
    (inb2 : ∀ a, (![2, 0, 0] : Fin 3 → ℕ) a + S1x128x256.size a ≤ S6x128x256.size a)
    (inb3 : ∀ a, (![3, 0, 0] : Fin 3 → ℕ) a + S1x128x256.size a ≤ S6x128x256.size a)
    (inb4 : ∀ a, (![4, 0, 0] : Fin 3 → ℕ) a + S1x128x256.size a ≤ S6x128x256.size a)
    (inb5 : ∀ a, (![5, 0, 0] : Fin 3 → ℕ) a + S1x128x256.size a ≤ S6x128x256.size a)
    (ib0 : ∀ a, (![0, 0, 0] : Fin 3 → ℕ) a + S1x256x128.size a ≤ S1x256x384.size a)
    (ib1 : ∀ a, (![0, 0, 128] : Fin 3 → ℕ) a + S1x256x128.size a ≤ S1x256x384.size a)
    (ib2 : ∀ a, (![0, 0, 256] : Fin 3 → ℕ) a + S1x256x128.size a ≤ S1x256x384.size a) (q : Fin 256) (d : Fin 384) :
    vw.read (Elt Ideal) (vw.writes (Elt Ideal) f
      [⟨Rect.unit (s := S1x256x384) ![0, 0, 256] S1x256x128.size ib2,
          k0_pay141 (F := Ideal) (View.readAt (Elt Ideal) arg14.view (Rect.unit (s := S6x128x256) ![4, 0, 0] S1x128x256.size inb4).toLoadRect f14)
            (View.readAt (Elt Ideal) arg14.view (Rect.unit (s := S6x128x256) ![5, 0, 0] S1x128x256.size inb5).toLoadRect f14)⟩,
        ⟨Rect.unit (s := S1x256x384) ![0, 0, 128] S1x256x128.size ib1,
          k0_pay141 (F := Ideal) (View.readAt (Elt Ideal) arg14.view (Rect.unit (s := S6x128x256) ![2, 0, 0] S1x128x256.size inb2).toLoadRect f14)
            (View.readAt (Elt Ideal) arg14.view (Rect.unit (s := S6x128x256) ![3, 0, 0] S1x128x256.size inb3).toLoadRect f14)⟩,
        ⟨Rect.unit (s := S1x256x384) ![0, 0, 0] S1x256x128.size ib0,
          k0_pay141 (F := Ideal) (View.readAt (Elt Ideal) arg14.view (Rect.unit (s := S6x128x256) ![0, 0, 0] S1x128x256.size inb0).toLoadRect f14)
            (View.readAt (Elt Ideal) arg14.view (Rect.unit (s := S6x128x256) ![1, 0, 0] S1x128x256.size inb1).toLoadRect f14)⟩]) (ix3 0 q d)
      = blockOut σ v (n + 256) q d := by
  have key : ∀ (m h0 h1 : ℕ) (l : Fin 128), h0 = 2 * m → h1 = 2 * m + 1 → d.val = 128 * m + l →
      Ideal.div (acc (σ (if l.val < 64 then h0 else h1) q) (v (if l.val < 64 then h0 else h1) (if l.val < 64 then l else l - 64)) (n + 256))
          (acc (σ (if l.val < 64 then h0 else h1) q) (v (if l.val < 64 then h0 else h1) 64) (n + 256)) = blockOut σ v (n + 256) q d := by
    rintro m _ _ l rfl rfl e
    have hl := l.isLt
    have e1 : (if l.val < 64 then 2 * m else 2 * m + 1) = d.val / 64 := by split <;> omega
    have e2 : (if l.val < 64 then l.val else l.val - 64) = d.val % 64 := by split <;> omega
    rw [e1, e2, blockOut]
  have hd := d.isLt
  by_cases c2 : 256 ≤ d.val
  · refine (View.read_writes_cons_unit_of_mem (s := S1x256x384) (off' := ![0, 0, 256]) vw f ib2 _ _ (ix3 0 q d) (ix3 (n0 := 1) (n1 := 256) (n2 := 128) 0 q ⟨d.val - 256, by omega⟩) rfl ?_).trans ?_
    · exact Fin.forall_fin_succ.mpr ⟨rfl, Fin.forall_fin_two.mpr ⟨(Nat.zero_add _).symm, by show d.val = 256 + (d.val - 256); omega⟩⟩
    · exact (pair_held arg14 H 4 5 (by decide) (by decide) inb4 inb5 q _).trans (key 2 4 5 _ rfl rfl (by show d.val = 256 + (d.val - 256); omega))
  rw [View.read_writes_cons_unit_of_not_mem (s := S1x256x384) (off' := ![0, 0, 256]) vw f ib2 _ _ (ix3 0 q d) rfl 2 (Or.inl (by show d.val < 256; omega))]
  by_cases c1 : 128 ≤ d.val
  · refine (View.read_writes_cons_unit_of_mem (s := S1x256x384) (off' := ![0, 0, 128]) vw f ib1 _ _ (ix3 0 q d) (ix3 (n0 := 1) (n1 := 256) (n2 := 128) 0 q ⟨d.val - 128, by omega⟩) rfl ?_).trans ?_
    · exact Fin.forall_fin_succ.mpr ⟨rfl, Fin.forall_fin_two.mpr ⟨(Nat.zero_add _).symm, by show d.val = 128 + (d.val - 128); omega⟩⟩
    · exact (pair_held arg14 H 2 3 (by decide) (by decide) inb2 inb3 q _).trans (key 1 2 3 _ rfl rfl (by show d.val = 128 + (d.val - 128); omega))
  rw [View.read_writes_cons_unit_of_not_mem (s := S1x256x384) (off' := ![0, 0, 128]) vw f ib1 _ _ (ix3 0 q d) rfl 2 (Or.inl (by show d.val < 128; omega))]
  refine (View.read_writes_cons_unit_of_mem (s := S1x256x384) (off' := ![0, 0, 0]) vw f ib0 _ _ (ix3 0 q d) (ix3 (n0 := 1) (n1 := 256) (n2 := 128) 0 q ⟨d.val, by omega⟩) rfl ?_).trans ?_
  · exact Fin.forall_fin_succ.mpr ⟨rfl, Fin.forall_fin_two.mpr ⟨(Nat.zero_add _).symm, (Nat.zero_add _).symm⟩⟩
  · exact (pair_held arg14 H 0 1 (by decide) (by decide) inb0 inb1 q _).trans (key 0 0 1 _ rfl rfl (by show d.val = 0 + d.val; omega))

end Out

end Cert.KernelIdeal.Fox

end
-- ==== Proof.Point.lean ====
/- What one grid point stores. -/
module

public import Idealize.ShloMosaic.Lib.VecWindow
public import proofs.«01_k».proof.Proof.Out
public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

section Run

variable (c : Dev nD) (i : grid0.Coords)
  (arg2 : Memref sig .tc .vmem S1x256x384 .bf16) (harg2 : arg2.IsWhole) (arg3 : Memref sig .tc .vmem S1x2048x384 .bf16) (harg3 : arg3.IsWhole)
  (arg4 : Memref sig .tc .vmem S1x1x384x2048 .f32) (harg4 : arg4.IsWhole) (arg5 : Memref sig .tc .vmem S1x256x128 .bf16) (harg5 : arg5.IsWhole)
  (arg6 : Memref sig .tc .vmem S1x2048x128 .bf16) (harg6 : arg6.IsWhole) (arg7 : Memref sig .tc .vmem S512x768 .bf16) (harg7 : arg7.IsWhole)
  (arg8 : Memref sig .tc .vmem S512x768 .bf16) (harg8 : arg8.IsWhole) (arg9 : Memref sig .tc .vmem S1x256x384 .bf16) (harg9 : arg9.IsWhole)
  (arg10 : Memref sig .tc .vmem S256x768 .bf16) (harg10 : arg10.IsWhole) (arg11 : Memref sig .tc .vmem S2048x768 .bf16) (harg11 : arg11.IsWhole)
  (arg12 : Memref sig .tc .vmem S768x2048 .bf16) (harg12 : arg12.IsWhole) (arg13 : Memref sig .tc .vmem S6x1x256 .f32) (harg13 : arg13.IsWhole)
  (arg14 : Memref sig .tc .vmem S6x128x256 .f32) (harg14 : arg14.IsWhole)
  (x0 : Vec Ideal S1x256x384 .bf16) (x1 : Vec Ideal S1x2048x384 .bf16) (x2 : Vec Ideal S1x1x384x2048 .f32) (x3 : Vec Ideal S1x256x128 .bf16)
  (x4 : Vec Ideal S1x2048x128 .bf16) (x5 : Vec Ideal S512x768 .bf16) (x6 : Vec Ideal S512x768 .bf16)
  (xs1 : Vec Ideal S2048x768 .bf16) (xs2 : Vec Ideal S768x2048 .bf16)

/-- The queries as the kernel lays them out. -/
def queries : Vec Ideal S256x768 .bf16 := k0_pay90 (F := Ideal) x0 x3 x5

/-- One store of a whole array. -/
theorem whole_store {S : Shape} {e : EltTy} {κ : Kind} {sp : Space} (vw : View sig κ sp S e) (f : vw.ty.Contents (Elt Ideal)) {off : Fin S.rank → ℕ}
    (h : off = fun _ => 0) (ib : ∀ a, off a + S.size a ≤ S.size a) (w : S.Idx → Elt Ideal e) :
    vw.read (Elt Ideal) (vw.writes (Elt Ideal) f [⟨Rect.unit off S.size ib, w⟩]) = w :=
  (View.read_writes_eq_canon vw f _ fun y => ⟨_, List.mem_singleton_self _, View.mem_set_unit_zero h ib y⟩).trans (View.canon_unit_zero h ib w)

/-- The queries as they are laid out, read back. -/
theorem queries_read {κ : Kind} {sp : Space} (vw : View sig κ sp S256x768 .bf16) (f : vw.ty.Contents (Elt Ideal))
    (ib : ∀ a, (![0, 0] : Fin 2 → ℕ) a + S256x768.size a ≤ S256x768.size a)
    (ib0 : ∀ a, (![0, 0, 0] : Fin 3 → ℕ) a + S1x256x384.size a ≤ S1x256x384.size a)
    (ib3 : ∀ a, (![0, 0, 0] : Fin 3 → ℕ) a + S1x256x128.size a ≤ S1x256x128.size a)
    (ib5 : ∀ a, (![0, 0] : Fin 2 → ℕ) a + S512x768.size a ≤ S512x768.size a) :
    vw.read (Elt Ideal) (vw.writes (Elt Ideal) f [⟨Rect.unit (s := S256x768) ![0, 0] S256x768.size ib,
      k0_pay90 (F := Ideal) (View.readAt (Elt Ideal) arg2.view (Rect.unit (s := S1x256x384) ![0, 0, 0] S1x256x384.size ib0).toLoadRect (harg2.unread x0))
        (View.readAt (Elt Ideal) arg5.view (Rect.unit (s := S1x256x128) ![0, 0, 0] S1x256x128.size ib3).toLoadRect (harg5.unread x3))
        (View.readAt (Elt Ideal) arg7.view (Rect.unit (s := S512x768) ![0, 0] S512x768.size ib5).toLoadRect (harg7.unread x5))⟩]) = queries x0 x3 x5 := by
  rw [View.readAt_full, View.readAt_full, View.readAt_full, harg2.read_unread, harg5.read_unread, harg7.read_unread]
  have e0 : (![0, 0] : Fin 2 → ℕ) = fun _ => 0 := funext (by decide)
  exact whole_store vw f e0 ib _

theorem offs : ∀ k : Fin 8, (Scalar.indexCast (Scalar.muli (BitVec.ofNat 32 k.val) 256#32)).toNat = 256 * k.val := by decide

/-- Before the loop no key is done. -/
theorem start_held {σ v : ℕ → ℕ → ℕ → EReal} :
    Held σ v (arg13.view.read (Elt Ideal) (arg13.view.writes (Elt Ideal) arg13.view.junk (kernelRun0_B.sl.HS3_6 (F := Ideal))))
      (arg14.view.read (Elt Ideal) (arg14.view.writes (Elt Ideal) arg14.view.junk (kernelRun0_B.sl.HS4_6 (F := Ideal)))) 0 0 := by
  have Z13 : Filled (w1 := 1) (w2 := 256) arg13.view arg13.view.junk [] ⊥ 0 := fun a h => absurd h (Nat.not_lt_zero _)
  have Z14 : Filled (w1 := 128) (w2 := 256) arg14.view arg14.view.junk [] 0 0 := fun a h => absurd h (Nat.not_lt_zero _)
  have p13 : ∀ (b : Fin 1) (q : Fin 256), k0_pay94 (F := Ideal) k0_pay93 (ix3 0 b q) = ⊥ := fun b q => by rw [Subsingleton.elim b 0]; exact start_max q
  unfold kernelRun0_B.sl.HS3_6 kernelRun0_B.sl.HS4_6
  exact Filled.held arg13 arg14
    (Filled.store 5 (by decide) _ _ p13 (Filled.store 4 (by decide) _ _ p13 (Filled.store 3 (by decide) _ _ p13
      (Filled.store 2 (by decide) _ _ p13 (Filled.store 1 (by decide) _ _ p13 (Filled.store 0 (by decide) _ _ p13 Z13))))))
    (Filled.store 5 (by decide) _ _ start_acc (Filled.store 4 (by decide) _ _ start_acc (Filled.store 3 (by decide) _ _ start_acc
      (Filled.store 2 (by decide) _ _ start_acc (Filled.store 1 (by decide) _ _ start_acc (Filled.store 0 (by decide) _ _ start_acc Z14))))))

theorem pair_second (w0 w1 : Vec Ideal S1x128x256 .f32) : k0_pay142 (F := Ideal) w0 w1 = k0_pay141 w0 w1 := rfl

theorem pair_third (w0 w1 : Vec Ideal S1x128x256 .f32) : k0_pay1 (F := Ideal) (k0_pay144 w0) (k0_pay145 w0) w1 = k0_pay141 w0 w1 := rfl

/-- The results of a point that takes the keys and values left by the point before. -/
theorem out_B (hc0 : ¬cond0_0 i)
    (hσ : ∀ h q t, msc (at2 xs1) (at2 (queries x0 x3 x5)) (i 1).val h q t ≠ ⊤) (h0 : ∀ h q, msc (at2 xs1) (at2 (queries x0 x3 x5)) (i 1).val h q 0 ≠ ⊥)
    (q : Fin 256) (d : Fin 384) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs1 xs2 (ix3 0 q d)
      = blockOut (msc (at2 xs1) (at2 (queries x0 x3 x5)) (i 1).val) (vrow (at2 xs2)) (256 * (i 1).val + 256) q d := by
  have ho := offs ⟨(i 1).val, (i 1).isLt⟩
  unfold out0_B_7 kernelRun0_B
  dsimp only
  have e10 : arg10.view.read (Elt Ideal) (arg10.view.writes (Elt Ideal) arg10.view.junk (kernelRun0_B.sl.HS0_1 (F := Ideal) c arg2 harg2 arg5 harg5 arg7 harg7 x0 x3 x5)) = queries x0 x3 x5 :=
    queries_read arg2 harg2 arg5 harg5 arg7 harg7 x0 x3 x5 arg10.view _ _ _ _ _
  have e11 : arg11.view.read (Elt Ideal) (harg11.unread (Val := Elt Ideal) xs1) = xs1 := harg11.read_unread xs1
  have e12 : arg12.view.read (Elt Ideal) (harg12.unread (Val := Elt Ideal) xs2) = xs2 := harg12.read_unread xs2
  have hS : pointScore i arg10 arg11 (arg10.view.writes (Elt Ideal) arg10.view.junk (kernelRun0_B.sl.HS0_1 (F := Ideal) c arg2 harg2 arg5 harg5 arg7 harg7 x0 x3 x5)) (harg11.unread xs1)
      = msc (at2 xs1) (at2 (queries x0 x3 x5)) (i 1).val := by
    unfold pointScore
    rw [e10, e11]
  have hV : pointValue arg12 (harg12.unread xs2) = vrow (at2 xs2) := by
    unfold pointValue
    rw [e12]
  rw [← hS] at hσ h0
  rw [← hS, ← hV]
  unfold kernelRun0_B.sl.r_16 kernelRun0_B.sl.r_17
  rw [pair_third, pair_second]
  unfold kernelRun0_B.sl.v kernelRun0_B.sl.v265 kernelRun0_B.sl.v277 kernelRun0_B.sl.v283 kernelRun0_B.sl.v295 kernelRun0_B.sl.v301
  obtain ⟨M, H⟩ : ∃ M, Held (pointScore i arg10 arg11 (arg10.view.writes (Elt Ideal) arg10.view.junk (kernelRun0_B.sl.HS0_1 (F := Ideal) c arg2 harg2 arg5 harg5 arg7 harg7 x0 x3 x5)) (harg11.unread xs1))
      (pointValue arg12 (harg12.unread xs2)) M (arg14.view.read (Elt Ideal) (arg14.view.writes (Elt Ideal) arg14.view.junk (kernelRun0_B.sl.HS4_6_1 (F := Ideal) c i arg2 harg2 arg3 harg3 arg4 harg4 arg5 harg5 arg6 harg6 arg7 harg7 arg8 harg8 arg9 harg9 arg10 harg10 arg11 harg11 arg12 harg12 arg13 harg13 arg14 harg14 x0 x3 x5 xs1 xs2))) 6 (256 * (i 1).val) :=
    by
    refine ⟨_, Held.last arg13 arg14 hσ h0 5 (by decide) _ _ _ _ ?_ ?_ ?_⟩
    · exact diag_score i arg10 arg11 _ _ (h := 5) (by decide) _ _ _ _ (by rw [← ho] <;> rfl) rfl
    · exact diag_value i arg12 _ (h := 5) _ _ (by rw [← ho] <;> rfl)
    refine Held.last arg13 arg14 hσ h0 4 (by decide) _ _ _ _ ?_ ?_ ?_
    · exact diag_score i arg10 arg11 _ _ (h := 4) (by decide) _ _ _ _ (by rw [← ho] <;> rfl) rfl
    · exact diag_value i arg12 _ (h := 4) _ _ (by rw [← ho] <;> rfl)
    refine Held.last arg13 arg14 hσ h0 3 (by decide) _ _ (kernelRun0_B.sl.r_3 c i arg2 harg2 arg5 harg5 arg7 harg7 arg10 arg11 harg11 x0 x3 x5 xs1) _ ?_ ?_ ?_
    · exact diag_score i arg10 arg11 _ _ (h := 3) (by decide) _ _ _ _ (by rw [← ho] <;> rfl) rfl
    · exact diag_value i arg12 _ (h := 3) _ _ (by rw [← ho] <;> rfl)
    refine Held.last arg13 arg14 hσ h0 2 (by decide) _ _ _ _ ?_ ?_ ?_
    · exact diag_score i arg10 arg11 _ _ (h := 2) (by decide) _ _ _ _ (by rw [← ho] <;> rfl) rfl
    · exact diag_value i arg12 _ (h := 2) _ _ (by rw [← ho] <;> rfl)
    refine Held.last arg13 arg14 hσ h0 1 (by decide) _ _ _ _ ?_ ?_ ?_
    · exact diag_score i arg10 arg11 _ _ (h := 1) (by decide) _ _ _ _ (by rw [← ho] <;> rfl) rfl
    · exact diag_value i arg12 _ (h := 1) _ _ (by rw [← ho] <;> rfl)
    refine Held.last arg13 arg14 hσ h0 0 (by decide) _ _ _ _ ?_ ?_ ?_
    · exact diag_score i arg10 arg11 _ _ (h := 0) (by decide) _ _ _ _ (by rw [← ho] <;> rfl) rfl
    · exact diag_value i arg12 _ (h := 0) _ _ (by rw [← ho] <;> rfl)
    exact run_held c i arg2 harg2 arg3 harg3 arg4 harg4 arg5 harg5 arg6 harg6 arg7 harg7 arg8 harg8 arg9 harg9 arg10 harg10 arg11 harg11 arg12 harg12 arg13 harg13 arg14 harg14 _ _ _ hσ h0 _ _ _ _ _ _ _ _ [] [] _ rfl _ rfl (start_held arg13 arg14)
  exact out_held arg14 H VO0_7 _ _ _ _ _ _ _ _ _ _ q d

/-- The results of a point that lays out the keys and values itself. -/
theorem out_A (hc0 : cond0_0 i)
    (hσ : ∀ h q t, msc (at2 (sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)) (at2 (queries x0 x3 x5)) (i 1).val h q t ≠ ⊤) (h0 : ∀ h q, msc (at2 (sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)) (at2 (queries x0 x3 x5)) (i 1).val h q 0 ≠ ⊥)
    (q : Fin 256) (d : Fin 384) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 q d)
      = blockOut (msc (at2 (sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)) (at2 (queries x0 x3 x5)) (i 1).val) (vrow (at2 (sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6))) (256 * (i 1).val + 256) q d := by
  have ho := offs ⟨(i 1).val, (i 1).isLt⟩
  unfold out0_A_7 kernelRun0_A
  dsimp only
  have e10 : arg10.view.read (Elt Ideal) (arg10.view.writes (Elt Ideal) arg10.view.junk (kernelRun0_A.sl.HS0_1 (F := Ideal) c arg2 harg2 arg5 harg5 arg7 harg7 x0 x3 x5)) = queries x0 x3 x5 :=
    queries_read arg2 harg2 arg5 harg5 arg7 harg7 x0 x3 x5 arg10.view _ _ _ _ _
  have e11 : arg11.view.read (Elt Ideal) (arg11.view.writes (Elt Ideal) arg11.view.junk (kernelRun0_A.sl.HS1_4 (F := Ideal) c arg3 harg3 arg6 harg6 arg8 harg8 x1 x4 x6)) = sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 :=
    (View.read_writes_eq_canon arg11.view _ _ (scover0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)).trans
      (View.read_writes_eq_canon VS0_1 _ _ (scover0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)).symm
  have e12 : arg12.view.read (Elt Ideal) (arg12.view.writes (Elt Ideal) arg12.view.junk (kernelRun0_A.sl.HS2_12 (F := Ideal) c arg4 harg4 x2)) = sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 :=
    (View.read_writes_eq_canon arg12.view _ _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)).trans
      (View.read_writes_eq_canon VS0_2 _ _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)).symm
  have hS : pointScore i arg10 arg11 (arg10.view.writes (Elt Ideal) arg10.view.junk (kernelRun0_A.sl.HS0_1 (F := Ideal) c arg2 harg2 arg5 harg5 arg7 harg7 x0 x3 x5)) (arg11.view.writes (Elt Ideal) arg11.view.junk (kernelRun0_A.sl.HS1_4 (F := Ideal) c arg3 harg3 arg6 harg6 arg8 harg8 x1 x4 x6))
      = msc (at2 (sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)) (at2 (queries x0 x3 x5)) (i 1).val := by
    unfold pointScore
    rw [e10, e11]
  have hV : pointValue arg12 (arg12.view.writes (Elt Ideal) arg12.view.junk (kernelRun0_A.sl.HS2_12 (F := Ideal) c arg4 harg4 x2)) = vrow (at2 (sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)) := by
    unfold pointValue
    rw [e12]
  rw [← hS] at hσ h0
  rw [← hS, ← hV]
  unfold kernelRun0_A.sl.r_16 kernelRun0_A.sl.r_17
  rw [pair_third, pair_second]
  unfold kernelRun0_A.sl.v kernelRun0_A.sl.v265 kernelRun0_A.sl.v277 kernelRun0_A.sl.v283 kernelRun0_A.sl.v295 kernelRun0_A.sl.v301
  obtain ⟨M, H⟩ : ∃ M, Held (pointScore i arg10 arg11 (arg10.view.writes (Elt Ideal) arg10.view.junk (kernelRun0_A.sl.HS0_1 (F := Ideal) c arg2 harg2 arg5 harg5 arg7 harg7 x0 x3 x5)) (arg11.view.writes (Elt Ideal) arg11.view.junk (kernelRun0_A.sl.HS1_4 (F := Ideal) c arg3 harg3 arg6 harg6 arg8 harg8 x1 x4 x6)))
      (pointValue arg12 (arg12.view.writes (Elt Ideal) arg12.view.junk (kernelRun0_A.sl.HS2_12 (F := Ideal) c arg4 harg4 x2))) M (arg14.view.read (Elt Ideal) (arg14.view.writes (Elt Ideal) arg14.view.junk (kernelRun0_A.sl.HS4_6_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6))) 6 (256 * (i 1).val) :=
    by
    refine ⟨_, Held.last arg13 arg14 hσ h0 5 (by decide) _ _ _ _ ?_ ?_ ?_⟩
    · exact diag_score i arg10 arg11 _ _ (h := 5) (by decide) _ _ _ _ (by rw [← ho] <;> rfl) rfl
    · exact diag_value i arg12 _ (h := 5) _ _ (by rw [← ho] <;> rfl)
    refine Held.last arg13 arg14 hσ h0 4 (by decide) _ _ _ _ ?_ ?_ ?_
    · exact diag_score i arg10 arg11 _ _ (h := 4) (by decide) _ _ _ _ (by rw [← ho] <;> rfl) rfl
    · exact diag_value i arg12 _ (h := 4) _ _ (by rw [← ho] <;> rfl)
    refine Held.last arg13 arg14 hσ h0 3 (by decide) _ _ (kernelRun0_A.sl.r_3 c i arg2 harg2 arg3 harg3 arg5 harg5 arg6 harg6 arg7 harg7 arg8 harg8 arg10 arg11 x0 x1 x3 x4 x5 x6) _ ?_ ?_ ?_
    · exact diag_score i arg10 arg11 _ _ (h := 3) (by decide) _ _ _ _ (by rw [← ho] <;> rfl) rfl
    · exact diag_value i arg12 _ (h := 3) _ _ (by rw [← ho] <;> rfl)
    refine Held.last arg13 arg14 hσ h0 2 (by decide) _ _ _ _ ?_ ?_ ?_
    · exact diag_score i arg10 arg11 _ _ (h := 2) (by decide) _ _ _ _ (by rw [← ho] <;> rfl) rfl
    · exact diag_value i arg12 _ (h := 2) _ _ (by rw [← ho] <;> rfl)
    refine Held.last arg13 arg14 hσ h0 1 (by decide) _ _ _ _ ?_ ?_ ?_
    · exact diag_score i arg10 arg11 _ _ (h := 1) (by decide) _ _ _ _ (by rw [← ho] <;> rfl) rfl
    · exact diag_value i arg12 _ (h := 1) _ _ (by rw [← ho] <;> rfl)
    refine Held.last arg13 arg14 hσ h0 0 (by decide) _ _ _ _ ?_ ?_ ?_
    · exact diag_score i arg10 arg11 _ _ (h := 0) (by decide) _ _ _ _ (by rw [← ho] <;> rfl) rfl
    · exact diag_value i arg12 _ (h := 0) _ _ (by rw [← ho] <;> rfl)
    exact run_held c i arg2 harg2 arg3 harg3 arg4 harg4 arg5 harg5 arg6 harg6 arg7 harg7 arg8 harg8 arg9 harg9 arg10 harg10 arg11 harg11 arg12 harg12 arg13 harg13 arg14 harg14 _ _ _ hσ h0 _ _ _ _ _ _ _ _ [] [] _ rfl _ rfl (start_held arg13 arg14)
  exact out_held arg14 H VO0_7 _ _ _ _ _ _ _ _ _ _ q d

end Run

end Cert.KernelIdeal.Fox

end
-- ==== Proof.Layout.lean ====
/- The queries, keys and values as the kernel lays them out. -/
module

public import proofs.«01_k».proof.Proof.Point

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

/-- The element (a, b, c, d) of an array of rank four; zero outside it. -/
def at4 {n0 n1 n2 n3 : ℕ} (X : (⟨4, ![n0, n1, n2, n3]⟩ : Shape).Idx → EReal) (a b c d : ℕ) : EReal :=
  if h : a < n0 ∧ b < n1 ∧ c < n2 ∧ d < n3 then X (ix4 ⟨a, h.1⟩ ⟨b, h.2.1⟩ ⟨c, h.2.2.1⟩ ⟨d, h.2.2.2⟩) else 0

theorem at4_idx {n0 n1 n2 n3 : ℕ} (X : (⟨4, ![n0, n1, n2, n3]⟩ : Shape).Idx → EReal) (i : (⟨4, ![n0, n1, n2, n3]⟩ : Shape).Idx)
    {a b c d : ℕ} (ha : (i 0).val = a) (hb : (i 1).val = b) (hc : (i 2).val = c) (hd : (i 3).val = d) : X i = at4 X a b c d := by
  subst ha hb hc hd
  unfold at4
  rw [dif_pos ⟨(i 0).isLt, (i 1).isLt, (i 2).isLt, (i 3).isLt⟩]
  refine congrArg X ?_
  funext a
  revert a
  exact Fin.forall_fin_succ.mpr ⟨rfl, Fin.forall_fin_succ.mpr ⟨rfl, Fin.forall_fin_two.mpr ⟨rfl, rfl⟩⟩⟩

/-- A row of the keys (or queries) and of the decays, side by side, times a placement. -/
def placed (D P : ℕ → ℕ → EReal) (W : ℕ → ℕ → EReal) (t l : ℕ) : EReal :=
  (∑ m ∈ Finset.range 384, D t m * W m l) + ∑ m ∈ Finset.range 128, P t m * W (384 + m) l

/-- The product the kernel lays its queries out by. -/
theorem queries_apply (x0 : Vec Ideal S1x256x384 .bf16) (x3 : Vec Ideal S1x256x128 .bf16) (x5 : Vec Ideal S512x768 .bf16) (t : Fin 256) (l : Fin 768) :
    queries x0 x3 x5 (ix2 t l) = placed (at3 x0 0) (at3 x3 0) (at2 x5) t l := by
  unfold queries placed
  pointwise [k0_pay90]
  rw [Finset.sum_range, Finset.sum_range]
  refine congrArg₂ (fun a b : EReal => a + b) (Finset.sum_congr rfl fun m _ => congrArg₂ (fun a b : EReal => a * b) ?_ ?_)
    (Finset.sum_congr rfl fun m _ => congrArg₂ (fun a b : EReal => a * b) ?_ ?_)
  · exact at3_idx x0 _ rfl rfl rfl
  · exact at2_idx x5 _ rfl rfl
  · exact at3_idx x3 _ rfl rfl rfl
  · exact at2_idx x5 _ rfl rfl

/-- The product the kernel lays 512 rows of its keys out by. -/
theorem keys_apply (k : Vec Ideal S1x512x384 .bf16) (p : Vec Ideal S1x512x128 .bf16) (w : Vec Ideal S512x768 .bf16) (t : Fin 512) (l : Fin 768) :
    k0_pay2 (F := Ideal) k p w (ix2 t l) = placed (at3 k 0) (at3 p 0) (at2 w) t l := by
  unfold placed
  pointwise [k0_pay2]
  rw [Finset.sum_range, Finset.sum_range]
  refine congrArg₂ (fun a b : EReal => a + b) (Finset.sum_congr rfl fun m _ => congrArg₂ (fun a b : EReal => a * b) ?_ ?_)
    (Finset.sum_congr rfl fun m _ => congrArg₂ (fun a b : EReal => a * b) ?_ ?_)
  · exact at3_idx k _ rfl rfl rfl
  · exact at2_idx w _ rfl rfl
  · exact at3_idx p _ rfl rfl rfl
  · exact at2_idx w _ rfl rfl

/-- Rows `o` to `o + w` of an array of one plane, read at natural numbers. -/
theorem rows_load {n1 n2 w1 o : ℕ} {κ : Kind} {sp : Space} (vw : View sig κ sp (⟨3, ![1, n1, n2]⟩ : Shape) .bf16)
    (inb : ∀ a, (![0, o, 0] : Fin 3 → ℕ) a + (![1, w1, n2] : Fin 3 → ℕ) a ≤ (![1, n1, n2] : Fin 3 → ℕ) a) (X : vw.ty.Contents (Elt Ideal)) {j l : ℕ} (hj : j < w1) :
    at3 (n0 := 1) (n1 := w1) (n2 := n2) (View.readAt (Elt Ideal) vw (Rect.unit (s := (⟨3, ![1, n1, n2]⟩ : Shape)) ![0, o, 0] ![1, w1, n2] inb).toLoadRect X) 0 j l
      = at3 (vw.read (Elt Ideal) X) 0 (o + j) l := by
  have hb : o + w1 ≤ n1 := inb 1
  by_cases hl : l < n2
  · rw [at3, dif_pos ⟨Nat.one_pos, hj, hl⟩]
    exact at3_idx (vw.read (Elt Ideal) X) _ rfl (congrArg (o + ·) (Nat.one_mul _)) ((Nat.zero_add _).trans (Nat.one_mul _))
  · rw [at3, dif_neg fun h => hl h.2.2, at3, dif_neg fun h => hl h.2.2]

section Run

variable (c : Dev nD) (i : grid0.Coords)
  (arg2 : Memref sig .tc .vmem S1x256x384 .bf16) (harg2 : arg2.IsWhole) (arg3 : Memref sig .tc .vmem S1x2048x384 .bf16) (harg3 : arg3.IsWhole)
  (arg4 : Memref sig .tc .vmem S1x1x384x2048 .f32) (harg4 : arg4.IsWhole) (arg5 : Memref sig .tc .vmem S1x256x128 .bf16) (harg5 : arg5.IsWhole)
  (arg6 : Memref sig .tc .vmem S1x2048x128 .bf16) (harg6 : arg6.IsWhole) (arg7 : Memref sig .tc .vmem S512x768 .bf16) (harg7 : arg7.IsWhole)
  (arg8 : Memref sig .tc .vmem S512x768 .bf16) (harg8 : arg8.IsWhole) (arg9 : Memref sig .tc .vmem S1x256x384 .bf16) (harg9 : arg9.IsWhole)
  (arg10 : Memref sig .tc .vmem S256x768 .bf16) (harg10 : arg10.IsWhole) (arg11 : Memref sig .tc .vmem S2048x768 .bf16) (harg11 : arg11.IsWhole)
  (arg12 : Memref sig .tc .vmem S768x2048 .bf16) (harg12 : arg12.IsWhole) (arg13 : Memref sig .tc .vmem S6x1x256 .f32) (harg13 : arg13.IsWhole)
  (arg14 : Memref sig .tc .vmem S6x128x256 .f32) (harg14 : arg14.IsWhole)
  (x0 : Vec Ideal S1x256x384 .bf16) (x1 : Vec Ideal S1x2048x384 .bf16) (x2 : Vec Ideal S1x1x384x2048 .f32) (x3 : Vec Ideal S1x256x128 .bf16)
  (x4 : Vec Ideal S1x2048x128 .bf16) (x5 : Vec Ideal S512x768 .bf16) (x6 : Vec Ideal S512x768 .bf16)

/-- One of the four stores of the keys. -/
theorem keys_piece (o : ℕ) (ib3 : ∀ a, (![0, o, 0] : Fin 3 → ℕ) a + S1x512x384.size a ≤ S1x2048x384.size a)
    (ib6 : ∀ a, (![0, o, 0] : Fin 3 → ℕ) a + S1x512x128.size a ≤ S1x2048x128.size a)
    (ib8 : ∀ a, (![0, 0] : Fin 2 → ℕ) a + S512x768.size a ≤ S512x768.size a)
    (ib : ∀ a, (![o, 0] : Fin 2 → ℕ) a + S512x768.size a ≤ S2048x768.size a) (x : S512x768.Idx) :
    k0_pay2 (F := Ideal) (View.readAt (Elt Ideal) arg3.view (Rect.unit (s := S1x2048x384) ![0, o, 0] S1x512x384.size ib3).toLoadRect (harg3.unread x1))
        (View.readAt (Elt Ideal) arg6.view (Rect.unit (s := S1x2048x128) ![0, o, 0] S1x512x128.size ib6).toLoadRect (harg6.unread x4))
        (View.readAt (Elt Ideal) arg8.view (Rect.unit (s := S512x768) ![0, 0] S512x768.size ib8).toLoadRect (harg8.unread x6)) x
      = placed (at3 x1 0) (at3 x4 0) (at2 x6) ((Rect.unit (s := S2048x768) ![o, 0] S512x768.size ib).emb x 0).val ((Rect.unit (s := S2048x768) ![o, 0] S512x768.size ib).emb x 1).val := by
  obtain ⟨t, l, rfl⟩ : ∃ (t : Fin 512) (l : Fin 768), x = ix2 t l := ⟨x 0, x 1, by funext a; revert a; exact Fin.forall_fin_two.mpr ⟨rfl, rfl⟩⟩
  have e0 : ((Rect.unit (s := S2048x768) ![o, 0] S512x768.size ib).emb (ix2 t l) 0).val = o + t.val := congrArg (o + ·) (Nat.one_mul _)
  have e1 : ((Rect.unit (s := S2048x768) ![o, 0] S512x768.size ib).emb (ix2 t l) 1).val = l.val := (Nat.zero_add _).trans (Nat.one_mul _)
  rw [e0, e1, View.readAt_full, harg8.read_unread, keys_apply]
  refine congrArg₂ (fun a b : EReal => a + b) (Finset.sum_congr rfl fun m _ => congrArg (fun a : EReal => a * _) ?_)
    (Finset.sum_congr rfl fun m _ => congrArg (fun a : EReal => a * _) ?_)
  · rw [rows_load arg3.view ib3 _ t.isLt, harg3.read_unread]
  · rw [rows_load arg6.view ib6 _ t.isLt, harg6.read_unread]

/-- The keys as the first point of a batch row lays them out. -/
theorem keys_A (hc0 : cond0_0 i) {t l : ℕ} (ht : t < 2048) (hl : l < 768) :
    at2 (sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) t l = placed (at3 x1 0) (at3 x4 0) (at2 x6) t l := by
  rw [at2, dif_pos ⟨ht, hl⟩]
  refine View.read_writes_apply_of_pieces VS0_1 VS0_1.junk (fun y : S2048x768.Idx => placed (at3 x1 0) (at3 x4 0) (at2 x6) (y 0).val (y 1).val) _ ?_ (ix2 ⟨t, ht⟩ ⟨l, hl⟩)
    (scover0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 _)
  unfold kernelRun0_A
  dsimp only
  unfold kernelRun0_A.sl.HS1_4
  refine List.forall_mem_cons.mpr ⟨?_, List.forall_mem_cons.mpr ⟨?_, List.forall_mem_cons.mpr ⟨?_, List.forall_mem_cons.mpr ⟨?_, List.forall_mem_nil _⟩⟩⟩⟩
  · exact fun x => keys_piece arg3 harg3 arg6 harg6 arg8 harg8 x1 x4 x6 1536 (by decide) (by decide) (by decide) (by decide) x
  · exact fun x => keys_piece arg3 harg3 arg6 harg6 arg8 harg8 x1 x4 x6 1024 (by decide) (by decide) (by decide) (by decide) x
  · exact fun x => keys_piece arg3 harg3 arg6 harg6 arg8 harg8 x1 x4 x6 512 (by decide) (by decide) (by decide) (by decide) x
  · exact fun x => keys_piece arg3 harg3 arg6 harg6 arg8 harg8 x1 x4 x6 0 (by decide) (by decide) (by decide) (by decide) x

/-- The values of head `h`, one channel a row: the load from the channels' block. -/
theorem values_apply (o : ℕ) (ib4 : ∀ a, (![0, 0, o, 0] : Fin 4 → ℕ) a + S1x1x64x2048.size a ≤ S1x1x384x2048.size a) (r : Fin 64) (t : Fin 2048) :
    k0_pay7 (F := Ideal) (View.readAt (Elt Ideal) arg4.view (Rect.unit (s := S1x1x384x2048) ![0, 0, o, 0] S1x1x64x2048.size ib4).toLoadRect (harg4.unread x2)) (ix2 r t)
      = at4 x2 0 0 (o + r) t := by
  pointwise [k0_pay7]
  rw [show arg4.view.readAt (Elt Ideal) (Rect.unit (s := S1x1x384x2048) ![0, 0, o, 0] S1x1x64x2048.size ib4).toLoadRect (harg4.unread x2) (ix4 0 0 r t)
      = arg4.view.read (Elt Ideal) (harg4.unread x2) ((Rect.unit (s := S1x1x384x2048) ![0, 0, o, 0] S1x1x64x2048.size ib4).emb (ix4 0 0 r t)) from rfl, harg4.read_unread]
  exact at4_idx x2 _ rfl rfl (congrArg (o + ·) (Nat.one_mul _)) ((Nat.zero_add _).trans (Nat.one_mul _))

/-- What the values' layout holds in row `128 h + r`: channel `r` of head `h`, then ones. -/
def valueRow (V : ℕ → ℕ → EReal) (y t : ℕ) : EReal :=
  if y % 128 < 64 then V (64 * (y / 128) + y % 128) t else 1

theorem value_piece (o o' : ℕ) (ho : o % 128 = 0) (ho' : o' = 64 * (o / 128)) (ib4 : ∀ a, (![0, 0, o', 0] : Fin 4 → ℕ) a + S1x1x64x2048.size a ≤ S1x1x384x2048.size a)
    (ib : ∀ a, (![o, 0] : Fin 2 → ℕ) a + S64x2048.size a ≤ S768x2048.size a) (x : S64x2048.Idx) :
    k0_pay7 (F := Ideal) (View.readAt (Elt Ideal) arg4.view (Rect.unit (s := S1x1x384x2048) ![0, 0, o', 0] S1x1x64x2048.size ib4).toLoadRect (harg4.unread x2)) x
      = valueRow (at4 x2 0 0) ((Rect.unit (s := S768x2048) ![o, 0] S64x2048.size ib).emb x 0).val ((Rect.unit (s := S768x2048) ![o, 0] S64x2048.size ib).emb x 1).val := by
  obtain ⟨r, t, rfl⟩ : ∃ (r : Fin 64) (t : Fin 2048), x = ix2 r t := ⟨x 0, x 1, by funext a; revert a; exact Fin.forall_fin_two.mpr ⟨rfl, rfl⟩⟩
  have e0 : ((Rect.unit (s := S768x2048) ![o, 0] S64x2048.size ib).emb (ix2 r t) 0).val = o + r.val := congrArg (o + ·) (Nat.one_mul _)
  have e1 : ((Rect.unit (s := S768x2048) ![o, 0] S64x2048.size ib).emb (ix2 r t) 1).val = t.val := (Nat.zero_add _).trans (Nat.one_mul _)
  have hr := r.isLt
  rw [e0, e1, values_apply, valueRow, if_pos (by omega), ho']
  congr 1
  omega

theorem one_piece (o : ℕ) (ho : o % 128 = 64) (V : ℕ → ℕ → EReal)
    (ib : ∀ a, (![o, 0] : Fin 2 → ℕ) a + S64x2048.size a ≤ S768x2048.size a) (x : S64x2048.Idx) :
    k0_pay8 (F := Ideal) x
      = valueRow V ((Rect.unit (s := S768x2048) ![o, 0] S64x2048.size ib).emb x 0).val ((Rect.unit (s := S768x2048) ![o, 0] S64x2048.size ib).emb x 1).val := by
  obtain ⟨r, t, rfl⟩ : ∃ (r : Fin 64) (t : Fin 2048), x = ix2 r t := ⟨x 0, x 1, by funext a; revert a; exact Fin.forall_fin_two.mpr ⟨rfl, rfl⟩⟩
  have e0 : ((Rect.unit (s := S768x2048) ![o, 0] S64x2048.size ib).emb (ix2 r t) 0).val = o + r.val := congrArg (o + ·) (Nat.one_mul _)
  have hr := r.isLt
  rw [e0, valueRow, if_neg (by omega)]
  pointwise [k0_pay8]

/-- The values as the first point of a batch row lays them out. -/
theorem values_A (hc0 : cond0_0 i) {y t : ℕ} (hy : y < 768) (ht : t < 2048) :
    at2 (sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) y t = valueRow (at4 x2 0 0) y t := by
  rw [at2, dif_pos ⟨hy, ht⟩]
  refine View.read_writes_apply_of_pieces VS0_2 VS0_2.junk (fun y : S768x2048.Idx => valueRow (at4 x2 0 0) (y 0).val (y 1).val) _ ?_ (ix2 ⟨y, hy⟩ ⟨t, ht⟩)
    (scover0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 _)
  unfold kernelRun0_A
  dsimp only
  unfold kernelRun0_A.sl.HS2_12
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, ?_⟩⟩⟩⟩⟩⟩
  · exact fun x => one_piece 704 rfl _ (by decide) x
  · exact fun x => value_piece arg4 harg4 x2 640 320 rfl rfl (by decide) (by decide) x
  · exact fun x => one_piece 576 rfl _ (by decide) x
  · exact fun x => value_piece arg4 harg4 x2 512 256 rfl rfl (by decide) (by decide) x
  · exact fun x => one_piece 448 rfl _ (by decide) x
  · exact fun x => value_piece arg4 harg4 x2 384 192 rfl rfl (by decide) (by decide) x
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩
  · exact fun x => one_piece 320 rfl _ (by decide) x
  · exact fun x => value_piece arg4 harg4 x2 256 128 rfl rfl (by decide) (by decide) x
  · exact fun x => one_piece 192 rfl _ (by decide) x
  · exact fun x => value_piece arg4 harg4 x2 128 64 rfl rfl (by decide) (by decide) x
  · exact fun x => one_piece 64 rfl _ (by decide) x
  · exact fun x => value_piece arg4 harg4 x2 0 0 rfl rfl (by decide) (by decide) x

end Run

end Cert.KernelIdeal.Fox

end
-- ==== Proof.Host.lean ====
/- The operands the host prepares. -/
module

public import proofs.«01_k».proof.Proof.Layout
public import Idealize.ShloMosaic.Lib.StableHlo.ReadAt

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

/-- Where a column of the queries' layout takes its one element: row `r` of the data and decay pieces, column `l = 128 h + e`. -/
def placeQ (r l : ℕ) : EReal :=
  if l % 128 < 64 then (if r = 64 * (l / 128) + l % 128 then 1 else 0)
  else if l % 128 < 67 then (if r = 384 + 3 * (l / 128) + (l % 128 - 64) then 1 else 0)
  else if l % 128 < 70 then (if r = 402 then -1 else 0)
  else 0

/-- Where a column of the keys' layout takes its one element. -/
def placeK (r l : ℕ) : EReal :=
  if l % 128 < 64 then (if r = 64 * (l / 128) + l % 128 then 1 else 0)
  else if l % 128 < 67 then (if r = 402 then 1 else 0)
  else if l % 128 < 70 then (if r = 384 + 3 * (l / 128) + (l % 128 - 67) then 1 else 0)
  else 0

/-- A row of the decay pieces: of each of six heads its decay and two remainders, which are zero over the reals; then one; then zeros. -/
def pieces (C : ℕ → EReal) (l : ℕ) : EReal :=
  if l < 18 then (if l % 3 = 0 then C (l / 3) else 0) else if l = 18 then 1 else 0

section Words

variable {P Q : Prop} [Decidable P] [Decidable Q]

theorem word_toInt {a : ℕ} (ha : a < 2 ^ 31) : (BitVec.ofNat 32 a).toInt = a := by
  rw [BitVec.toInt_eq_toNat_of_lt] <;> rw [BitVec.toNat_ofNat, Nat.mod_eq_of_lt] <;> omega

theorem word_slt {a b : ℕ} (ha : a < 2 ^ 31) (hb : b < 2 ^ 31) : IntOp.cmpi .slt (BitVec.ofNat 32 a) (BitVec.ofNat 32 b) = if a < b then 1#1 else 0#1 := by
  simp only [IntOp.cmpi, BitVec.slt, word_toInt ha, word_toInt hb, Int.ofNat_lt]
  by_cases h : a < b
  · rw [if_pos h, decide_eq_true h]; rfl
  · rw [if_neg h, decide_eq_false h]; rfl

theorem word_sge {a b : ℕ} (ha : a < 2 ^ 31) (hb : b < 2 ^ 31) : IntOp.cmpi .sge (BitVec.ofNat 32 a) (BitVec.ofNat 32 b) = if b ≤ a then 1#1 else 0#1 := by
  simp only [IntOp.cmpi, BitVec.sle, word_toInt ha, word_toInt hb, Int.ofNat_le]
  by_cases h : b ≤ a
  · rw [if_pos h, decide_eq_true h]; rfl
  · rw [if_neg h, decide_eq_false h]; rfl

theorem word_eq (a b : ℕ) : IntOp.cmpi .eq (BitVec.ofNat 32 a) (BitVec.ofNat 32 b) = if a % 2 ^ 32 = b % 2 ^ 32 then 1#1 else 0#1 := by
  have e : (BitVec.ofNat 32 a = BitVec.ofNat 32 b) ↔ a % 2 ^ 32 = b % 2 ^ 32 := by
    rw [← BitVec.toNat_inj, BitVec.toNat_ofNat, BitVec.toNat_ofNat]
  simp only [IntOp.cmpi]
  by_cases h : a % 2 ^ 32 = b % 2 ^ 32
  · rw [if_pos h, beq_iff_eq.mpr (e.mpr h)]; rfl
  · rw [if_neg h, beq_eq_false_iff_ne.mpr (fun h' => h (e.mp h'))]; rfl

theorem word_add (a b : ℕ) : IntOp.addi (BitVec.ofNat 32 a) (BitVec.ofNat 32 b) = BitVec.ofNat 32 (a + b) := (BitVec.ofNat_add a b).symm

theorem word_mul (a b : ℕ) : IntOp.muli (BitVec.ofNat 32 a) (BitVec.ofNat 32 b) = BitVec.ofNat 32 (a * b) := (BitVec.ofNat_mul a b).symm

theorem word_sub (a b : ℕ) (hb : b < 2 ^ 32) : IntOp.subi (BitVec.ofNat 32 a) (BitVec.ofNat 32 b) = BitVec.ofNat 32 (a + (2 ^ 32 - b)) := by
  apply BitVec.eq_of_toNat_eq
  rw [show IntOp.subi (BitVec.ofNat 32 a) (BitVec.ofNat 32 b) = BitVec.ofNat 32 a - BitVec.ofNat 32 b from rfl, BitVec.toNat_sub, BitVec.toNat_ofNat, BitVec.toNat_ofNat, BitVec.toNat_ofNat]
  omega

theorem bit_and : IntOp.andi (if P then 1#1 else 0#1) (if Q then 1#1 else 0#1) = if P ∧ Q then 1#1 else 0#1 := by
  by_cases hP : P <;> by_cases hQ : Q <;> simp [hP, hQ, IntOp.andi]

theorem bit_or : IntOp.ori (if P then 1#1 else 0#1) (if Q then 1#1 else 0#1) = if P ∨ Q then 1#1 else 0#1 := by
  by_cases hP : P <;> by_cases hQ : Q <;> simp [hP, hQ, IntOp.ori]

theorem bit_select {α : Type} (a b : α) : Scalar.select (if P then 1#1 else 0#1) a b = if P then a else b := by
  by_cases hP : P
  · rw [if_pos hP, if_pos hP]; rfl
  · rw [if_neg hP, if_neg hP]; rfl

theorem word_neg_one : Ideal.ofBits FTy.f32 3212836864#32 = -1 := by
  simp [Ideal.ofBits, Ideal.ieee]
  rw [← EReal.coe_mul, ← EReal.coe_one]
  congr 1
  norm_num

end Words

variable (m : (ℓ : Loc nD τ sig) → Buf (Elt Ideal) ℓ) (c : Dev nD)

/-- The queries, keys and values of all tokens, side by side. -/
abbrev qkvArr : Vec Ideal S8x2048x2304 .bf16 := m ((c : Thread nD τ).loc main_arg0)

/-- The stacked rows of both layers, the values among them. -/
abbrev rowsArr : Vec Ideal S2x8x768x2048 .f32 := m ((c : Thread nD τ).loc main_arg1)

/-- The decays of each head at each token. -/
abbrev decayArr : Vec Ideal S8x2048x6 .f32 := m ((c : Thread nD τ).loc main_arg2)

theorem decay_raw (b : Fin 8) (t : Fin 2048) (l : Fin 128) :
    Eq (α := EReal) ((V m c main_v15 : Vec Ideal S8x2048x128 .bf16) (ix3 b t l))
      (if h : l.val < 18 then
        if l.val % 3 < 1 then decayArr m c (ix3 b t ⟨l.val / 3, by omega⟩)
        else if l.val % 3 - 1 < 1 then decayArr m c (ix3 b t ⟨l.val / 3, by omega⟩) - decayArr m c (ix3 b t ⟨l.val / 3, by omega⟩)
        else decayArr m c (ix3 b t ⟨l.val / 3, by omega⟩) - decayArr m c (ix3 b t ⟨l.val / 3, by omega⟩) - (decayArr m c (ix3 b t ⟨l.val / 3, by omega⟩) - decayArr m c (ix3 b t ⟨l.val / 3, by omega⟩))
      else if l.val - 18 < 1 then 1 else 0) := by
  unfold V
  after_reads_at
  after_reads_at
  after_reads_at
  rfl

/-- The decay pieces, read off the decays. -/
theorem decay_apply (hc : ∀ (b : Fin 8) (t : Fin 2048) (h : Fin 6), ∃ r : ℝ, decayArr m c (ix3 b t h) = r) (b : Fin 8) (t : Fin 2048) (l : Fin 128) :
    Eq (α := EReal) ((V m c main_v15 : Vec Ideal S8x2048x128 .bf16) (ix3 b t l))
      (pieces (at3 (decayArr m c) b t) l) := by
  rw [decay_raw]
  have hl := l.isLt
  unfold pieces
  by_cases h : l.val < 18
  · rw [dif_pos h, if_pos h]
    have h6 : l.val / 3 < 6 := by omega
    obtain ⟨r, hr⟩ := hc b t ⟨l.val / 3, h6⟩
    have z1 : (r : EReal) - (r : EReal) = 0 := by rw [← EReal.coe_sub, sub_self, EReal.coe_zero]
    rw [← show _ = at3 (decayArr m c) b t (l.val / 3) from at3_idx (decayArr m c) (ix3 b t ⟨l.val / 3, h6⟩) rfl rfl rfl, hr, z1, sub_zero]
    by_cases h0 : l.val % 3 = 0
    · rw [if_pos h0, if_pos (by omega)]
    · rw [if_neg h0, if_neg (by omega), ite_self]
  · rw [dif_neg h, if_neg h]
    by_cases h1 : l.val = 18
    · rw [if_pos h1, if_pos (by omega)]
    · rw [if_neg h1, if_neg (by omega)]

/-- The placement of the queries. -/
theorem place_q_apply (r : Fin 512) (l : Fin 768) :
    Eq (α := EReal) ((V m c main_v67 : Vec Ideal S512x768 .bf16) (ix2 r l)) (placeQ r l) := by
  unfold V
  after_reads_at
  have hr := r.isLt
  have hl := l.isLt
  rw [word_slt (by omega) (by omega), word_mul, word_add, word_eq, bit_and, word_sge (by omega) (by omega), word_slt (by omega) (by omega), bit_and,
    word_mul, word_add, word_sub _ _ (by omega), word_add, word_eq, bit_and, bit_or, word_sge (by omega) (by omega), word_slt (by omega) (by omega), bit_and,
    word_eq, bit_and, bit_select, bit_select, word_neg_one, placeQ]
  split_ifs <;> first | rfl | (exfalso; omega)

/-- The placement of the keys. -/
theorem place_k_apply (r : Fin 512) (l : Fin 768) :
    Eq (α := EReal) ((V m c main_v69 : Vec Ideal S512x768 .bf16) (ix2 r l)) (placeK r l) := by
  unfold V
  after_reads_at
  have hr := r.isLt
  have hl := l.isLt
  rw [word_slt (by omega) (by omega), word_mul, word_add, word_eq, bit_and, word_sge (by omega) (by omega), word_slt (by omega) (by omega), bit_and,
    word_eq, bit_and, bit_or, word_sge (by omega) (by omega), word_slt (by omega) (by omega), bit_and,
    word_mul, word_add, word_sub _ _ (by omega), word_sub _ _ (by omega), word_add, word_eq, bit_and, bit_or, bit_select, placeK]
  split_ifs <;> first | rfl | (exfalso; omega)

end Cert.KernelIdeal.Fox

end
-- ==== Proof.Score.lean ====
/- The score that the laid-out queries and keys hold. -/
module

public import proofs.«01_k».proof.Proof.Host

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

variable (D P W : ℕ → ℕ → EReal)

/-- A sum in which one index alone takes part. -/
theorem sum_single (n a : ℕ) (f : ℕ → EReal) (s : EReal) (ha : a < n) : ∑ m ∈ Finset.range n, f m * (if m = a then s else 0) = f a * s := by
  rw [Finset.sum_eq_single a (fun m _ hm => by rw [if_neg hm, mul_zero]) (fun h => absurd (Finset.mem_range.mpr ha) h), if_pos rfl]

theorem sum_none (n : ℕ) (f g : ℕ → EReal) (h : ∀ m < n, g m = 0) : ∑ m ∈ Finset.range n, f m * g m = 0 :=
  Finset.sum_eq_zero fun m hm => by rw [h m (Finset.mem_range.mp hm), mul_zero]

/-- A column whose one element `s` lies in row `a` of the data. -/
theorem placed_data {t l a : ℕ} {s : EReal} (ha : a < 384) (h : ∀ m < 512, W m l = if m = a then s else 0) : placed D P W t l = D t a * s := by
  unfold placed
  rw [Finset.sum_congr rfl fun m hm => congrArg (D t m * ·) (h m (by have := Finset.mem_range.mp hm; omega)), sum_single 384 a _ s ha,
    sum_none 128 _ _ (fun m hm => by rw [h _ (by omega), if_neg (by omega)]), add_zero]

/-- A column whose one element `s` lies in row `384 + a`, among the decay pieces. -/
theorem placed_piece {t l a : ℕ} {s : EReal} (ha : a < 128) (h : ∀ m < 512, W m l = if m = 384 + a then s else 0) : placed D P W t l = P t a * s := by
  unfold placed
  rw [sum_none 384 _ _ (fun m hm => by rw [h _ (by omega), if_neg (by omega)]), zero_add,
    Finset.sum_congr rfl fun m hm => congrArg (P t m * ·) (show W (384 + m) l = if m = a then s else 0 from by
      have hm' := Finset.mem_range.mp hm
      rw [h _ (by omega)]
      by_cases e : m = a
      · rw [if_pos e, if_pos (by omega)]
      · rw [if_neg e, if_neg (by omega)]), sum_single 128 a _ s ha]

/-- A column without an element. -/
theorem placed_zero {t l : ℕ} (h : ∀ m < 512, W m l = 0) : placed D P W t l = 0 := by
  unfold placed
  rw [sum_none 384 _ _ (fun m hm => h _ (by omega)), sum_none 128 _ _ (fun m hm => h _ (by omega)), add_zero]

section Columns

variable {C : ℕ → ℕ → EReal} {h t : ℕ} (hh : h < 6) (hP : ∀ l < 128, P t l = pieces (C t) l)

include hh hP

theorem query_columns (hW : ∀ r < 512, ∀ l < 768, W r l = placeQ r l) :
    (∀ e < 64, placed D P W t (128 * h + e) = D t (64 * h + e)) ∧ placed D P W t (128 * h + 64) = C t h
      ∧ placed D P W t (128 * h + 65) = 0 ∧ placed D P W t (128 * h + 66) = 0 ∧ (∀ e, 67 ≤ e → e < 70 → placed D P W t (128 * h + e) = -1)
      ∧ ∀ e, 70 ≤ e → e < 128 → placed D P W t (128 * h + e) = 0 := by
  refine ⟨fun e he => ?_, ?_, ?_, ?_, fun e h1 h2 => ?_, fun e h1 h2 => ?_⟩
  · rw [placed_data D P W (a := 64 * h + e) (s := 1) (by omega) (fun m hm => by
      rw [hW m hm _ (by omega), placeQ, if_pos (by omega), show 64 * ((128 * h + e) / 128) + (128 * h + e) % 128 = 64 * h + e by omega]), mul_one]
  · rw [placed_piece D P W (a := 3 * h) (s := 1) (by omega) (fun m hm => by
      rw [hW m hm _ (by omega), placeQ, if_neg (by omega), if_pos (by omega), show 384 + 3 * ((128 * h + 64) / 128) + ((128 * h + 64) % 128 - 64) = 384 + 3 * h by omega]),
      mul_one, hP _ (by omega), pieces, if_pos (by omega), if_pos (by omega), show 3 * h / 3 = h by omega]
  · rw [placed_piece D P W (a := 3 * h + 1) (s := 1) (by omega) (fun m hm => by
      rw [hW m hm _ (by omega), placeQ, if_neg (by omega), if_pos (by omega), show 384 + 3 * ((128 * h + 65) / 128) + ((128 * h + 65) % 128 - 64) = 384 + (3 * h + 1) by omega]),
      mul_one, hP _ (by omega), pieces, if_pos (by omega), if_neg (by omega)]
  · rw [placed_piece D P W (a := 3 * h + 2) (s := 1) (by omega) (fun m hm => by
      rw [hW m hm _ (by omega), placeQ, if_neg (by omega), if_pos (by omega), show 384 + 3 * ((128 * h + 66) / 128) + ((128 * h + 66) % 128 - 64) = 384 + (3 * h + 2) by omega]),
      mul_one, hP _ (by omega), pieces, if_pos (by omega), if_neg (by omega)]
  · rw [placed_piece D P W (a := 18) (s := -1) (by omega) (fun m hm => by
      rw [hW m hm _ (by omega), placeQ, if_neg (by omega), if_neg (by omega), if_pos (by omega)]),
      hP _ (by omega), pieces, if_neg (by omega), if_pos rfl, one_mul]
  · exact placed_zero D P W fun m hm => by
      rw [hW m hm _ (by omega), placeQ, if_neg (by omega), if_neg (by omega), if_neg (by omega)]

theorem key_columns (hW : ∀ r < 512, ∀ l < 768, W r l = placeK r l) :
    (∀ e < 64, placed D P W t (128 * h + e) = D t (64 * h + e)) ∧ (∀ e, 64 ≤ e → e < 67 → placed D P W t (128 * h + e) = 1)
      ∧ placed D P W t (128 * h + 67) = C t h ∧ placed D P W t (128 * h + 68) = 0 ∧ placed D P W t (128 * h + 69) = 0
      ∧ ∀ e, 70 ≤ e → e < 128 → placed D P W t (128 * h + e) = 0 := by
  refine ⟨fun e he => ?_, fun e h1 h2 => ?_, ?_, ?_, ?_, fun e h1 h2 => ?_⟩
  · rw [placed_data D P W (a := 64 * h + e) (s := 1) (by omega) (fun m hm => by
      rw [hW m hm _ (by omega), placeK, if_pos (by omega), show 64 * ((128 * h + e) / 128) + (128 * h + e) % 128 = 64 * h + e by omega]), mul_one]
  · rw [placed_piece D P W (a := 18) (s := 1) (by omega) (fun m hm => by
      rw [hW m hm _ (by omega), placeK, if_neg (by omega), if_pos (by omega)]),
      hP _ (by omega), pieces, if_neg (by omega), if_pos rfl, one_mul]
  · rw [placed_piece D P W (a := 3 * h) (s := 1) (by omega) (fun m hm => by
      rw [hW m hm _ (by omega), placeK, if_neg (by omega), if_neg (by omega), if_pos (by omega), show 384 + 3 * ((128 * h + 67) / 128) + ((128 * h + 67) % 128 - 67) = 384 + 3 * h by omega]),
      mul_one, hP _ (by omega), pieces, if_pos (by omega), if_pos (by omega), show 3 * h / 3 = h by omega]
  · rw [placed_piece D P W (a := 3 * h + 1) (s := 1) (by omega) (fun m hm => by
      rw [hW m hm _ (by omega), placeK, if_neg (by omega), if_neg (by omega), if_pos (by omega), show 384 + 3 * ((128 * h + 68) / 128) + ((128 * h + 68) % 128 - 67) = 384 + (3 * h + 1) by omega]),
      mul_one, hP _ (by omega), pieces, if_pos (by omega), if_neg (by omega)]
  · rw [placed_piece D P W (a := 3 * h + 2) (s := 1) (by omega) (fun m hm => by
      rw [hW m hm _ (by omega), placeK, if_neg (by omega), if_neg (by omega), if_pos (by omega), show 384 + 3 * ((128 * h + 69) / 128) + ((128 * h + 69) % 128 - 67) = 384 + (3 * h + 2) by omega]),
      mul_one, hP _ (by omega), pieces, if_pos (by omega), if_neg (by omega)]
  · exact placed_zero D P W fun m hm => by
      rw [hW m hm _ (by omega), placeK, if_neg (by omega), if_neg (by omega), if_neg (by omega)]

end Columns

/-- A sum over 128 lanes of which those past 70 hold zero. -/
theorem sum_lanes (f : ℕ → EReal) (h : ∀ l, 70 ≤ l → l < 128 → f l = 0) :
    ∑ l ∈ Finset.range 128, f l = ∑ l ∈ Finset.range 64, f l + f 64 + f 65 + f 66 + f 67 + f 68 + f 69 := by
  rw [← Finset.sum_subset (Finset.range_subset_range.mpr (show 70 ≤ 128 by omega))
    (fun l h1 h2 => h l (by rw [Finset.mem_range] at h2; omega) (Finset.mem_range.mp h1))]
  rw [Finset.sum_range_succ, Finset.sum_range_succ, Finset.sum_range_succ, Finset.sum_range_succ, Finset.sum_range_succ, Finset.sum_range_succ]

/-- The score of key `t` for query `q`: the product of their data, plus the query's decay, less the key's. -/
def score1 (A B : ℕ → ℕ → EReal) (Cq Ck : ℕ → ℕ → EReal) (h q t : ℕ) : EReal :=
  ∑ e ∈ Finset.range 64, B t (64 * h + e) * A q (64 * h + e) + Cq q h - Ck t h

/-- The product of the laid-out queries and keys is the score. -/
theorem sc_eq (Dk Pk Wk Dq Pq Wq : ℕ → ℕ → EReal) (K Q : ℕ → ℕ → EReal) (Ck Cq : ℕ → ℕ → EReal) {h q t : ℕ} (hh : h < 6)
    (hK : ∀ l < 768, K t l = placed Dk Pk Wk t l) (hQ : ∀ l < 768, Q q l = placed Dq Pq Wq q l)
    (hPk : ∀ l < 128, Pk t l = pieces (Ck t) l) (hPq : ∀ l < 128, Pq q l = pieces (Cq q) l)
    (hWk : ∀ r < 512, ∀ l < 768, Wk r l = placeK r l) (hWq : ∀ r < 512, ∀ l < 768, Wq r l = placeQ r l) :
    sc K Q h q t = score1 Dq Dk Cq Ck h q t := by
  obtain ⟨a0, a1, a2, a3, a4, a5⟩ := query_columns Dq Pq Wq hh hPq hWq
  obtain ⟨b0, b1, b2, b3, b4, b5⟩ := key_columns Dk Pk Wk hh hPk hWk
  unfold sc score1
  rw [sum_lanes _ (fun l h1 h2 => by rw [hQ _ (by omega), a5 l h1 h2, mul_zero])]
  rw [hK _ (by omega), hK _ (by omega), hK _ (by omega), hK _ (by omega), hK _ (by omega), hK _ (by omega),
    hQ _ (by omega), hQ _ (by omega), hQ _ (by omega), hQ _ (by omega), hQ _ (by omega), hQ _ (by omega),
    a1, a2, a3, a4 67 (by omega) (by omega), a4 68 (by omega) (by omega), a4 69 (by omega) (by omega),
    b1 64 (by omega) (by omega), b1 65 (by omega) (by omega), b1 66 (by omega) (by omega), b2, b3, b4,
    one_mul, mul_zero, zero_mul, add_zero, add_zero, add_zero, add_zero, mul_neg, mul_one, sub_eq_add_neg]
  refine congrArg (fun x : EReal => x + Cq q h + -Ck t h) (Finset.sum_congr rfl fun e he => ?_)
  have he' := Finset.mem_range.mp he
  rw [hK _ (by omega), hQ _ (by omega), a0 e he', b0 e he']

/-- The score of real data and decays is real. -/
theorem score1_real {A B Cq Ck : ℕ → ℕ → EReal} {h q t : ℕ} (hA : ∀ e, e < 64 → ∃ r : ℝ, A q (64 * h + e) = r) (hB : ∀ e, e < 64 → ∃ r : ℝ, B t (64 * h + e) = r)
    (hq : ∃ r : ℝ, Cq q h = r) (hk : ∃ r : ℝ, Ck t h = r) : ∃ r : ℝ, score1 A B Cq Ck h q t = r := by
  choose! a ha using hA
  choose! b hb using hB
  obtain ⟨x, hx⟩ := hq
  obtain ⟨y, hy⟩ := hk
  refine ⟨∑ e ∈ Finset.range 64, b e * a e + x - y, ?_⟩
  unfold score1
  rw [hx, hy, EReal.coe_sub, EReal.coe_add]
  refine congrArg (fun z : EReal => z + x - y) ?_
  rw [Finset.sum_congr rfl fun e he => (congrArg₂ (fun a b : EReal => a * b) (hb e (Finset.mem_range.mp he)) (ha e (Finset.mem_range.mp he))).trans (EReal.coe_mul _ _).symm]
  exact (coe_sum _ _).symm

end Cert.KernelIdeal.Fox

end
-- ==== Proof.Blocks.lean ====
/- What each window of a point holds. -/
module

public import proofs.«01_k».proof.Proof.Score

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

theorem ix2_of_val {n0 n1 : ℕ} (i : (⟨2, ![n0, n1]⟩ : Shape).Idx) {a : Fin n0} {b : Fin n1} (ha : (i 0).val = a.val) (hb : (i 1).val = b.val) : i = ix2 a b := by
  funext x
  revert x
  exact Fin.forall_fin_two.mpr ⟨Fin.ext ha, Fin.ext hb⟩

theorem ix3_of_val {n0 n1 n2 : ℕ} (i : (⟨3, ![n0, n1, n2]⟩ : Shape).Idx) {a : Fin n0} {b : Fin n1} {d : Fin n2}
    (ha : (i 0).val = a.val) (hb : (i 1).val = b.val) (hd : (i 2).val = d.val) : i = ix3 a b d := by
  funext x
  revert x
  exact Fin.forall_fin_succ.mpr ⟨Fin.ext ha, Fin.forall_fin_two.mpr ⟨Fin.ext hb, Fin.ext hd⟩⟩

variable (m : (ℓ : Loc nD τ sig) → Buf (Elt Ideal) ℓ) (c : Dev nD)

/-- Where each window's block of a point begins, in blocks: point `t` is block `t % 8` of batch row `t / 8`. -/
theorem block_places : ∀ t : Fin cfg0.N,
    (win0_0.index t 0 = t.val / 8 ∧ win0_0.index t 1 = t.val % 8 ∧ win0_0.index t 2 = 0)
    ∧ (win0_1.index t 0 = t.val / 8 ∧ win0_1.index t 1 = 0 ∧ win0_1.index t 2 = 1)
    ∧ (win0_2.index t 0 = 0 ∧ win0_2.index t 1 = t.val / 8 ∧ win0_2.index t 2 = 1 ∧ win0_2.index t 3 = 0)
    ∧ (win0_3.index t 0 = t.val / 8 ∧ win0_3.index t 1 = t.val % 8 ∧ win0_3.index t 2 = 0)
    ∧ (win0_4.index t 0 = t.val / 8 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, _)

theorem coords_val : ∀ t : Fin cfg0.N, (grid0.coords t 0).val = t.val / 8 ∧ (grid0.coords t 1).val = t.val % 8 :=
  (by decide +kernel : ∀ t : Fin grid0.N, _)

/-- The queries' block. -/
theorem block_q (t : Fin cfg0.N) {q l : ℕ} (hq : q < 256) (hl : l < 384) :
    at3 (n0 := 1) (n1 := 256) (n2 := 384) (iblk m c 0 t) 0 q l = at3 (qkvArr m c) (t.val / 8) (256 * (t.val % 8) + q) l := by
  obtain ⟨⟨e0, e1, e2⟩, -⟩ := block_places t
  rw [at3, dif_pos ⟨Nat.one_pos, hq, hl⟩]
  refine (congrFun (V_main_arg0 m c) _).trans (at3_idx (qkvArr m c) _ ?_ ?_ ?_)
  · exact (show _ = win0_0.index t 0 * 1 + 1 * 0 from rfl).trans (by omega)
  · exact (show _ = win0_0.index t 1 * 256 + 1 * q from rfl).trans (by omega)
  · exact (show _ = win0_0.index t 2 * 384 + 1 * l from rfl).trans (by omega)

/-- The keys of a batch row. -/
theorem block_k (t : Fin cfg0.N) {q l : ℕ} (hq : q < 2048) (hl : l < 384) :
    at3 (n0 := 1) (n1 := 2048) (n2 := 384) (iblk m c 1 t) 0 q l = at3 (qkvArr m c) (t.val / 8) q (384 + l) := by
  obtain ⟨-, ⟨e0, e1, e2⟩, -⟩ := block_places t
  rw [at3, dif_pos ⟨Nat.one_pos, hq, hl⟩]
  refine (congrFun (V_main_arg0 m c) _).trans (at3_idx (qkvArr m c) _ ?_ ?_ ?_)
  · exact (show _ = win0_1.index t 0 * 1 + 1 * 0 from rfl).trans (by omega)
  · exact (show _ = win0_1.index t 1 * 2048 + 1 * q from rfl).trans (by omega)
  · exact (show _ = win0_1.index t 2 * 384 + 1 * l from rfl).trans (by omega)

/-- The values of a batch row. -/
theorem block_v (t : Fin cfg0.N) {q l : ℕ} (hq : q < 384) (hl : l < 2048) :
    at4 (n0 := 1) (n1 := 1) (n2 := 384) (n3 := 2048) (iblk m c 2 t) 0 0 q l = at4 (rowsArr m c) 0 (t.val / 8) (384 + q) l := by
  obtain ⟨-, -, ⟨e0, e1, e2, e3⟩, -⟩ := block_places t
  rw [at4, dif_pos ⟨Nat.one_pos, Nat.one_pos, hq, hl⟩]
  refine (congrFun (V_main_arg1 m c) _).trans (at4_idx (rowsArr m c) _ ?_ ?_ ?_ ?_)
  · exact (show _ = win0_2.index t 0 * 1 + 1 * 0 from rfl).trans (by omega)
  · exact (show _ = win0_2.index t 1 * 1 + 1 * 0 from rfl).trans (by omega)
  · exact (show _ = win0_2.index t 2 * 384 + 1 * q from rfl).trans (by omega)
  · exact (show _ = win0_2.index t 3 * 2048 + 1 * l from rfl).trans (by omega)

variable (hc : ∀ (b : Fin 8) (t : Fin 2048) (h : Fin 6), ∃ r : ℝ, decayArr m c (ix3 b t h) = r)

include hc in
/-- The queries' decay pieces. -/
theorem block_dq (t : Fin cfg0.N) {q l : ℕ} (hq : q < 256) (hl : l < 128) :
    at3 (n0 := 1) (n1 := 256) (n2 := 128) (iblk m c 3 t) 0 q l = pieces (at3 (decayArr m c) (t.val / 8) (256 * (t.val % 8) + q)) l := by
  obtain ⟨-, -, -, ⟨e0, e1, e2⟩, -⟩ := block_places t
  have ht : t.val < 64 := lt_of_lt_of_eq t.isLt N_0
  rw [at3, dif_pos ⟨Nat.one_pos, hq, hl⟩]
  refine Eq.trans (congrArg (V m c main_v15) (?_ : _ = ix3 ⟨t.val / 8, by omega⟩ ⟨256 * (t.val % 8) + q, by omega⟩ ⟨l, hl⟩)) (decay_apply m c hc _ _ _)
  refine ix3_of_val _ ?_ ?_ ?_
  · exact (show _ = win0_3.index t 0 * 1 + 1 * 0 from rfl).trans (show _ = t.val / 8 from by omega)
  · exact (show _ = win0_3.index t 1 * 256 + 1 * q from rfl).trans (show _ = 256 * (t.val % 8) + q from by omega)
  · exact (show _ = win0_3.index t 2 * 128 + 1 * l from rfl).trans (show _ = l from by omega)

include hc in
/-- The keys' decay pieces. -/
theorem block_dk (t : Fin cfg0.N) {q l : ℕ} (hq : q < 2048) (hl : l < 128) :
    at3 (n0 := 1) (n1 := 2048) (n2 := 128) (iblk m c 4 t) 0 q l = pieces (at3 (decayArr m c) (t.val / 8) q) l := by
  obtain ⟨-, -, -, -, ⟨e0, e1, e2⟩, -⟩ := block_places t
  have ht : t.val < 64 := lt_of_lt_of_eq t.isLt N_0
  rw [at3, dif_pos ⟨Nat.one_pos, hq, hl⟩]
  refine Eq.trans (congrArg (V m c main_v15) (?_ : _ = ix3 ⟨t.val / 8, by omega⟩ ⟨q, hq⟩ ⟨l, hl⟩)) (decay_apply m c hc _ _ _)
  refine ix3_of_val _ ?_ ?_ ?_
  · exact (show _ = win0_4.index t 0 * 1 + 1 * 0 from rfl).trans (show _ = t.val / 8 from by omega)
  · exact (show _ = win0_4.index t 1 * 2048 + 1 * q from rfl).trans (show _ = q from by omega)
  · exact (show _ = win0_4.index t 2 * 128 + 1 * l from rfl).trans (show _ = l from by omega)

/-- The queries' placement. -/
theorem block_pq (t : Fin cfg0.N) {r l : ℕ} (hr : r < 512) (hl : l < 768) :
    at2 (n0 := 512) (n1 := 768) (iblk m c 5 t) r l = placeQ r l := by
  obtain ⟨-, -, -, -, -, ⟨e0, e1⟩, -⟩ := block_places t
  rw [at2, dif_pos ⟨hr, hl⟩]
  refine Eq.trans (congrArg (V m c main_v67) (?_ : _ = ix2 ⟨r, hr⟩ ⟨l, hl⟩)) (place_q_apply m c _ _)
  refine ix2_of_val _ ?_ ?_
  · exact (show _ = win0_5.index t 0 * 512 + 1 * r from rfl).trans (show _ = r from by omega)
  · exact (show _ = win0_5.index t 1 * 768 + 1 * l from rfl).trans (show _ = l from by omega)

/-- The keys' placement. -/
theorem block_pk (t : Fin cfg0.N) {r l : ℕ} (hr : r < 512) (hl : l < 768) :
    at2 (n0 := 512) (n1 := 768) (iblk m c 6 t) r l = placeK r l := by
  obtain ⟨-, -, -, -, -, -, ⟨e0, e1⟩⟩ := block_places t
  rw [at2, dif_pos ⟨hr, hl⟩]
  refine Eq.trans (congrArg (V m c main_v69) (?_ : _ = ix2 ⟨r, hr⟩ ⟨l, hl⟩)) (place_k_apply m c _ _)
  refine ix2_of_val _ ?_ ?_
  · exact (show _ = win0_6.index t 0 * 512 + 1 * r from rfl).trans (show _ = r from by omega)
  · exact (show _ = win0_6.index t 1 * 768 + 1 * l from rfl).trans (show _ = l from by omega)

end Cert.KernelIdeal.Fox

end
-- ==== Proof.Fold.lean ====
/- What the array holds after all points. -/
module

public import proofs.«01_k».proof.Proof.Blocks
public import proofs.«01_k».proof.Proof.Gen.KernelIdeal.Value

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Flash

theorem placed_congr {D D' P P' W W' : ℕ → ℕ → EReal} {t l : ℕ} (hD : ∀ m < 384, D t m = D' t m) (hP : ∀ m < 128, P t m = P' t m)
    (hW : ∀ r < 512, W r l = W' r l) : placed D P W t l = placed D' P' W' t l := by
  unfold placed
  refine congrArg₂ (fun a b : EReal => a + b) (Finset.sum_congr rfl fun m hm => ?_) (Finset.sum_congr rfl fun m hm => ?_)
  · have hm' := Finset.mem_range.mp hm
    rw [hD m hm', hW m (by omega)]
  · have hm' := Finset.mem_range.mp hm
    rw [hP m hm', hW _ (by omega)]

theorem top_congr {s s' : ℕ → EReal} {n : ℕ} (h : ∀ t < n, s t = s' t) : top s n = top s' n :=
  Finset.sup_congr rfl fun t ht => h t (Finset.mem_range.mp ht)

theorem acc_congr {s s' v v' : ℕ → EReal} {n : ℕ} (h : ∀ t < n, s t = s' t) (hv : ∀ t < n, v t = v' t) : acc s v n = acc s' v' n := by
  unfold acc
  rw [top_congr h]
  refine Finset.sum_congr rfl fun t ht => ?_
  rw [h t (Finset.mem_range.mp ht), hv t (Finset.mem_range.mp ht)]

/-- The values weighted by the softmax of the scores of 2048 keys. -/
def attend (s v : ℕ → EReal) : EReal :=
  ∑ t ∈ Finset.range 2048, v t * Ideal.div (Ideal.exp (s t - top s 2048)) (∑ u ∈ Finset.range 2048, Ideal.exp (s u - top s 2048))

variable (m : (ℓ : Loc nD τ sig) → Buf (Elt Ideal) ℓ) (c : Dev nD)

/-- The score of key `t` for query `q`, of head `h` in batch row `b`: the product of their 64 channels, plus the query's decay, less the key's. -/
def logit (b h q t : ℕ) : EReal :=
  score1 (at3 (qkvArr m c) b) (fun t l => at3 (qkvArr m c) b t (384 + l)) (at3 (decayArr m c) b) (at3 (decayArr m c) b) h q t

/-- The score of a key not after the query; `⊥` of a later one. -/
def causal (b h q t : ℕ) : EReal := if t ≤ q then logit m c b h q t else ⊥

/-- Channel `e` of the value of key `t`. -/
def valueOf (b h e t : ℕ) : EReal := at4 (rowsArr m c) 0 b (384 + (64 * h + e)) t

/-- The two carried buffers hold the keys and the values of batch row `b`. -/
def Laid (b : ℕ) (xs1 : Vec Ideal S2048x768 .bf16) (xs2 : Vec Ideal S768x2048 .bf16) : Prop :=
  (∀ t < 2048, ∀ l < 768, at2 xs1 t l = placed (fun t l => at3 (qkvArr m c) b t (384 + l)) (fun t => pieces (at3 (decayArr m c) b t)) placeK t l)
    ∧ ∀ y < 768, ∀ t < 2048, at2 xs2 y t = valueRow (fun y t => at4 (rowsArr m c) 0 b (384 + y) t) y t

variable (hc : ∀ (b : Fin 8) (t : Fin 2048) (h : Fin 6), ∃ r : ℝ, decayArr m c (ix3 b t h) = r)
  (hq : ∀ (b : Fin 8) (t : Fin 2048) (l : Fin 2304), l.val < 768 → ∃ r : ℝ, qkvArr m c (ix3 b t l) = r)

include hc

/-- After every point the carried buffers hold the keys and values of the point's batch row. -/
theorem laid : ∀ (n : ℕ) (hn : n < cfg0.N), Laid m c (n / 8) (outsAt0 m c n hn).2.1 (outsAt0 m c n hn).2.2 := by
  have start : ∀ t : Fin cfg0.N, t.val % 8 = 0 → Laid m c (t.val / 8) (outsAt0 m c t.val t.isLt).2.1 (outsAt0 m c t.val t.isLt).2.2 := by
    intro t h0
    have e := outsAt0_A m c t h0
    have e1 := congrArg (fun p => p.2.1) e
    have e2 := congrArg (fun p => p.2.2) e
    dsimp only at e1 e2
    refine ⟨fun k hk l hl => ?_, fun y hy k hk => ?_⟩
    · rw [e1, keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) hk hl]
      exact placed_congr (fun e he => block_k m c t hk he) (fun e he => block_dk m c hc t hk he) (fun r hr => block_pk m c t hr hl)
    · rw [e2, values_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) hy hk]
      unfold valueRow
      by_cases e : y % 128 < 64
      · rw [if_pos e, if_pos e]
        exact block_v m c t (by omega) hk
      · rw [if_neg e, if_neg e]
  intro n
  induction n with
  | zero => exact fun hn => start ⟨0, hn⟩ rfl
  | succ n ih =>
    intro hn
    by_cases h0 : (n + 1) % 8 = 0
    · exact start ⟨n + 1, hn⟩ h0
    · have e := outsAt0_B m c ⟨n + 1, hn⟩ h0
      have e1 : (outsAt0 m c (n + 1) hn).2.1 = (outsAt0 m c n (Nat.lt_of_succ_lt hn)).2.1 := (congrArg (fun p => p.2.1) e).trans rfl
      have e2 : (outsAt0 m c (n + 1) hn).2.2 = (outsAt0 m c n (Nat.lt_of_succ_lt hn)).2.2 := (congrArg (fun p => p.2.2) e).trans rfl
      rw [e1, e2, show (n + 1) / 8 = n / 8 by omega]
      exact ih _

/-- The point's queries as it lays them out. -/
theorem queries_at (t : Fin cfg0.N) {q l : ℕ} (hq' : q < 256) (hl : l < 768) :
    at2 (queries (iblk m c 0 t) (iblk m c 3 t) (iblk m c 5 t)) q l
      = placed (fun q l => at3 (qkvArr m c) (t.val / 8) (256 * (t.val % 8) + q) l) (fun q => pieces (at3 (decayArr m c) (t.val / 8) (256 * (t.val % 8) + q))) placeQ q l := by
  rw [at2, dif_pos ⟨hq', hl⟩]
  exact (queries_apply _ _ _ _ _).trans (placed_congr (fun e he => block_q m c t hq' he) (fun e he => block_dq m c hc t hq' he) (fun r hr => block_pq m c t hr hl))

/-- The point's scores. -/
theorem point_logit (t : Fin cfg0.N) {xs1 : Vec Ideal S2048x768 .bf16} {xs2 : Vec Ideal S768x2048 .bf16} (hL : Laid m c (t.val / 8) xs1 xs2)
    {h q k : ℕ} (hh : h < 6) (hq' : q < 256) (hk : k < 2048) :
    sc (at2 xs1) (at2 (queries (iblk m c 0 t) (iblk m c 3 t) (iblk m c 5 t))) h q k = logit m c (t.val / 8) h (256 * (t.val % 8) + q) k :=
  (sc_eq _ _ placeK (fun q l => at3 (qkvArr m c) (t.val / 8) (256 * (t.val % 8) + q) l) _ placeQ _ _
    (at3 (decayArr m c) (t.val / 8)) (fun q => at3 (decayArr m c) (t.val / 8) (256 * (t.val % 8) + q)) hh
    (fun l hl => hL.1 k hk l hl) (fun l hl => queries_at m c hc t hq' hl) (fun _ _ => rfl) (fun _ _ => rfl) (fun _ _ _ _ => rfl) (fun _ _ _ _ => rfl)).trans rfl

include hq

/-- Every score is real. -/
theorem logit_real {b h q t : ℕ} (hh : h < 6) : ∃ r : ℝ, logit m c b h q t = r := by
  have hqkv : ∀ b q l, l < 768 → ∃ r : ℝ, at3 (qkvArr m c) b q l = r := by
    intro b q l hl
    unfold at3
    by_cases e : b < 8 ∧ q < 2048 ∧ l < 2304
    · rw [dif_pos e]
      exact hq _ _ _ hl
    · rw [dif_neg e]
      exact ⟨0, EReal.coe_zero.symm⟩
  have hdec : ∀ b q l, ∃ r : ℝ, at3 (decayArr m c) b q l = r := by
    intro b q l
    unfold at3
    by_cases e : b < 8 ∧ q < 2048 ∧ l < 6
    · rw [dif_pos e]
      exact hc _ _ _
    · rw [dif_neg e]
      exact ⟨0, EReal.coe_zero.symm⟩
  exact score1_real (fun e he => hqkv _ _ _ (by omega)) (fun e he => hqkv _ _ _ (by omega)) (hdec _ _ _) (hdec _ _ _)

theorem sc_real (t : Fin cfg0.N) {xs1 : Vec Ideal S2048x768 .bf16} {xs2 : Vec Ideal S768x2048 .bf16} (hL : Laid m c (t.val / 8) xs1 xs2) (h q k : ℕ) :
    ∃ r : ℝ, sc (at2 xs1) (at2 (queries (iblk m c 0 t) (iblk m c 3 t) (iblk m c 5 t))) h q k = r := by
  by_cases e : h < 6 ∧ q < 256 ∧ k < 2048
  · rw [point_logit m c hc t hL e.1 e.2.1 e.2.2]
    exact logit_real m c hc hq e.1
  · refine ⟨0, (Finset.sum_eq_zero fun l _ => ?_).trans EReal.coe_zero.symm⟩
    by_cases hk : k < 2048 ∧ 128 * h + l < 768
    · have hz : at2 (queries (iblk m c 0 t) (iblk m c 3 t) (iblk m c 5 t)) q (128 * h + l) = 0 := by
        rw [at2, dif_neg (by omega)]
      rw [hz, mul_zero]
    · have hz : at2 xs1 k (128 * h + l) = 0 := by
        rw [at2, dif_neg (by omega)]
      rw [hz, zero_mul]

theorem msc_ne_top (t : Fin cfg0.N) {xs1 : Vec Ideal S2048x768 .bf16} {xs2 : Vec Ideal S768x2048 .bf16} (hL : Laid m c (t.val / 8) xs1 xs2) (i h q k : ℕ) :
    msc (at2 xs1) (at2 (queries (iblk m c 0 t) (iblk m c 3 t) (iblk m c 5 t))) i h q k ≠ ⊤ := by
  obtain ⟨r, hr⟩ := sc_real m c hc hq t hL h q k
  unfold msc
  by_cases e : k ≤ 256 * i + q
  · rw [if_pos e, hr]
    exact EReal.coe_ne_top r
  · rw [if_neg e]
    exact bot_ne_top

theorem msc_ne_bot (t : Fin cfg0.N) {xs1 : Vec Ideal S2048x768 .bf16} {xs2 : Vec Ideal S768x2048 .bf16} (hL : Laid m c (t.val / 8) xs1 xs2) (i h q : ℕ) :
    msc (at2 xs1) (at2 (queries (iblk m c 0 t) (iblk m c 3 t) (iblk m c 5 t))) i h q 0 ≠ ⊥ := by
  obtain ⟨r, hr⟩ := sc_real m c hc hq t hL h q 0
  unfold msc
  rw [if_pos (Nat.zero_le _), hr]
  exact EReal.coe_ne_bot r

/-- What a point writes, from what the carried buffers hold after it. -/
theorem point_out (t : Fin cfg0.N) (q : Fin 256) (d : Fin 384) :
    (outsAt0 m c t.val t.isLt).1 (ix3 0 q d)
      = blockOut (msc (at2 (outsAt0 m c t.val t.isLt).2.1) (at2 (queries (iblk m c 0 t) (iblk m c 3 t) (iblk m c 5 t))) (t.val % 8))
          (vrow (at2 (outsAt0 m c t.val t.isLt).2.2)) (256 * (t.val % 8) + 256) q d := by
  have hL := laid m c hc t.val t.isLt
  rw [← (coords_val t).2]
  by_cases h0 : t.val % 8 = 0
  · have e := outsAt0_A m c t h0
    have e0 := congrArg (fun p => p.1) e
    have e1 := congrArg (fun p => p.2.1) e
    have e2 := congrArg (fun p => p.2.2) e
    dsimp only at e0 e1 e2
    rw [e1, e2] at hL
    rw [e0, e1, e2]
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (msc_ne_top m c hc hq t hL _) (fun h q => msc_ne_bot m c hc hq t hL _ h q) q d
  · have e := outsAt0_B m c t h0
    have e0 := congrArg (fun p => p.1) e
    have e1 := congrArg (fun p => p.2.1) e
    have e2 := congrArg (fun p => p.2.2) e
    dsimp only at e0 e1 e2
    unfold sout0_B_1 at e1
    unfold sout0_B_2 at e2
    rw [e1, e2] at hL
    rw [e0, e1, e2]
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) _ _ (fun h => h0 ((hcond0_0 t).mp h)) (msc_ne_top m c hc hq t hL _) (fun h q => msc_ne_bot m c hc hq t hL _ h q) q d

/-- What a point writes: for each query of its block, the values weighted by the softmax of the causal scores. -/
theorem point_attend (t : Fin cfg0.N) (q : Fin 256) (d : Fin 384) :
    (outsAt0 m c t.val t.isLt).1 (ix3 0 q d)
      = attend (causal m c (t.val / 8) (d.val / 64) (256 * (t.val % 8) + q.val)) (valueOf m c (t.val / 8) (d.val / 64) (d.val % 64)) := by
  have hL := laid m c hc t.val t.isLt
  have hd := d.isLt
  have hq' := q.isLt
  have ht : t.val < 64 := lt_of_lt_of_eq t.isLt N_0
  rw [point_out m c hc hq t q d]
  set n := 256 * (t.val % 8) + 256 with hn
  have hs : ∀ k < n, msc (at2 (outsAt0 m c t.val t.isLt).2.1) (at2 (queries (iblk m c 0 t) (iblk m c 3 t) (iblk m c 5 t))) (t.val % 8) (d.val / 64) q.val k
      = causal m c (t.val / 8) (d.val / 64) (256 * (t.val % 8) + q.val) k := by
    intro k hk
    unfold msc causal
    rw [point_logit m c hc t hL (by omega) hq' (by omega)]
  have hv : ∀ k < n, vrow (at2 (outsAt0 m c t.val t.isLt).2.2) (d.val / 64) (d.val % 64) k = valueOf m c (t.val / 8) (d.val / 64) (d.val % 64) k := by
    intro k hk
    unfold vrow valueOf
    rw [hL.2 _ (by omega) _ (by omega), valueRow, if_pos (by omega)]
    congr 1
    omega
  have h1 : ∀ k < n, vrow (at2 (outsAt0 m c t.val t.isLt).2.2) (d.val / 64) 64 k = 1 := by
    intro k hk
    unfold vrow
    rw [hL.2 _ (by omega) _ (by omega), valueRow, if_neg (by omega)]
  have hlate : ∀ k, n ≤ k → causal m c (t.val / 8) (d.val / 64) (256 * (t.val % 8) + q.val) k = ⊥ := by
    intro k hk
    unfold causal
    rw [if_neg (by omega)]
  unfold blockOut
  rw [acc_congr hs hv, acc_congr (v' := fun _ => 1) hs h1,
    ← acc_masked (valueOf m c (t.val / 8) (d.val / 64) (d.val % 64)) n (2048 - n) hlate, ← acc_masked (fun _ => 1) n (2048 - n) hlate, show n + (2048 - n) = 2048 by omega]
  refine quotient _ (fun k => ?_) (t₀ := 0) (by omega) ?_
  · obtain ⟨r, hr⟩ := logit_real m c hc hq (b := t.val / 8) (q := 256 * (t.val % 8) + q.val) (t := k) (show d.val / 64 < 6 by omega)
    unfold causal
    by_cases e : k ≤ 256 * (t.val % 8) + q.val
    · rw [if_pos e, hr]
      exact EReal.coe_ne_top r
    · rw [if_neg e]
      exact bot_ne_top
  · obtain ⟨r, hr⟩ := logit_real m c hc hq (b := t.val / 8) (q := 256 * (t.val % 8) + q.val) (t := 0) (show d.val / 64 < 6 by omega)
    unfold causal
    rw [if_pos (Nat.zero_le _), hr]
    exact EReal.coe_ne_bot r

/-- The array the kernel leaves: channel `d` of the attention of token `T` in batch row `b`. -/
theorem result_apply (b : Fin 8) (T : Fin 2048) (d : Fin 384) :
    Eq (α := EReal) ((Value.G7 m c : Vec Ideal S8x2048x384 .bf16) (ix3 b T d))
      (attend (causal m c b.val (d.val / 64) T.val) (valueOf m c b.val (d.val / 64) (d.val % 64))) := by
  have hb := b.isLt
  have hT := T.isLt
  have hd := d.isLt
  have hrun : Value.run7Of (ix3 b T d) = 8 * b.val + T.val / 256 := by
    show 8 * (b.val / 1 - 0) + 1 * (T.val / 256 - 0) + 1 * (d.val / 384 - 0) = _
    omega
  have hlt : 8 * b.val + T.val / 256 < cfg0.N := lt_of_lt_of_eq (by omega) N_0.symm
  have hloc : Value.loc7Of (ix3 b T d) = ix3 0 ⟨T.val % 256, by omega⟩ ⟨d.val, hd⟩ :=
    ix3_of_val _ (show b.val % 1 = 0 by omega) rfl (show d.val % 384 = d.val by omega)
  have key := point_attend m c hc hq ⟨8 * b.val + T.val / 256, hlt⟩ ⟨T.val % 256, by omega⟩ ⟨d.val, hd⟩
  have e1 : (8 * b.val + T.val / 256) / 8 = b.val := by omega
  have e2 : 256 * ((8 * b.val + T.val / 256) % 8) + T.val % 256 = T.val := by omega
  rw [Value.outsAt0_sweep] at key
  dsimp only at key
  rw [e1, e2] at key
  refine Eq.trans ?_ key
  unfold Value.G7
  rw [dif_pos (show Value.pt7Of (ix3 b T d) < cfg0.N from lt_of_eq_of_lt hrun hlt), hloc]
  exact congrFun (congrArg Prod.fst (Value.fold0_congr m c _ _ _ _ hrun)) _

end Cert.KernelIdeal.Fox

end
-- ==== Proof.RefValue.lean ====
/- What the reference computes: its result at an index. -/
module

public import proofs.«01_k».proof.Proof.Gen.ReferenceIdeal.Run
public import Idealize.ShloMosaic.Lib.Pointwise

@[expose] public section

set_option maxRecDepth 16384

noncomputable section

namespace Cert.ReferenceIdeal.Fox

open Cert.ReferenceIdeal Cert.ReferenceIdeal.Gen Idealize.ShloMosaic Idealize.ShloMosaic.TcCoe

/-- The masked scores. -/
def scores (a0 : FVec Ideal S8x2048x2304 .bf16) (a2 : FVec Ideal S8x2048x6 .f32) : FVec Ideal S8x6x2048x2048 .f32 :=
  select (broadcastInDim S8x6x2048x2048 ![2, 3] bcast_S2048x2048_S8x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (Host.dotGeneral dot_S8x2048x6x64_S8x2048x6x64_S8x6x2048x2048_3_3_1_1_02_02 none (shapeCast _ (extf .f32 (extractStridedSlice S8x2048x384 ![0, 0, 0] a0 slices_S8x2048x2304_S8x2048x384_0_0_0) bitsLt_bf16_f32) shapeCasts_S8x2048x384_S8x2048x6x64) (shapeCast _ (extf .f32 (extractStridedSlice S8x2048x384 ![0, 0, 384] a0 slices_S8x2048x2304_S8x2048x384_0_0_384) bitsLt_bf16_f32) shapeCasts_S8x2048x384_S8x2048x6x64)) (broadcastInDim S8x6x2048x2048 ![0, 1, 2, 3] bcast_S8x6x2048x1_S8x6x2048x2048_0_1_2_3 (broadcastInDim S8x6x2048x1 ![0, 1, 2] bcast_S8x6x2048_S8x6x2048x1_0_1_2 (transpose S8x6x2048 [0, 2, 1] a2 transposes_S8x2048x6_S8x6x2048_0_2_1)))) (broadcastInDim S8x6x2048x2048 ![0, 1, 2, 3] bcast_S8x6x1x2048_S8x6x2048x2048_0_1_2_3 (broadcastInDim S8x6x1x2048 ![0, 1, 3] bcast_S8x6x2048_S8x6x1x2048_0_1_3 (transpose S8x6x2048 [0, 2, 1] a2 transposes_S8x2048x6_S8x6x2048_0_2_1)))) (broadcastInDim S8x6x2048x2048 ![] bcast_S_S8x6x2048x2048 (id (constant S_ .f32 0xFF800000#32)))

/-- The maximum of each row. -/
def rowMax (x : FVec Ideal S8x6x2048x2048 .f32) : FVec Ideal S8x6x2048 .f32 :=
  Host.reduce FloatOps.maximumf (x) (constant S_ .f32 0xFF800000#32) reducesTo_S8x6x2048x2048_S8x6x2048_d3 h_S_

/-- The maximum of each row, by the initial value. -/
def rowTop (x : FVec Ideal S8x6x2048x2048 .f32) : FVec Ideal S8x6x2048 .f32 :=
  maximumf (broadcastInDim S8x6x2048 ![] bcast_S_S8x6x2048 (constant S_ .f32 0xFF800000#32)) (rowMax x)

/-- The exponentials of the scores less their row's maximum. -/
def weights (x : FVec Ideal S8x6x2048x2048 .f32) : FVec Ideal S8x6x2048x2048 .f32 :=
  Host.exp (subf (x) (broadcastInDim S8x6x2048x2048 ![0, 1, 2, 3] bcast_S8x6x2048x1_S8x6x2048x2048_0_1_2_3 (broadcastInDim S8x6x2048x1 ![0, 1, 2] bcast_S8x6x2048_S8x6x2048x1_0_1_2 (rowTop x))))

/-- The weights, each divided by the sum of its row. -/
def shares (w : FVec Ideal S8x6x2048x2048 .f32) : FVec Ideal S8x6x2048x2048 .f32 :=
  Host.divf (w) (broadcastInDim S8x6x2048x2048 ![0, 1, 2, 3] bcast_S8x6x2048x1_S8x6x2048x2048_0_1_2_3 (broadcastInDim S8x6x2048x1 ![0, 1, 2] bcast_S8x6x2048_S8x6x2048x1_0_1_2 (Host.reduceAdd (w) (constant S_ .f32 0x00000000#32) reducesTo_S8x6x2048x2048_S8x6x2048_d3 h_S_)))

/-- The values of `a1` mixed by `p`. -/
def mixed (a1 : FVec Ideal S2x8x768x2048 .f32) (p : FVec Ideal S8x6x2048x2048 .f32) : FVec Ideal S8x2048x384 .bf16 :=
  truncf .bf16 (shapeCast _ (transpose S8x2048x6x64 [0, 3, 1, 2] (Host.dotGeneral dot_S8x6x64x2048_S8x6x2048x2048_S8x6x64x2048_3_3_2_2_01_01 none (shapeCast _ (shapeCast _ (extractStridedSlice S1x8x384x2048 ![0, 0, 384, 0] a1 slices_S2x8x768x2048_S1x8x384x2048_0_0_384_0) shapeCasts_S1x8x384x2048_S8x384x2048) shapeCasts_S8x384x2048_S8x6x64x2048) (p)) transposes_S8x6x64x2048_S8x2048x6x64_0_3_1_2) shapeCasts_S8x2048x6x64_S8x2048x384) bitsLt_bf16_f32

/-- A row's maximum, over any four axes, the last of which is reduced. -/
theorem max_row {n0 n1 n2 n3 : ℕ} {u : Shape} (x : FVec Ideal ⟨4, ![n0, n1, n2, n3]⟩ .f32) (v : u.Idx → Ideal .f32)
    (h : (⟨4, ![n0, n1, n2, n3]⟩ : Shape).ReducesTo [3] ⟨3, ![n0, n1, n2]⟩) (hu : 0 < u.numel) (a : Fin n0) (b : Fin n1) (q : Fin n2) :
    Eq (α := EReal) (Host.reduce (α := Ideal .f32) FloatOps.maximumf x v h hu (ix3 a b q))
      (Finset.univ.fold max (v (Shape.Idx.first hu) : EReal) fun k : Fin n3 => x (ix4 a b q k)) := by
  pointwise []

theorem neg_inf : Eq (α := EReal) (Ideal.ofBits .f32 0xFF800000#32) ⊥ := by
  simp [Ideal.ofBits, Ideal.ieee]

/-- A row's sum of products, plus the query's decay, less the key's, if the key is not after the query. -/
theorem scores_apply (a0 : FVec Ideal S8x2048x2304 .bf16) (a2 : FVec Ideal S8x2048x6 .f32) (b : Fin 8) (h : Fin 6) (q t : Fin 2048) :
    Eq (α := EReal) (scores a0 a2 (ix4 b h q t))
      (Scalar.select (IntOp.cmpi .sle (BitVec.ofNat 32 t.val) (BitVec.ofNat 32 q.val))
        ((∑ x : Fin 64, a0 (ix3 b q ⟨h.val * 64 + x.val, by omega⟩) * a0 (ix3 b t ⟨384 + (h.val * 64 + x.val), by omega⟩) + a2 (ix3 b q h) - a2 (ix3 b t h) : EReal))
        (Ideal.ofBits .f32 0xFF800000#32)) := by
  pointwise [scores]
  rfl

theorem rowMax_apply (x : FVec Ideal S8x6x2048x2048 .f32) (b : Fin 8) (h : Fin 6) (q : Fin 2048) :
    Eq (α := EReal) (rowMax x (ix3 b h q)) (Finset.univ.fold max (⊥ : EReal) fun k : Fin 2048 => x (ix4 b h q k)) := by
  refine (max_row (n0 := 8) (n1 := 6) (n2 := 2048) (n3 := 2048) x _ _ _ b h q).trans ?_
  exact congrArg (fun z : EReal => Finset.univ.fold max z fun k : Fin 2048 => x (ix4 b h q k)) neg_inf

theorem bot_max (z : EReal) : max ⊥ z = z := max_eq_right bot_le

theorem fill_apply (b : Fin 8) (h : Fin 6) (q : Fin 2048) :
    Eq (α := EReal) (broadcastInDim S8x6x2048 ![] bcast_S_S8x6x2048 (constant (F := Ideal) S_ .f32 0xFF800000#32) (ix3 b h q)) ⊥ :=
  Eq.trans rfl neg_inf

theorem maximum_apply {s : Shape} (x y : FVec Ideal s .f32) (i : s.Idx) : Eq (α := EReal) (maximumf x y i) (max (x i : EReal) (y i : EReal)) := rfl

theorem top_step (y : FVec Ideal S8x6x2048 .f32) (b : Fin 8) (h : Fin 6) (q : Fin 2048) :
    Eq (α := EReal) (maximumf (broadcastInDim S8x6x2048 ![] bcast_S_S8x6x2048 (constant (F := Ideal) S_ .f32 0xFF800000#32)) y (ix3 b h q)) (y (ix3 b h q)) := by
  refine (maximum_apply _ y (ix3 b h q)).trans ?_
  rw [fill_apply]
  exact bot_max _

theorem rowTop_apply (x : FVec Ideal S8x6x2048x2048 .f32) (b : Fin 8) (h : Fin 6) (q : Fin 2048) :
    Eq (α := EReal) (rowTop x (ix3 b h q)) (Finset.univ.fold max (⊥ : EReal) fun k : Fin 2048 => x (ix4 b h q k)) :=
  (top_step (rowMax x) b h q).trans (rowMax_apply x b h q)

theorem weights_apply (x : FVec Ideal S8x6x2048x2048 .f32) (b : Fin 8) (h : Fin 6) (q t : Fin 2048) :
    Eq (α := EReal) (weights x (ix4 b h q t)) (Ideal.exp (x (ix4 b h q t) - rowTop x (ix3 b h q))) := by
  generalize hy : rowTop x = y
  unfold weights
  rw [hy]
  pointwise []

theorem shares_apply (w : FVec Ideal S8x6x2048x2048 .f32) (b : Fin 8) (h : Fin 6) (q t : Fin 2048) :
    Eq (α := EReal) (shares w (ix4 b h q t)) (Ideal.div (w (ix4 b h q t)) (∑ u : Fin 2048, w (ix4 b h q u))) := by
  pointwise [shares]

theorem mixed_apply (a1 : FVec Ideal S2x8x768x2048 .f32) (p : FVec Ideal S8x6x2048x2048 .f32) (b : Fin 8) (T : Fin 2048) (d : Fin 384) :
    Eq (α := EReal) (mixed a1 p (ix3 b T d)) (∑ t : Fin 2048, a1 (ix4 0 b ⟨384 + d.val, by omega⟩ t) * p (ix4 b ⟨d.val / 64, by omega⟩ T t)) := by
  pointwise [mixed]

theorem res_eq (m : (ℓ : Loc nD τ sig) → Buf (Elt Ideal) ℓ) (c : Dev nD) :
    Value.res_main_v38 m c = mixed (m ((c.tc : Thread nD τ).loc main_arg1)) (shares (weights (scores (m ((c.tc : Thread nD τ).loc main_arg0)) (m ((c.tc : Thread nD τ).loc main_arg2))))) := rfl

end Cert.ReferenceIdeal.Fox

end
-- ==== Proof.Equation.lean ====
/- The equation: the reference's result is the kernel's. -/
module

public import proofs.«01_k».proof.Proof.Fold
public import proofs.«01_k».proof.Proof.RefValue

@[expose] public section

set_option maxRecDepth 16384

noncomputable section

namespace Cert.Proof

open Idealize.ShloMosaic Idealize.ShloMosaic.TcCoe Cert.KernelIdeal Cert.KernelIdeal.Gen Cert.KernelIdeal.Fox Cert.Flash
open Cert.ReferenceIdeal.Fox (scores weights shares mixed)

theorem fold_top (n : ℕ) (f : Fin n → EReal) (s : ℕ → EReal) (h : ∀ k : Fin n, f k = s k.val) : Finset.univ.fold max (⊥ : EReal) f = top s n := by
  show Finset.univ.sup f = (Finset.range n).sup s
  refine le_antisymm (Finset.sup_le fun k _ => ?_) (Finset.sup_le fun t ht => ?_)
  · rw [h k]
    exact Finset.le_sup (f := s) (Finset.mem_range.2 k.isLt)
  · rw [← h ⟨t, Finset.mem_range.1 ht⟩]
    exact Finset.le_sup (f := f) (Finset.mem_univ _)

theorem sum_fin (n : ℕ) (f : Fin n → EReal) (s : ℕ → EReal) (h : ∀ k : Fin n, f k = s k.val) : ∑ k : Fin n, f k = ∑ t ∈ Finset.range n, s t :=
  (Finset.sum_congr rfl fun k _ => h k).trans (Fin.sum_univ_eq_sum_range s n)

theorem word_sle {a b : ℕ} (ha : a < 2 ^ 31) (hb : b < 2 ^ 31) : IntOp.cmpi .sle (BitVec.ofNat 32 a) (BitVec.ofNat 32 b) = if a ≤ b then 1#1 else 0#1 := by
  simp only [IntOp.cmpi, BitVec.sle, word_toInt ha, word_toInt hb, Int.ofNat_le]
  by_cases h : a ≤ b <;> simp [h]

theorem select1 (x y : EReal) : Scalar.select 1#1 x y = x := rfl

theorem select0 (x y : EReal) : Scalar.select 0#1 x y = y := rfl

variable (m : (ℓ : Loc nD τ sig) → Buf (Elt Ideal) ℓ) (c : Dev nD)

/-- The reference's masked score. -/
theorem score_eq (b : Fin 8) (h : Fin 6) (q t : Fin 2048) :
    Eq (α := EReal) (scores (qkvArr m c) (decayArr m c) (ix4 b h q t)) (causal m c b.val h.val q.val t.val) := by
  rw [Cert.ReferenceIdeal.Fox.scores_apply, word_sle (by omega) (by omega)]
  unfold causal
  by_cases e : t.val ≤ q.val
  · rw [if_pos e, if_pos e]
    refine (select1 _ _).trans ?_
    unfold logit score1
    refine congrArg₂ (fun x y : EReal => x - y) (congrArg₂ (fun x y : EReal => x + y) ?_ ?_) ?_
    · refine sum_fin 64 _ _ fun k => ?_
      rw [mul_comm]
      exact congrArg₂ (fun x y : EReal => x * y) (at3_idx _ _ rfl rfl (show 384 + (h.val * 64 + k.val) = 384 + (64 * h.val + k.val) by omega))
        (at3_idx _ _ rfl rfl (show h.val * 64 + k.val = 64 * h.val + k.val by omega))
    · exact at3_idx _ _ rfl rfl rfl
    · exact at3_idx _ _ rfl rfl rfl
  · rw [if_neg e, if_neg e]
    exact (select0 _ _).trans Cert.ReferenceIdeal.Fox.neg_inf

/-- The reference's exponentials. -/
theorem weight_eq (b : Fin 8) (h : Fin 6) (q t : Fin 2048) :
    Eq (α := EReal) (weights (scores (qkvArr m c) (decayArr m c)) (ix4 b h q t))
      (Ideal.exp (causal m c b.val h.val q.val t.val - top (causal m c b.val h.val q.val) 2048)) := by
  rw [Cert.ReferenceIdeal.Fox.weights_apply, Cert.ReferenceIdeal.Fox.rowTop_apply, score_eq,
    fold_top 2048 _ (causal m c b.val h.val q.val) fun k => score_eq m c b h q k]

/-- The reference's result is the attention the kernel computes. -/
theorem reference_eq (b : Fin 8) (T : Fin 2048) (d : Fin 384) :
    Eq (α := EReal) (mixed (rowsArr m c) (shares (weights (scores (qkvArr m c) (decayArr m c)))) (ix3 b T d))
      (attend (causal m c b.val (d.val / 64) T.val) (valueOf m c b.val (d.val / 64) (d.val % 64))) := by
  rw [Cert.ReferenceIdeal.Fox.mixed_apply]
  refine sum_fin 2048 _ _ fun t => ?_
  have hsum := sum_fin 2048 (fun u => weights (scores (qkvArr m c) (decayArr m c)) (ix4 b ⟨d.val / 64, by omega⟩ T u))
    (fun u => Ideal.exp (causal m c b.val (d.val / 64) T.val u - top (causal m c b.val (d.val / 64) T.val) 2048)) (fun u => weight_eq m c b ⟨d.val / 64, by omega⟩ T u)
  have hshare := Cert.ReferenceIdeal.Fox.shares_apply (weights (scores (qkvArr m c) (decayArr m c))) b ⟨d.val / 64, by omega⟩ T t
  have hw := hshare.trans (congrArg₂ Ideal.div (weight_eq m c b ⟨d.val / 64, by omega⟩ T t) hsum)
  refine Eq.trans (congrArg₂ (fun x y : EReal => x * y) rfl hw) ?_
  refine congrArg₂ (fun x y : EReal => x * y) ?_ rfl
  exact at4_idx _ _ rfl rfl (show 384 + d.val = 384 + (64 * (d.val / 64) + d.val % 64) by omega) rfl

end Cert.Proof

end
-- ==== Proof.Finite.lean ====
/- What the precondition says: the entries it names are real numbers. -/
module

public import proofs.«01_k».proof.Proof.Gen.Pre_finite
public import Idealize.ShloMosaic.Lib.ReduceAll
public import Idealize.ShloMosaic.Lib.Pointwise

@[expose] public section

set_option maxRecDepth 16384

noncomputable section

namespace Cert.Pre_finite.Fox

open Cert.Pre_finite Cert.Pre_finite.Gen Idealize.ShloMosaic Idealize.ShloMosaic.TcCoe

theorem pos_inf : Eq (α := EReal) (Ideal.ofBits .f32 0x7F800000#32) ⊤ := by
  simp [Ideal.ofBits, Ideal.ieee]

/-- A value whose magnitude is below `⊤` is real. -/
theorem real_of_abs {x : EReal} (h : Ideal.cmp .olt (max x (-x)) (Ideal.ofBits .f32 0x7F800000#32) = 1#1) : ∃ r : ℝ, x = r := by
  rw [pos_inf] at h
  have hlt := (Ideal.cmp_olt_eq_one _ _).1 h
  rw [max_lt_iff] at hlt
  refine ⟨x.toReal, (EReal.coe_toReal hlt.1.ne ?_).symm⟩
  rintro rfl
  simp at hlt

/-- The precondition: the columns of queries and keys are real, and so are the decays. -/
theorem finite_args (a0 : FVec Ideal S8x2048x2304 .bf16) (a1 : FVec Ideal S2x8x768x2048 .f32) (a2 : FVec Ideal S8x2048x6 .f32)
    (h : Cert.Pre_finite.fn (F := Ideal) a0 a1 a2 = fun _ => 1#1) :
    (∀ (b : Fin 8) (t : Fin 2048) (l : Fin 2304), l.val < 768 → ∃ r : ℝ, Eq (α := EReal) (a0 (ix3 b t l)) r)
      ∧ ∀ (b : Fin 8) (t : Fin 2048) (l : Fin 6), ∃ r : ℝ, Eq (α := EReal) (a2 (ix3 b t l)) r := by
  have h0 := congrFun h ix0
  simp only [Cert.Pre_finite.fn] at h0
  obtain ⟨h1, h2⟩ := IntOp.andi_eq_one.1 h0
  refine ⟨fun b t l hl => ?_, fun b t l => ?_⟩
  · have e := Host.reduce_andi_all _ _ _ _ _ h1 (ix3 b t ⟨l.val, hl⟩)
    have e' : Eq (α := EReal) (extractStridedSlice S8x2048x768 ![0, 0, 0] a0 Facts.slices_S8x2048x2304_S8x2048x768_0_0_0 (ix3 b t ⟨l.val, hl⟩)) (a0 (ix3 b t l)) := by
      pointwise []
    rw [← e']
    exact real_of_abs e
  · exact real_of_abs (Host.reduce_andi_all _ _ _ _ _ h2 (ix3 b t l))

end Cert.Pre_finite.Fox

end
-- ==== Proof.lean ====
module

public import proofs.«01_k».proof.Defs
public import proofs.«01_k».proof.Proof.Gen.KernelIdeal.Value
public import proofs.«01_k».proof.Proof.Gen.Pre_finite
public import proofs.«01_k».proof.Proof.Frames
public import proofs.«01_k».proof.Proof.Frames2
public import proofs.«01_k».proof.Proof.Frames4
public import proofs.«01_k».proof.Proof.FfnClaim
public import proofs.«01_k».proof.Proof.MergeClaim
public import proofs.«01_k».proof.Proof.InprojClaim
public import proofs.«01_k».proof.Proof.Equation
public import proofs.«01_k».proof.Proof.Finite

@[expose] public section

set_option maxRecDepth 16384

noncomputable section

namespace Cert.Proof

open Idealize.ShloMosaic Idealize.ShloMosaic.TcCoe Idealize.SL.Sem Cert.KernelIdeal.Fox

/-- What the kernel leaves is what the reference computes, of arguments the precondition admits. -/
theorem value (m : (ℓ : Loc Cert.KernelIdeal.nD Cert.KernelIdeal.τ Cert.KernelIdeal.sig) → Buf (Elt Ideal) ℓ) (c : Dev Cert.KernelIdeal.nD)
    (hpre : Cert.Pre_finite.fn (F := Ideal) (qkvArr m c) (rowsArr m c) (decayArr m c) = fun _ => 1#1) (i : Cert.KernelIdeal.S8x2048x384.Idx) :
    Eq (α := EReal) (Cert.ReferenceIdeal.Fox.mixed (rowsArr m c) (Cert.ReferenceIdeal.Fox.shares (Cert.ReferenceIdeal.Fox.weights
        (Cert.ReferenceIdeal.Fox.scores (qkvArr m c) (decayArr m c)))) i)
      ((Cert.KernelIdeal.Value.G7 m c : Vec Ideal Cert.KernelIdeal.S8x2048x384 .bf16) i) := by
  obtain ⟨hq, hc⟩ := Cert.Pre_finite.Fox.finite_args _ _ _ hpre
  rw [show i = ix3 (i 0) (i 1) (i 2) from ix3_of_val i rfl rfl rfl]
  exact (reference_eq m c (i 0) (i 1) (i 2)).trans (result_apply m c hc hq (i 0) (i 1) (i 2)).symm

/-- The kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Value.G7 m c, (θ_run Cert.KernelIdeal.defs _ _).mono (fun _ h c => h c) (Cert.KernelIdeal.Value.run m ρ), ?_⟩
  refine (θ_run Cert.ReferenceIdeal.defs _ _).mono (fun _ h c => ⟨(h c).1.trans ?_, (h c).2⟩) (Cert.ReferenceIdeal.Value.run (F := Ideal) m' ρ')
  rw [Cert.ReferenceIdeal.Fox.res_eq, (hagree c).1, (hagree c).2.1, (hagree c).2.2]
  exact funext fun i => value m c (hpre c) i

/-- Everything that is claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
    frame_p, frame_pi, fun m ρ _ => frame_pi m ρ trivial, frame_ri, fun m ρ _ => frame_ri m ρ trivial,
    frame_p2, frame_pi2, frame_ri2, frame_p3, frame_pi3, frame_ri3, frame_p4, frame_pi4, frame_ri4,
    preserves, algebraic, trivial, algebraic2, trivial, algebraic3, trivial, algebraic4⟩

end Cert.Proof

end
